-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x4096 : Shape := ⟨3, ![1, 16384, 4096]⟩
abbrev S4096x7168 : Shape := ⟨2, ![4096, 7168]⟩
abbrev S4096x224 : Shape := ⟨2, ![4096, 224]⟩
abbrev S3584 : Shape := ⟨1, ![3584]⟩
abbrev S1 : Shape := ⟨1, ![1]⟩
abbrev S512x7 : Shape := ⟨2, ![512, 7]⟩
abbrev S7x512 : Shape := ⟨2, ![7, 512]⟩
abbrev S1x512 : Shape := ⟨2, ![1, 512]⟩
abbrev S8x512 : Shape := ⟨2, ![8, 512]⟩
abbrev S16384x4096 : Shape := ⟨2, ![16384, 4096]⟩
abbrev S16384x14336 : Shape := ⟨2, ![16384, 14336]⟩
abbrev S1024x4096 : Shape := ⟨2, ![1024, 4096]⟩
abbrev S4096x512 : Shape := ⟨2, ![4096, 512]⟩
abbrev S256x512 : Shape := ⟨2, ![256, 512]⟩
abbrev S4096x256 : Shape := ⟨2, ![4096, 256]⟩
abbrev S256x256 : Shape := ⟨2, ![256, 256]⟩
abbrev S1024x1024 : Shape := ⟨2, ![1024, 1024]⟩
abbrev S4096x1024 : Shape := ⟨2, ![4096, 1024]⟩
abbrev S64x128 : Shape := ⟨2, ![64, 128]⟩
abbrev S8x128 : Shape := ⟨2, ![8, 128]⟩
abbrev S8x128x1 : Shape := ⟨3, ![8, 128, 1]⟩
abbrev S64x512 : Shape := ⟨2, ![64, 512]⟩
abbrev S16x128 : Shape := ⟨2, ![16, 128]⟩
abbrev S16x128x1 : Shape := ⟨3, ![16, 128, 1]⟩
abbrev S64x128x1 : Shape := ⟨3, ![64, 128, 1]⟩
abbrev S64x1024 : Shape := ⟨2, ![64, 1024]⟩
abbrev S1024x512 : Shape := ⟨2, ![1024, 512]⟩
abbrev S1x16384x14336 : Shape := ⟨3, ![1, 16384, 14336]⟩

abbrev nBuf : Space → Nat
  | .hbm => 14
  | .vmem => 14
  | .smem => 1
  | _ => 0

abbrev bufTy : (tb : Table) → Fin (tcTables nBuf tb) → BufTy
  | .hbm, ⟨0, _⟩ => ⟨S1x16384x4096, .bf16⟩
  | .hbm, ⟨1, _⟩ => ⟨S4096x7168, .i8⟩
  | .hbm, ⟨2, _⟩ => ⟨S4096x224, .i8⟩
  | .hbm, ⟨3, _⟩ => ⟨S3584, .f32⟩
  | .hbm, ⟨4, _⟩ => ⟨S1, .f32⟩
  | .hbm, ⟨5, _⟩ => ⟨S512x7, .f32⟩
  | .hbm, ⟨6, _⟩ => ⟨S7x512, .f32⟩
  | .hbm, ⟨7, _⟩ => ⟨S1x512, .f32⟩
  | .hbm, ⟨8, _⟩ => ⟨S8x512, .f32⟩
  | .hbm, ⟨9, _⟩ => ⟨S1x512, .f32⟩
  | .hbm, ⟨10, _⟩ => ⟨S8x512, .f32⟩
  | .hbm, ⟨11, _⟩ => ⟨S16384x4096, .bf16⟩
  | .hbm, ⟨12, _⟩ => ⟨S16384x14336, .bf16⟩
  | .hbm, ⟨13, _⟩ => ⟨S1x16384x14336, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .i8⟩
  | .local _ .vmem, ⟨3, _⟩ => ⟨S256x512, .i8⟩
  | .local _ .vmem, ⟨4, _⟩ => ⟨S256x512, .i8⟩
  | .local _ .vmem, ⟨5, _⟩ => ⟨S4096x256, .i8⟩
  | .local _ .vmem, ⟨6, _⟩ => ⟨S256x256, .i8⟩
  | .local _ .vmem, ⟨7, _⟩ => ⟨S256x256, .i8⟩
  | .local _ .vmem, ⟨8, _⟩ => ⟨S8x512, .f32⟩
  | .local _ .vmem, ⟨9, _⟩ => ⟨S8x512, .f32⟩
  | .local _ .vmem, ⟨10, _⟩ => ⟨S1024x1024, .bf16⟩
  | .local _ .vmem, ⟨11, _⟩ => ⟨S1024x1024, .bf16⟩
  | .local _ .vmem, ⟨12, _⟩ => ⟨S4096x1024, .bf16⟩
  | .local _ .vmem, ⟨13, _⟩ => ⟨S4096x1024, .bf16⟩
  | .local _ .smem, ⟨0, _⟩ => ⟨S1, .f32⟩
  | _, _ => ⟨S1x16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![14, 16], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_17 : BitVec 32 := 0#32
  let c64_i32 : BitVec 32 := 64#32
  let v34 : BitVec 32 := Scalar.addi c0_i32_17 c64_i32
  let c1_i32_18 : BitVec 32 := 1#32
  ⟨c0_i32_17, v34, c1_i32_18⟩
def k0_mult1 (k0_t1 : Fin k0_t1_loop.trips) : BitVec 32 :=
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  v35
def k0_mult2 : BitVec 32 :=
  let c0_i32_21 : BitVec 32 := 0#32
  c0_i32_21
def k0_off1 (k0_t1 : Fin k0_t1_loop.trips) : Fin 2 → Nat :=
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  let v36 : BitVec 32 := v35
  let v38 : Index := Scalar.indexCast v36
  let c0_i32_21 : BitVec 32 := 0#32
  let v37 : BitVec 32 := c0_i32_21
  let v39 : Index := Scalar.indexCast v37
  ![v38.toNat, 0]
def k0_mult3 (k0_t1 : Fin k0_t1_loop.trips) : BitVec 32 :=
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  let v36 : BitVec 32 := v35
  let c0_i32_22 : BitVec 32 := 0#32
  let v42 : BitVec 1 := Scalar.cmpi .sgt v36 c0_i32_22
  let v43 : BitVec 32 := Scalar.extui v42
  let c0_i32_23 : BitVec 32 := 0#32
  let v44 : BitVec 1 := Scalar.cmpi .slt v36 c0_i32_23
  let v45 : BitVec 32 := Scalar.extui v44
  let v46 : BitVec 32 := Scalar.subi v43 v45
  let c8_i32 : BitVec 32 := 8#32
  let c0_i32_24 : BitVec 32 := 0#32
  let v47 : BitVec 1 := Scalar.cmpi .sgt c8_i32 c0_i32_24
  let v48 : BitVec 32 := Scalar.extui v47
  let c0_i32_25 : BitVec 32 := 0#32
  let v49 : BitVec 1 := Scalar.cmpi .slt c8_i32 c0_i32_25
  let v50 : BitVec 32 := Scalar.extui v49
  let v51 : BitVec 32 := Scalar.subi v48 v50
  let v52 : BitVec 1 := Scalar.cmpi .ne v46 v51
  let v53 : BitVec 32 := Scalar.remsi v36 c8_i32
  let c0_i32_26 : BitVec 32 := 0#32
  let v54 : BitVec 1 := Scalar.cmpi .ne v53 c0_i32_26
  let v55 : BitVec 1 := Scalar.andi v52 v54
  let v41 : BitVec 32 := Scalar.divsi v36 c8_i32
  let c1_i32_27 : BitVec 32 := 1#32
  let v56 : BitVec 32 := Scalar.subi v41 c1_i32_27
  let v57 : BitVec 32 := Scalar.select v55 v56 v41
  let c0_i32_28 : BitVec 32 := 0#32
  let v59 : BitVec 1 := Scalar.cmpi .sgt v57 c0_i32_28
  let v60 : BitVec 32 := Scalar.extui v59
  let c0_i32_29 : BitVec 32 := 0#32
  let v61 : BitVec 1 := Scalar.cmpi .slt v57 c0_i32_29
  let v62 : BitVec 32 := Scalar.extui v61
  let v63 : BitVec 32 := Scalar.subi v60 v62
  let c128_i32 : BitVec 32 := 128#32
  let c0_i32_30 : BitVec 32 := 0#32
  let v64 : BitVec 1 := Scalar.cmpi .sgt c128_i32 c0_i32_30
  let v65 : BitVec 32 := Scalar.extui v64
  let c0_i32_31 : BitVec 32 := 0#32
  let v66 : BitVec 1 := Scalar.cmpi .slt c128_i32 c0_i32_31
  let v67 : BitVec 32 := Scalar.extui v66
  let v68 : BitVec 32 := Scalar.subi v65 v67
  let v69 : BitVec 1 := Scalar.cmpi .ne v63 v68
  let v70 : BitVec 32 := Scalar.remsi v57 c128_i32
  let c0_i32_32 : BitVec 32 := 0#32
  let v71 : BitVec 1 := Scalar.cmpi .ne v70 c0_i32_32
  let v72 : BitVec 1 := Scalar.andi v69 v71
  let v58 : BitVec 32 := Scalar.divsi v57 c128_i32
  let c1_i32_33 : BitVec 32 := 1#32
  let v73 : BitVec 32 := Scalar.subi v58 c1_i32_33
  let v74 : BitVec 32 := Scalar.select v72 v73 v58
  let c128_i32_34 : BitVec 32 := 128#32
  let v75 : BitVec 32 := Scalar.muli v74 c128_i32_34
  v75
def k0_off2 (k0_t1 : Fin k0_t1_loop.trips) : Fin 2 → Nat :=
  let c0_35 : Index := 0#32
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  let v36 : BitVec 32 := v35
  let c0_i32_22 : BitVec 32 := 0#32
  let v42 : BitVec 1 := Scalar.cmpi .sgt v36 c0_i32_22
  let v43 : BitVec 32 := Scalar.extui v42
  let c0_i32_23 : BitVec 32 := 0#32
  let v44 : BitVec 1 := Scalar.cmpi .slt v36 c0_i32_23
  let v45 : BitVec 32 := Scalar.extui v44
  let v46 : BitVec 32 := Scalar.subi v43 v45
  let c8_i32 : BitVec 32 := 8#32
  let c0_i32_24 : BitVec 32 := 0#32
  let v47 : BitVec 1 := Scalar.cmpi .sgt c8_i32 c0_i32_24
  let v48 : BitVec 32 := Scalar.extui v47
  let c0_i32_25 : BitVec 32 := 0#32
  let v49 : BitVec 1 := Scalar.cmpi .slt c8_i32 c0_i32_25
  let v50 : BitVec 32 := Scalar.extui v49
  let v51 : BitVec 32 := Scalar.subi v48 v50
  let v52 : BitVec 1 := Scalar.cmpi .ne v46 v51
  let v53 : BitVec 32 := Scalar.remsi v36 c8_i32
  let c0_i32_26 : BitVec 32 := 0#32
  let v54 : BitVec 1 := Scalar.cmpi .ne v53 c0_i32_26
  let v55 : BitVec 1 := Scalar.andi v52 v54
  let v41 : BitVec 32 := Scalar.divsi v36 c8_i32
  let c1_i32_27 : BitVec 32 := 1#32
  let v56 : BitVec 32 := Scalar.subi v41 c1_i32_27
  let v57 : BitVec 32 := Scalar.select v55 v56 v41
  let c0_i32_28 : BitVec 32 := 0#32
  let v59 : BitVec 1 := Scalar.cmpi .sgt v57 c0_i32_28
  let v60 : BitVec 32 := Scalar.extui v59
  let c0_i32_29 : BitVec 32 := 0#32
  let v61 : BitVec 1 := Scalar.cmpi .slt v57 c0_i32_29
  let v62 : BitVec 32 := Scalar.extui v61
  let v63 : BitVec 32 := Scalar.subi v60 v62
  let c128_i32 : BitVec 32 := 128#32
  let c0_i32_30 : BitVec 32 := 0#32
  let v64 : BitVec 1 := Scalar.cmpi .sgt c128_i32 c0_i32_30
  let v65 : BitVec 32 := Scalar.extui v64
  let c0_i32_31 : BitVec 32 := 0#32
  let v66 : BitVec 1 := Scalar.cmpi .slt c128_i32 c0_i32_31
  let v67 : BitVec 32 := Scalar.extui v66
  let v68 : BitVec 32 := Scalar.subi v65 v67
  let v69 : BitVec 1 := Scalar.cmpi .ne v63 v68
  let v70 : BitVec 32 := Scalar.remsi v57 c128_i32
  let c0_i32_32 : BitVec 32 := 0#32
  let v71 : BitVec 1 := Scalar.cmpi .ne v70 c0_i32_32
  let v72 : BitVec 1 := Scalar.andi v69 v71
  let v58 : BitVec 32 := Scalar.divsi v57 c128_i32
  let c1_i32_33 : BitVec 32 := 1#32
  let v73 : BitVec 32 := Scalar.subi v58 c1_i32_33
  let v74 : BitVec 32 := Scalar.select v72 v73 v58
  let c128_i32_34 : BitVec 32 := 128#32
  let v75 : BitVec 32 := Scalar.muli v74 c128_i32_34
  let v76 : BitVec 32 := v75
  let v77 : Index := Scalar.indexCast v76
  ![0, v77.toNat]
def k0_mult4 (k0_t1 : Fin k0_t1_loop.trips) : BitVec 32 :=
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  let v36 : BitVec 32 := v35
  let c0_i32_70 : BitVec 32 := 0#32
  let v188 : BitVec 1 := Scalar.cmpi .sgt v36 c0_i32_70
  let v189 : BitVec 32 := Scalar.extui v188
  let c0_i32_71 : BitVec 32 := 0#32
  let v190 : BitVec 1 := Scalar.cmpi .slt v36 c0_i32_71
  let v191 : BitVec 32 := Scalar.extui v190
  let v192 : BitVec 32 := Scalar.subi v189 v191
  let c8_i32_69 : BitVec 32 := 8#32
  let c0_i32_72 : BitVec 32 := 0#32
  let v193 : BitVec 1 := Scalar.cmpi .sgt c8_i32_69 c0_i32_72
  let v194 : BitVec 32 := Scalar.extui v193
  let c0_i32_73 : BitVec 32 := 0#32
  let v195 : BitVec 1 := Scalar.cmpi .slt c8_i32_69 c0_i32_73
  let v196 : BitVec 32 := Scalar.extui v195
  let v197 : BitVec 32 := Scalar.subi v194 v196
  let v198 : BitVec 1 := Scalar.cmpi .ne v192 v197
  let v199 : BitVec 32 := Scalar.remsi v36 c8_i32_69
  let c0_i32_74 : BitVec 32 := 0#32
  let v200 : BitVec 1 := Scalar.cmpi .ne v199 c0_i32_74
  let v201 : BitVec 1 := Scalar.andi v198 v200
  let v187 : BitVec 32 := Scalar.divsi v36 c8_i32_69
  let c1_i32_75 : BitVec 32 := 1#32
  let v202 : BitVec 32 := Scalar.subi v187 c1_i32_75
  let v203 : BitVec 32 := Scalar.select v201 v202 v187
  let c0_i32_77 : BitVec 32 := 0#32
  let v205 : BitVec 1 := Scalar.cmpi .sgt v203 c0_i32_77
  let v206 : BitVec 32 := Scalar.extui v205
  let c0_i32_78 : BitVec 32 := 0#32
  let v207 : BitVec 1 := Scalar.cmpi .slt v203 c0_i32_78
  let v208 : BitVec 32 := Scalar.extui v207
  let v209 : BitVec 32 := Scalar.subi v206 v208
  let c128_i32_76 : BitVec 32 := 128#32
  let c0_i32_79 : BitVec 32 := 0#32
  let v210 : BitVec 1 := Scalar.cmpi .sgt c128_i32_76 c0_i32_79
  let v211 : BitVec 32 := Scalar.extui v210
  let c0_i32_80 : BitVec 32 := 0#32
  let v212 : BitVec 1 := Scalar.cmpi .slt c128_i32_76 c0_i32_80
  let v213 : BitVec 32 := Scalar.extui v212
  let v214 : BitVec 32 := Scalar.subi v211 v213
  let v215 : BitVec 1 := Scalar.cmpi .ne v209 v214
  let v216 : BitVec 32 := Scalar.remsi v203 c128_i32_76
  let c0_i32_81 : BitVec 32 := 0#32
  let v217 : BitVec 1 := Scalar.cmpi .ne v216 c0_i32_81
  let v218 : BitVec 1 := Scalar.andi v215 v217
  let v204 : BitVec 32 := Scalar.divsi v203 c128_i32_76
  let c1_i32_82 : BitVec 32 := 1#32
  let v219 : BitVec 32 := Scalar.subi v204 c1_i32_82
  let v220 : BitVec 32 := Scalar.select v218 v219 v204
  let c128_i32_83 : BitVec 32 := 128#32
  let v221 : BitVec 32 := Scalar.muli v220 c128_i32_83
  v221
def k0_off3 (k0_t1 : Fin k0_t1_loop.trips) : Fin 2 → Nat :=
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  let v36 : BitVec 32 := v35
  let v333 : Index := Scalar.indexCast v36
  let c0_123 : Index := 0#32
  ![v333.toNat, 0]
def k0_off4 (k0_t1 : Fin k0_t1_loop.trips) : Fin 2 → Nat :=
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  let v36 : BitVec 32 := v35
  let c0_i32_175 : BitVec 32 := 0#32
  ![v36.toNat, 0]
def k0_off5 (k0_t1 : Fin k0_t1_loop.trips) : Fin 2 → Nat :=
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  let v36 : BitVec 32 := v35
  let c0_i32_175 : BitVec 32 := 0#32
  ![v36.toNat, 0]
def k0_off6 (k0_t1 : Fin k0_t1_loop.trips) : Fin 2 → Nat :=
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  let v36 : BitVec 32 := v35
  ![v36.toNat, 128]
def k0_off7 (k0_t1 : Fin k0_t1_loop.trips) : Fin 2 → Nat :=
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  let v36 : BitVec 32 := v35
  ![v36.toNat, 256]
def k0_off8 (k0_t1 : Fin k0_t1_loop.trips) : Fin 2 → Nat :=
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  let v36 : BitVec 32 := v35
  ![v36.toNat, 384]
def k0_off9 (k0_t1 : Fin k0_t1_loop.trips) : Fin 2 → Nat :=
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  let v36 : BitVec 32 := v35
  ![v36.toNat, 512]
def k0_off10 (k0_t1 : Fin k0_t1_loop.trips) : Fin 2 → Nat :=
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  let v36 : BitVec 32 := v35
  ![v36.toNat, 640]
def k0_off11 (k0_t1 : Fin k0_t1_loop.trips) : Fin 2 → Nat :=
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  let v36 : BitVec 32 := v35
  ![v36.toNat, 768]
def k0_off12 (k0_t1 : Fin k0_t1_loop.trips) : Fin 2 → Nat :=
  let c0_i32_17 : BitVec 32 := 0#32
  let c1_i32_18 : BitVec 32 := 1#32
  let arg13 : BitVec 32 := Scf.iv c0_i32_17 c1_i32_18 k0_t1
  let c64_i32_20 : BitVec 32 := 64#32
  let v35 : BitVec 32 := Scalar.muli arg13 c64_i32_20
  let v36 : BitVec 32 := v35
  ![v36.toNat, 896]
def k0_cond2 (i : grid0.Coords) : BitVec 1 :=
  let arg0 : BitVec 32 := BitVec.ofNat 32 (i 0).val
  let c2_i32 : BitVec 32 := 2#32
  let c0_i32_2 : BitVec 32 := 0#32
  let v8 : BitVec 1 := Scalar.cmpi .eq c2_i32 c0_i32_2
  let c1_i32_3 : BitVec 32 := 1#32
  let v9 : BitVec 32 := Scalar.select v8 c1_i32_3 c2_i32
  let v10 : BitVec 32 := Scalar.remsi arg0 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let c0_i32_7 : BitVec 32 := 0#32
  let v18 : BitVec 1 := Scalar.cmpi .eq v17 c0_i32_7
  let v19 : BitVec 32 := Scalar.extui v18
  let c0_i32_8 : BitVec 32 := 0#32
  let v20 : BitVec 1 := Scalar.cmpi .ne v19 c0_i32_8
  v20

def k0_mult5 (i : grid0.Coords) : BitVec 32 :=
  let arg1 : BitVec 32 := BitVec.ofNat 32 (i 1).val
  let c256_i32 : BitVec 32 := 256#32
  let v34 : BitVec 32 := Scalar.muli arg1 c256_i32
  let c0_i32_17 : BitVec 32 := 0#32
  let v35 : BitVec 32 := Scalar.addi v34 c0_i32_17
  v35
def k0_mult6 (i : grid0.Coords) : BitVec 32 :=
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32 : BitVec 32 := 16#32
  let v37 : BitVec 32 := Scalar.muli v7 c16_i32
  let c0_i32_18 : BitVec 32 := 0#32
  let v39 : BitVec 1 := Scalar.cmpi .sgt v37 c0_i32_18
  let v40 : BitVec 32 := Scalar.extui v39
  let c0_i32_19 : BitVec 32 := 0#32
  let v41 : BitVec 1 := Scalar.cmpi .slt v37 c0_i32_19
  let v42 : BitVec 32 := Scalar.extui v41
  let v43 : BitVec 32 := Scalar.subi v40 v42
  let c128_i32 : BitVec 32 := 128#32
  let c0_i32_20 : BitVec 32 := 0#32
  let v44 : BitVec 1 := Scalar.cmpi .sgt c128_i32 c0_i32_20
  let v45 : BitVec 32 := Scalar.extui v44
  let c0_i32_21 : BitVec 32 := 0#32
  let v46 : BitVec 1 := Scalar.cmpi .slt c128_i32 c0_i32_21
  let v47 : BitVec 32 := Scalar.extui v46
  let v48 : BitVec 32 := Scalar.subi v45 v47
  let v49 : BitVec 1 := Scalar.cmpi .ne v43 v48
  let v50 : BitVec 32 := Scalar.remsi v37 c128_i32
  let c0_i32_22 : BitVec 32 := 0#32
  let v51 : BitVec 1 := Scalar.cmpi .ne v50 c0_i32_22
  let v52 : BitVec 1 := Scalar.andi v49 v51
  let v38 : BitVec 32 := Scalar.divsi v37 c128_i32
  let c1_i32_23 : BitVec 32 := 1#32
  let v53 : BitVec 32 := Scalar.subi v38 c1_i32_23
  let v54 : BitVec 32 := Scalar.select v52 v53 v38
  let c128_i32_24 : BitVec 32 := 128#32
  let v55 : BitVec 32 := Scalar.muli v54 c128_i32_24
  v55
def k0_off13 (i : grid0.Coords) : Fin 2 → Nat :=
  let c0_25 : Index := 0#32
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32 : BitVec 32 := 16#32
  let v37 : BitVec 32 := Scalar.muli v7 c16_i32
  let c0_i32_18 : BitVec 32 := 0#32
  let v39 : BitVec 1 := Scalar.cmpi .sgt v37 c0_i32_18
  let v40 : BitVec 32 := Scalar.extui v39
  let c0_i32_19 : BitVec 32 := 0#32
  let v41 : BitVec 1 := Scalar.cmpi .slt v37 c0_i32_19
  let v42 : BitVec 32 := Scalar.extui v41
  let v43 : BitVec 32 := Scalar.subi v40 v42
  let c128_i32 : BitVec 32 := 128#32
  let c0_i32_20 : BitVec 32 := 0#32
  let v44 : BitVec 1 := Scalar.cmpi .sgt c128_i32 c0_i32_20
  let v45 : BitVec 32 := Scalar.extui v44
  let c0_i32_21 : BitVec 32 := 0#32
  let v46 : BitVec 1 := Scalar.cmpi .slt c128_i32 c0_i32_21
  let v47 : BitVec 32 := Scalar.extui v46
  let v48 : BitVec 32 := Scalar.subi v45 v47
  let v49 : BitVec 1 := Scalar.cmpi .ne v43 v48
  let v50 : BitVec 32 := Scalar.remsi v37 c128_i32
  let c0_i32_22 : BitVec 32 := 0#32
  let v51 : BitVec 1 := Scalar.cmpi .ne v50 c0_i32_22
  let v52 : BitVec 1 := Scalar.andi v49 v51
  let v38 : BitVec 32 := Scalar.divsi v37 c128_i32
  let c1_i32_23 : BitVec 32 := 1#32
  let v53 : BitVec 32 := Scalar.subi v38 c1_i32_23
  let v54 : BitVec 32 := Scalar.select v52 v53 v38
  let c128_i32_24 : BitVec 32 := 128#32
  let v55 : BitVec 32 := Scalar.muli v54 c128_i32_24
  let v56 : BitVec 32 := v55
  let v57 : Index := Scalar.indexCast v56
  ![0, v57.toNat]
def k0_mult7 (i : grid0.Coords) : BitVec 32 :=
  let arg1 : BitVec 32 := BitVec.ofNat 32 (i 1).val
  let c256_i32 : BitVec 32 := 256#32
  let v34 : BitVec 32 := Scalar.muli arg1 c256_i32
  let c0_i32_17 : BitVec 32 := 0#32
  let v35 : BitVec 32 := Scalar.addi v34 c0_i32_17
  let v36 : BitVec 32 := v35
  let c0_i32_26 : BitVec 32 := 0#32
  let v60 : BitVec 1 := Scalar.cmpi .sgt v36 c0_i32_26
  let v61 : BitVec 32 := Scalar.extui v60
  let c0_i32_27 : BitVec 32 := 0#32
  let v62 : BitVec 1 := Scalar.cmpi .slt v36 c0_i32_27
  let v63 : BitVec 32 := Scalar.extui v62
  let v64 : BitVec 32 := Scalar.subi v61 v63
  let c8_i32 : BitVec 32 := 8#32
  let c0_i32_28 : BitVec 32 := 0#32
  let v65 : BitVec 1 := Scalar.cmpi .sgt c8_i32 c0_i32_28
  let v66 : BitVec 32 := Scalar.extui v65
  let c0_i32_29 : BitVec 32 := 0#32
  let v67 : BitVec 1 := Scalar.cmpi .slt c8_i32 c0_i32_29
  let v68 : BitVec 32 := Scalar.extui v67
  let v69 : BitVec 32 := Scalar.subi v66 v68
  let v70 : BitVec 1 := Scalar.cmpi .ne v64 v69
  let v71 : BitVec 32 := Scalar.remsi v36 c8_i32
  let c0_i32_30 : BitVec 32 := 0#32
  let v72 : BitVec 1 := Scalar.cmpi .ne v71 c0_i32_30
  let v73 : BitVec 1 := Scalar.andi v70 v72
  let v59 : BitVec 32 := Scalar.divsi v36 c8_i32
  let c1_i32_31 : BitVec 32 := 1#32
  let v74 : BitVec 32 := Scalar.subi v59 c1_i32_31
  let v75 : BitVec 32 := Scalar.select v73 v74 v59
  let c0_i32_33 : BitVec 32 := 0#32
  let v77 : BitVec 1 := Scalar.cmpi .sgt v75 c0_i32_33
  let v78 : BitVec 32 := Scalar.extui v77
  let c0_i32_34 : BitVec 32 := 0#32
  let v79 : BitVec 1 := Scalar.cmpi .slt v75 c0_i32_34
  let v80 : BitVec 32 := Scalar.extui v79
  let v81 : BitVec 32 := Scalar.subi v78 v80
  let c128_i32_32 : BitVec 32 := 128#32
  let c0_i32_35 : BitVec 32 := 0#32
  let v82 : BitVec 1 := Scalar.cmpi .sgt c128_i32_32 c0_i32_35
  let v83 : BitVec 32 := Scalar.extui v82
  let c0_i32_36 : BitVec 32 := 0#32
  let v84 : BitVec 1 := Scalar.cmpi .slt c128_i32_32 c0_i32_36
  let v85 : BitVec 32 := Scalar.extui v84
  let v86 : BitVec 32 := Scalar.subi v83 v85
  let v87 : BitVec 1 := Scalar.cmpi .ne v81 v86
  let v88 : BitVec 32 := Scalar.remsi v75 c128_i32_32
  let c0_i32_37 : BitVec 32 := 0#32
  let v89 : BitVec 1 := Scalar.cmpi .ne v88 c0_i32_37
  let v90 : BitVec 1 := Scalar.andi v87 v89
  let v76 : BitVec 32 := Scalar.divsi v75 c128_i32_32
  let c1_i32_38 : BitVec 32 := 1#32
  let v91 : BitVec 32 := Scalar.subi v76 c1_i32_38
  let v92 : BitVec 32 := Scalar.select v90 v91 v76
  let c128_i32_39 : BitVec 32 := 128#32
  let v93 : BitVec 32 := Scalar.muli v92 c128_i32_39
  v93
def k0_off14 (i : grid0.Coords) (c0_i32_17 : BitVec 32) : Fin 2 → Nat :=
  let c0_40 : Index := 0#32
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  let c0_i32_26 : BitVec 32 := 0#32
  let v60 : BitVec 1 := Scalar.cmpi .sgt v36 c0_i32_26
  let v61 : BitVec 32 := Scalar.extui v60
  let c0_i32_27 : BitVec 32 := 0#32
  let v62 : BitVec 1 := Scalar.cmpi .slt v36 c0_i32_27
  let v63 : BitVec 32 := Scalar.extui v62
  let v64 : BitVec 32 := Scalar.subi v61 v63
  let c8_i32 : BitVec 32 := 8#32
  let c0_i32_28 : BitVec 32 := 0#32
  let v65 : BitVec 1 := Scalar.cmpi .sgt c8_i32 c0_i32_28
  let v66 : BitVec 32 := Scalar.extui v65
  let c0_i32_29 : BitVec 32 := 0#32
  let v67 : BitVec 1 := Scalar.cmpi .slt c8_i32 c0_i32_29
  let v68 : BitVec 32 := Scalar.extui v67
  let v69 : BitVec 32 := Scalar.subi v66 v68
  let v70 : BitVec 1 := Scalar.cmpi .ne v64 v69
  let v71 : BitVec 32 := Scalar.remsi v36 c8_i32
  let c0_i32_30 : BitVec 32 := 0#32
  let v72 : BitVec 1 := Scalar.cmpi .ne v71 c0_i32_30
  let v73 : BitVec 1 := Scalar.andi v70 v72
  let v59 : BitVec 32 := Scalar.divsi v36 c8_i32
  let c1_i32_31 : BitVec 32 := 1#32
  let v74 : BitVec 32 := Scalar.subi v59 c1_i32_31
  let v75 : BitVec 32 := Scalar.select v73 v74 v59
  let c0_i32_33 : BitVec 32 := 0#32
  let v77 : BitVec 1 := Scalar.cmpi .sgt v75 c0_i32_33
  let v78 : BitVec 32 := Scalar.extui v77
  let c0_i32_34 : BitVec 32 := 0#32
  let v79 : BitVec 1 := Scalar.cmpi .slt v75 c0_i32_34
  let v80 : BitVec 32 := Scalar.extui v79
  let v81 : BitVec 32 := Scalar.subi v78 v80
  let c128_i32_32 : BitVec 32 := 128#32
  let c0_i32_35 : BitVec 32 := 0#32
  let v82 : BitVec 1 := Scalar.cmpi .sgt c128_i32_32 c0_i32_35
  let v83 : BitVec 32 := Scalar.extui v82
  let c0_i32_36 : BitVec 32 := 0#32
  let v84 : BitVec 1 := Scalar.cmpi .slt c128_i32_32 c0_i32_36
  let v85 : BitVec 32 := Scalar.extui v84
  let v86 : BitVec 32 := Scalar.subi v83 v85
  let v87 : BitVec 1 := Scalar.cmpi .ne v81 v86
  let v88 : BitVec 32 := Scalar.remsi v75 c128_i32_32
  let c0_i32_37 : BitVec 32 := 0#32
  let v89 : BitVec 1 := Scalar.cmpi .ne v88 c0_i32_37
  let v90 : BitVec 1 := Scalar.andi v87 v89
  let v76 : BitVec 32 := Scalar.divsi v75 c128_i32_32
  let c1_i32_38 : BitVec 32 := 1#32
  let v91 : BitVec 32 := Scalar.subi v76 c1_i32_38
  let v92 : BitVec 32 := Scalar.select v90 v91 v76
  let c128_i32_39 : BitVec 32 := 128#32
  let v93 : BitVec 32 := Scalar.muli v92 c128_i32_39
  let v94 : BitVec 32 := v93
  let v95 : Index := Scalar.indexCast v94
  ![0, v95.toNat]
def k0_mult8 (i : grid0.Coords) : BitVec 32 :=
  let arg1 : BitVec 32 := BitVec.ofNat 32 (i 1).val
  let c256_i32 : BitVec 32 := 256#32
  let v34 : BitVec 32 := Scalar.muli arg1 c256_i32
  let c0_i32_17 : BitVec 32 := 0#32
  let v35 : BitVec 32 := Scalar.addi v34 c0_i32_17
  let v36 : BitVec 32 := v35
  let c0_i32_75 : BitVec 32 := 0#32
  let v206 : BitVec 1 := Scalar.cmpi .sgt v36 c0_i32_75
  let v207 : BitVec 32 := Scalar.extui v206
  let c0_i32_76 : BitVec 32 := 0#32
  let v208 : BitVec 1 := Scalar.cmpi .slt v36 c0_i32_76
  let v209 : BitVec 32 := Scalar.extui v208
  let v210 : BitVec 32 := Scalar.subi v207 v209
  let c8_i32_74 : BitVec 32 := 8#32
  let c0_i32_77 : BitVec 32 := 0#32
  let v211 : BitVec 1 := Scalar.cmpi .sgt c8_i32_74 c0_i32_77
  let v212 : BitVec 32 := Scalar.extui v211
  let c0_i32_78 : BitVec 32 := 0#32
  let v213 : BitVec 1 := Scalar.cmpi .slt c8_i32_74 c0_i32_78
  let v214 : BitVec 32 := Scalar.extui v213
  let v215 : BitVec 32 := Scalar.subi v212 v214
  let v216 : BitVec 1 := Scalar.cmpi .ne v210 v215
  let v217 : BitVec 32 := Scalar.remsi v36 c8_i32_74
  let c0_i32_79 : BitVec 32 := 0#32
  let v218 : BitVec 1 := Scalar.cmpi .ne v217 c0_i32_79
  let v219 : BitVec 1 := Scalar.andi v216 v218
  let v205 : BitVec 32 := Scalar.divsi v36 c8_i32_74
  let c1_i32_80 : BitVec 32 := 1#32
  let v220 : BitVec 32 := Scalar.subi v205 c1_i32_80
  let v221 : BitVec 32 := Scalar.select v219 v220 v205
  let c0_i32_82 : BitVec 32 := 0#32
  let v223 : BitVec 1 := Scalar.cmpi .sgt v221 c0_i32_82
  let v224 : BitVec 32 := Scalar.extui v223
  let c0_i32_83 : BitVec 32 := 0#32
  let v225 : BitVec 1 := Scalar.cmpi .slt v221 c0_i32_83
  let v226 : BitVec 32 := Scalar.extui v225
  let v227 : BitVec 32 := Scalar.subi v224 v226
  let c128_i32_81 : BitVec 32 := 128#32
  let c0_i32_84 : BitVec 32 := 0#32
  let v228 : BitVec 1 := Scalar.cmpi .sgt c128_i32_81 c0_i32_84
  let v229 : BitVec 32 := Scalar.extui v228
  let c0_i32_85 : BitVec 32 := 0#32
  let v230 : BitVec 1 := Scalar.cmpi .slt c128_i32_81 c0_i32_85
  let v231 : BitVec 32 := Scalar.extui v230
  let v232 : BitVec 32 := Scalar.subi v229 v231
  let v233 : BitVec 1 := Scalar.cmpi .ne v227 v232
  let v234 : BitVec 32 := Scalar.remsi v221 c128_i32_81
  let c0_i32_86 : BitVec 32 := 0#32
  let v235 : BitVec 1 := Scalar.cmpi .ne v234 c0_i32_86
  let v236 : BitVec 1 := Scalar.andi v233 v235
  let v222 : BitVec 32 := Scalar.divsi v221 c128_i32_81
  let c1_i32_87 : BitVec 32 := 1#32
  let v237 : BitVec 32 := Scalar.subi v222 c1_i32_87
  let v238 : BitVec 32 := Scalar.select v236 v237 v222
  let c128_i32_88 : BitVec 32 := 128#32
  let v239 : BitVec 32 := Scalar.muli v238 c128_i32_88
  v239
def k0_off15 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  let c0_i32_195 : BitVec 32 := 0#32
  ![v36.toNat, 0]
def k0_off16 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  let c0_i32_195 : BitVec 32 := 0#32
  ![v36.toNat, 0]
def k0_off17 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  ![v36.toNat, 128]
def k0_off18 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  ![v36.toNat, 256]
def k0_off19 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  ![v36.toNat, 384]
def k0_off20 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  ![v36.toNat, 512]
def k0_off21 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  ![v36.toNat, 640]
def k0_off22 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  ![v36.toNat, 768]
def k0_off23 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  ![v36.toNat, 896]
def k0_mult9 (i : grid0.Coords) : BitVec 32 :=
  let arg1 : BitVec 32 := BitVec.ofNat 32 (i 1).val
  let c256_i32 : BitVec 32 := 256#32
  let v34 : BitVec 32 := Scalar.muli arg1 c256_i32
  let c64_i32_475 : BitVec 32 := 64#32
  let v1285 : BitVec 32 := Scalar.addi v34 c64_i32_475
  v1285
def k0_mult10 (i : grid0.Coords) : BitVec 32 :=
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32_476 : BitVec 32 := 16#32
  let v1287 : BitVec 32 := Scalar.muli v7 c16_i32_476
  let c0_i32_478 : BitVec 32 := 0#32
  let v1289 : BitVec 1 := Scalar.cmpi .sgt v1287 c0_i32_478
  let v1290 : BitVec 32 := Scalar.extui v1289
  let c0_i32_479 : BitVec 32 := 0#32
  let v1291 : BitVec 1 := Scalar.cmpi .slt v1287 c0_i32_479
  let v1292 : BitVec 32 := Scalar.extui v1291
  let v1293 : BitVec 32 := Scalar.subi v1290 v1292
  let c128_i32_477 : BitVec 32 := 128#32
  let c0_i32_480 : BitVec 32 := 0#32
  let v1294 : BitVec 1 := Scalar.cmpi .sgt c128_i32_477 c0_i32_480
  let v1295 : BitVec 32 := Scalar.extui v1294
  let c0_i32_481 : BitVec 32 := 0#32
  let v1296 : BitVec 1 := Scalar.cmpi .slt c128_i32_477 c0_i32_481
  let v1297 : BitVec 32 := Scalar.extui v1296
  let v1298 : BitVec 32 := Scalar.subi v1295 v1297
  let v1299 : BitVec 1 := Scalar.cmpi .ne v1293 v1298
  let v1300 : BitVec 32 := Scalar.remsi v1287 c128_i32_477
  let c0_i32_482 : BitVec 32 := 0#32
  let v1301 : BitVec 1 := Scalar.cmpi .ne v1300 c0_i32_482
  let v1302 : BitVec 1 := Scalar.andi v1299 v1301
  let v1288 : BitVec 32 := Scalar.divsi v1287 c128_i32_477
  let c1_i32_483 : BitVec 32 := 1#32
  let v1303 : BitVec 32 := Scalar.subi v1288 c1_i32_483
  let v1304 : BitVec 32 := Scalar.select v1302 v1303 v1288
  let c128_i32_484 : BitVec 32 := 128#32
  let v1305 : BitVec 32 := Scalar.muli v1304 c128_i32_484
  v1305
def k0_off24 (i : grid0.Coords) : Fin 2 → Nat :=
  let c64 : Index := 64#32
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32_476 : BitVec 32 := 16#32
  let v1287 : BitVec 32 := Scalar.muli v7 c16_i32_476
  let c0_i32_478 : BitVec 32 := 0#32
  let v1289 : BitVec 1 := Scalar.cmpi .sgt v1287 c0_i32_478
  let v1290 : BitVec 32 := Scalar.extui v1289
  let c0_i32_479 : BitVec 32 := 0#32
  let v1291 : BitVec 1 := Scalar.cmpi .slt v1287 c0_i32_479
  let v1292 : BitVec 32 := Scalar.extui v1291
  let v1293 : BitVec 32 := Scalar.subi v1290 v1292
  let c128_i32_477 : BitVec 32 := 128#32
  let c0_i32_480 : BitVec 32 := 0#32
  let v1294 : BitVec 1 := Scalar.cmpi .sgt c128_i32_477 c0_i32_480
  let v1295 : BitVec 32 := Scalar.extui v1294
  let c0_i32_481 : BitVec 32 := 0#32
  let v1296 : BitVec 1 := Scalar.cmpi .slt c128_i32_477 c0_i32_481
  let v1297 : BitVec 32 := Scalar.extui v1296
  let v1298 : BitVec 32 := Scalar.subi v1295 v1297
  let v1299 : BitVec 1 := Scalar.cmpi .ne v1293 v1298
  let v1300 : BitVec 32 := Scalar.remsi v1287 c128_i32_477
  let c0_i32_482 : BitVec 32 := 0#32
  let v1301 : BitVec 1 := Scalar.cmpi .ne v1300 c0_i32_482
  let v1302 : BitVec 1 := Scalar.andi v1299 v1301
  let v1288 : BitVec 32 := Scalar.divsi v1287 c128_i32_477
  let c1_i32_483 : BitVec 32 := 1#32
  let v1303 : BitVec 32 := Scalar.subi v1288 c1_i32_483
  let v1304 : BitVec 32 := Scalar.select v1302 v1303 v1288
  let c128_i32_484 : BitVec 32 := 128#32
  let v1305 : BitVec 32 := Scalar.muli v1304 c128_i32_484
  let v1306 : BitVec 32 := v1305
  let v1307 : Index := Scalar.indexCast v1306
  ![64, v1307.toNat]
def k0_mult11 (i : grid0.Coords) : BitVec 32 :=
  let arg1 : BitVec 32 := BitVec.ofNat 32 (i 1).val
  let c256_i32 : BitVec 32 := 256#32
  let v34 : BitVec 32 := Scalar.muli arg1 c256_i32
  let c64_i32_475 : BitVec 32 := 64#32
  let v1285 : BitVec 32 := Scalar.addi v34 c64_i32_475
  let v1286 : BitVec 32 := v1285
  let c0_i32_486 : BitVec 32 := 0#32
  let v1310 : BitVec 1 := Scalar.cmpi .sgt v1286 c0_i32_486
  let v1311 : BitVec 32 := Scalar.extui v1310
  let c0_i32_487 : BitVec 32 := 0#32
  let v1312 : BitVec 1 := Scalar.cmpi .slt v1286 c0_i32_487
  let v1313 : BitVec 32 := Scalar.extui v1312
  let v1314 : BitVec 32 := Scalar.subi v1311 v1313
  let c8_i32_485 : BitVec 32 := 8#32
  let c0_i32_488 : BitVec 32 := 0#32
  let v1315 : BitVec 1 := Scalar.cmpi .sgt c8_i32_485 c0_i32_488
  let v1316 : BitVec 32 := Scalar.extui v1315
  let c0_i32_489 : BitVec 32 := 0#32
  let v1317 : BitVec 1 := Scalar.cmpi .slt c8_i32_485 c0_i32_489
  let v1318 : BitVec 32 := Scalar.extui v1317
  let v1319 : BitVec 32 := Scalar.subi v1316 v1318
  let v1320 : BitVec 1 := Scalar.cmpi .ne v1314 v1319
  let v1321 : BitVec 32 := Scalar.remsi v1286 c8_i32_485
  let c0_i32_490 : BitVec 32 := 0#32
  let v1322 : BitVec 1 := Scalar.cmpi .ne v1321 c0_i32_490
  let v1323 : BitVec 1 := Scalar.andi v1320 v1322
  let v1309 : BitVec 32 := Scalar.divsi v1286 c8_i32_485
  let c1_i32_491 : BitVec 32 := 1#32
  let v1324 : BitVec 32 := Scalar.subi v1309 c1_i32_491
  let v1325 : BitVec 32 := Scalar.select v1323 v1324 v1309
  let c0_i32_493 : BitVec 32 := 0#32
  let v1327 : BitVec 1 := Scalar.cmpi .sgt v1325 c0_i32_493
  let v1328 : BitVec 32 := Scalar.extui v1327
  let c0_i32_494 : BitVec 32 := 0#32
  let v1329 : BitVec 1 := Scalar.cmpi .slt v1325 c0_i32_494
  let v1330 : BitVec 32 := Scalar.extui v1329
  let v1331 : BitVec 32 := Scalar.subi v1328 v1330
  let c128_i32_492 : BitVec 32 := 128#32
  let c0_i32_495 : BitVec 32 := 0#32
  let v1332 : BitVec 1 := Scalar.cmpi .sgt c128_i32_492 c0_i32_495
  let v1333 : BitVec 32 := Scalar.extui v1332
  let c0_i32_496 : BitVec 32 := 0#32
  let v1334 : BitVec 1 := Scalar.cmpi .slt c128_i32_492 c0_i32_496
  let v1335 : BitVec 32 := Scalar.extui v1334
  let v1336 : BitVec 32 := Scalar.subi v1333 v1335
  let v1337 : BitVec 1 := Scalar.cmpi .ne v1331 v1336
  let v1338 : BitVec 32 := Scalar.remsi v1325 c128_i32_492
  let c0_i32_497 : BitVec 32 := 0#32
  let v1339 : BitVec 1 := Scalar.cmpi .ne v1338 c0_i32_497
  let v1340 : BitVec 1 := Scalar.andi v1337 v1339
  let v1326 : BitVec 32 := Scalar.divsi v1325 c128_i32_492
  let c1_i32_498 : BitVec 32 := 1#32
  let v1341 : BitVec 32 := Scalar.subi v1326 c1_i32_498
  let v1342 : BitVec 32 := Scalar.select v1340 v1341 v1326
  let c128_i32_499 : BitVec 32 := 128#32
  let v1343 : BitVec 32 := Scalar.muli v1342 c128_i32_499
  v1343
def k0_mult12 (i : grid0.Coords) : BitVec 32 :=
  let arg1 : BitVec 32 := BitVec.ofNat 32 (i 1).val
  let c256_i32 : BitVec 32 := 256#32
  let v34 : BitVec 32 := Scalar.muli arg1 c256_i32
  let c64_i32_475 : BitVec 32 := 64#32
  let v1285 : BitVec 32 := Scalar.addi v34 c64_i32_475
  let v1286 : BitVec 32 := v1285
  let c0_i32_540 : BitVec 32 := 0#32
  let v1456 : BitVec 1 := Scalar.cmpi .sgt v1286 c0_i32_540
  let v1457 : BitVec 32 := Scalar.extui v1456
  let c0_i32_541 : BitVec 32 := 0#32
  let v1458 : BitVec 1 := Scalar.cmpi .slt v1286 c0_i32_541
  let v1459 : BitVec 32 := Scalar.extui v1458
  let v1460 : BitVec 32 := Scalar.subi v1457 v1459
  let c8_i32_539 : BitVec 32 := 8#32
  let c0_i32_542 : BitVec 32 := 0#32
  let v1461 : BitVec 1 := Scalar.cmpi .sgt c8_i32_539 c0_i32_542
  let v1462 : BitVec 32 := Scalar.extui v1461
  let c0_i32_543 : BitVec 32 := 0#32
  let v1463 : BitVec 1 := Scalar.cmpi .slt c8_i32_539 c0_i32_543
  let v1464 : BitVec 32 := Scalar.extui v1463
  let v1465 : BitVec 32 := Scalar.subi v1462 v1464
  let v1466 : BitVec 1 := Scalar.cmpi .ne v1460 v1465
  let v1467 : BitVec 32 := Scalar.remsi v1286 c8_i32_539
  let c0_i32_544 : BitVec 32 := 0#32
  let v1468 : BitVec 1 := Scalar.cmpi .ne v1467 c0_i32_544
  let v1469 : BitVec 1 := Scalar.andi v1466 v1468
  let v1455 : BitVec 32 := Scalar.divsi v1286 c8_i32_539
  let c1_i32_545 : BitVec 32 := 1#32
  let v1470 : BitVec 32 := Scalar.subi v1455 c1_i32_545
  let v1471 : BitVec 32 := Scalar.select v1469 v1470 v1455
  let c0_i32_547 : BitVec 32 := 0#32
  let v1473 : BitVec 1 := Scalar.cmpi .sgt v1471 c0_i32_547
  let v1474 : BitVec 32 := Scalar.extui v1473
  let c0_i32_548 : BitVec 32 := 0#32
  let v1475 : BitVec 1 := Scalar.cmpi .slt v1471 c0_i32_548
  let v1476 : BitVec 32 := Scalar.extui v1475
  let v1477 : BitVec 32 := Scalar.subi v1474 v1476
  let c128_i32_546 : BitVec 32 := 128#32
  let c0_i32_549 : BitVec 32 := 0#32
  let v1478 : BitVec 1 := Scalar.cmpi .sgt c128_i32_546 c0_i32_549
  let v1479 : BitVec 32 := Scalar.extui v1478
  let c0_i32_550 : BitVec 32 := 0#32
  let v1480 : BitVec 1 := Scalar.cmpi .slt c128_i32_546 c0_i32_550
  let v1481 : BitVec 32 := Scalar.extui v1480
  let v1482 : BitVec 32 := Scalar.subi v1479 v1481
  let v1483 : BitVec 1 := Scalar.cmpi .ne v1477 v1482
  let v1484 : BitVec 32 := Scalar.remsi v1471 c128_i32_546
  let c0_i32_551 : BitVec 32 := 0#32
  let v1485 : BitVec 1 := Scalar.cmpi .ne v1484 c0_i32_551
  let v1486 : BitVec 1 := Scalar.andi v1483 v1485
  let v1472 : BitVec 32 := Scalar.divsi v1471 c128_i32_546
  let c1_i32_552 : BitVec 32 := 1#32
  let v1487 : BitVec 32 := Scalar.subi v1472 c1_i32_552
  let v1488 : BitVec 32 := Scalar.select v1486 v1487 v1472
  let c128_i32_553 : BitVec 32 := 128#32
  let v1489 : BitVec 32 := Scalar.muli v1488 c128_i32_553
  v1489
def k0_mult13 (i : grid0.Coords) : BitVec 32 :=
  let arg1 : BitVec 32 := BitVec.ofNat 32 (i 1).val
  let c256_i32 : BitVec 32 := 256#32
  let v34 : BitVec 32 := Scalar.muli arg1 c256_i32
  let c128_i32_966 : BitVec 32 := 128#32
  let v2541 : BitVec 32 := Scalar.addi v34 c128_i32_966
  v2541
def k0_mult14 (i : grid0.Coords) : BitVec 32 :=
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32_967 : BitVec 32 := 16#32
  let v2543 : BitVec 32 := Scalar.muli v7 c16_i32_967
  let c0_i32_969 : BitVec 32 := 0#32
  let v2545 : BitVec 1 := Scalar.cmpi .sgt v2543 c0_i32_969
  let v2546 : BitVec 32 := Scalar.extui v2545
  let c0_i32_970 : BitVec 32 := 0#32
  let v2547 : BitVec 1 := Scalar.cmpi .slt v2543 c0_i32_970
  let v2548 : BitVec 32 := Scalar.extui v2547
  let v2549 : BitVec 32 := Scalar.subi v2546 v2548
  let c128_i32_968 : BitVec 32 := 128#32
  let c0_i32_971 : BitVec 32 := 0#32
  let v2550 : BitVec 1 := Scalar.cmpi .sgt c128_i32_968 c0_i32_971
  let v2551 : BitVec 32 := Scalar.extui v2550
  let c0_i32_972 : BitVec 32 := 0#32
  let v2552 : BitVec 1 := Scalar.cmpi .slt c128_i32_968 c0_i32_972
  let v2553 : BitVec 32 := Scalar.extui v2552
  let v2554 : BitVec 32 := Scalar.subi v2551 v2553
  let v2555 : BitVec 1 := Scalar.cmpi .ne v2549 v2554
  let v2556 : BitVec 32 := Scalar.remsi v2543 c128_i32_968
  let c0_i32_973 : BitVec 32 := 0#32
  let v2557 : BitVec 1 := Scalar.cmpi .ne v2556 c0_i32_973
  let v2558 : BitVec 1 := Scalar.andi v2555 v2557
  let v2544 : BitVec 32 := Scalar.divsi v2543 c128_i32_968
  let c1_i32_974 : BitVec 32 := 1#32
  let v2559 : BitVec 32 := Scalar.subi v2544 c1_i32_974
  let v2560 : BitVec 32 := Scalar.select v2558 v2559 v2544
  let c128_i32_975 : BitVec 32 := 128#32
  let v2561 : BitVec 32 := Scalar.muli v2560 c128_i32_975
  v2561
def k0_off25 (i : grid0.Coords) : Fin 2 → Nat :=
  let c128_976 : Index := 128#32
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32_967 : BitVec 32 := 16#32
  let v2543 : BitVec 32 := Scalar.muli v7 c16_i32_967
  let c0_i32_969 : BitVec 32 := 0#32
  let v2545 : BitVec 1 := Scalar.cmpi .sgt v2543 c0_i32_969
  let v2546 : BitVec 32 := Scalar.extui v2545
  let c0_i32_970 : BitVec 32 := 0#32
  let v2547 : BitVec 1 := Scalar.cmpi .slt v2543 c0_i32_970
  let v2548 : BitVec 32 := Scalar.extui v2547
  let v2549 : BitVec 32 := Scalar.subi v2546 v2548
  let c128_i32_968 : BitVec 32 := 128#32
  let c0_i32_971 : BitVec 32 := 0#32
  let v2550 : BitVec 1 := Scalar.cmpi .sgt c128_i32_968 c0_i32_971
  let v2551 : BitVec 32 := Scalar.extui v2550
  let c0_i32_972 : BitVec 32 := 0#32
  let v2552 : BitVec 1 := Scalar.cmpi .slt c128_i32_968 c0_i32_972
  let v2553 : BitVec 32 := Scalar.extui v2552
  let v2554 : BitVec 32 := Scalar.subi v2551 v2553
  let v2555 : BitVec 1 := Scalar.cmpi .ne v2549 v2554
  let v2556 : BitVec 32 := Scalar.remsi v2543 c128_i32_968
  let c0_i32_973 : BitVec 32 := 0#32
  let v2557 : BitVec 1 := Scalar.cmpi .ne v2556 c0_i32_973
  let v2558 : BitVec 1 := Scalar.andi v2555 v2557
  let v2544 : BitVec 32 := Scalar.divsi v2543 c128_i32_968
  let c1_i32_974 : BitVec 32 := 1#32
  let v2559 : BitVec 32 := Scalar.subi v2544 c1_i32_974
  let v2560 : BitVec 32 := Scalar.select v2558 v2559 v2544
  let c128_i32_975 : BitVec 32 := 128#32
  let v2561 : BitVec 32 := Scalar.muli v2560 c128_i32_975
  let v2562 : BitVec 32 := v2561
  let v2563 : Index := Scalar.indexCast v2562
  ![128, v2563.toNat]
def k0_mult15 (i : grid0.Coords) : BitVec 32 :=
  let arg1 : BitVec 32 := BitVec.ofNat 32 (i 1).val
  let c256_i32 : BitVec 32 := 256#32
  let v34 : BitVec 32 := Scalar.muli arg1 c256_i32
  let c128_i32_966 : BitVec 32 := 128#32
  let v2541 : BitVec 32 := Scalar.addi v34 c128_i32_966
  let v2542 : BitVec 32 := v2541
  let c0_i32_978 : BitVec 32 := 0#32
  let v2566 : BitVec 1 := Scalar.cmpi .sgt v2542 c0_i32_978
  let v2567 : BitVec 32 := Scalar.extui v2566
  let c0_i32_979 : BitVec 32 := 0#32
  let v2568 : BitVec 1 := Scalar.cmpi .slt v2542 c0_i32_979
  let v2569 : BitVec 32 := Scalar.extui v2568
  let v2570 : BitVec 32 := Scalar.subi v2567 v2569
  let c8_i32_977 : BitVec 32 := 8#32
  let c0_i32_980 : BitVec 32 := 0#32
  let v2571 : BitVec 1 := Scalar.cmpi .sgt c8_i32_977 c0_i32_980
  let v2572 : BitVec 32 := Scalar.extui v2571
  let c0_i32_981 : BitVec 32 := 0#32
  let v2573 : BitVec 1 := Scalar.cmpi .slt c8_i32_977 c0_i32_981
  let v2574 : BitVec 32 := Scalar.extui v2573
  let v2575 : BitVec 32 := Scalar.subi v2572 v2574
  let v2576 : BitVec 1 := Scalar.cmpi .ne v2570 v2575
  let v2577 : BitVec 32 := Scalar.remsi v2542 c8_i32_977
  let c0_i32_982 : BitVec 32 := 0#32
  let v2578 : BitVec 1 := Scalar.cmpi .ne v2577 c0_i32_982
  let v2579 : BitVec 1 := Scalar.andi v2576 v2578
  let v2565 : BitVec 32 := Scalar.divsi v2542 c8_i32_977
  let c1_i32_983 : BitVec 32 := 1#32
  let v2580 : BitVec 32 := Scalar.subi v2565 c1_i32_983
  let v2581 : BitVec 32 := Scalar.select v2579 v2580 v2565
  let c0_i32_985 : BitVec 32 := 0#32
  let v2583 : BitVec 1 := Scalar.cmpi .sgt v2581 c0_i32_985
  let v2584 : BitVec 32 := Scalar.extui v2583
  let c0_i32_986 : BitVec 32 := 0#32
  let v2585 : BitVec 1 := Scalar.cmpi .slt v2581 c0_i32_986
  let v2586 : BitVec 32 := Scalar.extui v2585
  let v2587 : BitVec 32 := Scalar.subi v2584 v2586
  let c128_i32_984 : BitVec 32 := 128#32
  let c0_i32_987 : BitVec 32 := 0#32
  let v2588 : BitVec 1 := Scalar.cmpi .sgt c128_i32_984 c0_i32_987
  let v2589 : BitVec 32 := Scalar.extui v2588
  let c0_i32_988 : BitVec 32 := 0#32
  let v2590 : BitVec 1 := Scalar.cmpi .slt c128_i32_984 c0_i32_988
  let v2591 : BitVec 32 := Scalar.extui v2590
  let v2592 : BitVec 32 := Scalar.subi v2589 v2591
  let v2593 : BitVec 1 := Scalar.cmpi .ne v2587 v2592
  let v2594 : BitVec 32 := Scalar.remsi v2581 c128_i32_984
  let c0_i32_989 : BitVec 32 := 0#32
  let v2595 : BitVec 1 := Scalar.cmpi .ne v2594 c0_i32_989
  let v2596 : BitVec 1 := Scalar.andi v2593 v2595
  let v2582 : BitVec 32 := Scalar.divsi v2581 c128_i32_984
  let c1_i32_990 : BitVec 32 := 1#32
  let v2597 : BitVec 32 := Scalar.subi v2582 c1_i32_990
  let v2598 : BitVec 32 := Scalar.select v2596 v2597 v2582
  let c128_i32_991 : BitVec 32 := 128#32
  let v2599 : BitVec 32 := Scalar.muli v2598 c128_i32_991
  v2599
def k0_mult16 (i : grid0.Coords) : BitVec 32 :=
  let arg1 : BitVec 32 := BitVec.ofNat 32 (i 1).val
  let c256_i32 : BitVec 32 := 256#32
  let v34 : BitVec 32 := Scalar.muli arg1 c256_i32
  let c128_i32_966 : BitVec 32 := 128#32
  let v2541 : BitVec 32 := Scalar.addi v34 c128_i32_966
  let v2542 : BitVec 32 := v2541
  let c0_i32_1032 : BitVec 32 := 0#32
  let v2712 : BitVec 1 := Scalar.cmpi .sgt v2542 c0_i32_1032
  let v2713 : BitVec 32 := Scalar.extui v2712
  let c0_i32_1033 : BitVec 32 := 0#32
  let v2714 : BitVec 1 := Scalar.cmpi .slt v2542 c0_i32_1033
  let v2715 : BitVec 32 := Scalar.extui v2714
  let v2716 : BitVec 32 := Scalar.subi v2713 v2715
  let c8_i32_1031 : BitVec 32 := 8#32
  let c0_i32_1034 : BitVec 32 := 0#32
  let v2717 : BitVec 1 := Scalar.cmpi .sgt c8_i32_1031 c0_i32_1034
  let v2718 : BitVec 32 := Scalar.extui v2717
  let c0_i32_1035 : BitVec 32 := 0#32
  let v2719 : BitVec 1 := Scalar.cmpi .slt c8_i32_1031 c0_i32_1035
  let v2720 : BitVec 32 := Scalar.extui v2719
  let v2721 : BitVec 32 := Scalar.subi v2718 v2720
  let v2722 : BitVec 1 := Scalar.cmpi .ne v2716 v2721
  let v2723 : BitVec 32 := Scalar.remsi v2542 c8_i32_1031
  let c0_i32_1036 : BitVec 32 := 0#32
  let v2724 : BitVec 1 := Scalar.cmpi .ne v2723 c0_i32_1036
  let v2725 : BitVec 1 := Scalar.andi v2722 v2724
  let v2711 : BitVec 32 := Scalar.divsi v2542 c8_i32_1031
  let c1_i32_1037 : BitVec 32 := 1#32
  let v2726 : BitVec 32 := Scalar.subi v2711 c1_i32_1037
  let v2727 : BitVec 32 := Scalar.select v2725 v2726 v2711
  let c0_i32_1039 : BitVec 32 := 0#32
  let v2729 : BitVec 1 := Scalar.cmpi .sgt v2727 c0_i32_1039
  let v2730 : BitVec 32 := Scalar.extui v2729
  let c0_i32_1040 : BitVec 32 := 0#32
  let v2731 : BitVec 1 := Scalar.cmpi .slt v2727 c0_i32_1040
  let v2732 : BitVec 32 := Scalar.extui v2731
  let v2733 : BitVec 32 := Scalar.subi v2730 v2732
  let c128_i32_1038 : BitVec 32 := 128#32
  let c0_i32_1041 : BitVec 32 := 0#32
  let v2734 : BitVec 1 := Scalar.cmpi .sgt c128_i32_1038 c0_i32_1041
  let v2735 : BitVec 32 := Scalar.extui v2734
  let c0_i32_1042 : BitVec 32 := 0#32
  let v2736 : BitVec 1 := Scalar.cmpi .slt c128_i32_1038 c0_i32_1042
  let v2737 : BitVec 32 := Scalar.extui v2736
  let v2738 : BitVec 32 := Scalar.subi v2735 v2737
  let v2739 : BitVec 1 := Scalar.cmpi .ne v2733 v2738
  let v2740 : BitVec 32 := Scalar.remsi v2727 c128_i32_1038
  let c0_i32_1043 : BitVec 32 := 0#32
  let v2741 : BitVec 1 := Scalar.cmpi .ne v2740 c0_i32_1043
  let v2742 : BitVec 1 := Scalar.andi v2739 v2741
  let v2728 : BitVec 32 := Scalar.divsi v2727 c128_i32_1038
  let c1_i32_1044 : BitVec 32 := 1#32
  let v2743 : BitVec 32 := Scalar.subi v2728 c1_i32_1044
  let v2744 : BitVec 32 := Scalar.select v2742 v2743 v2728
  let c128_i32_1045 : BitVec 32 := 128#32
  let v2745 : BitVec 32 := Scalar.muli v2744 c128_i32_1045
  v2745
def k0_mult17 (i : grid0.Coords) : BitVec 32 :=
  let arg1 : BitVec 32 := BitVec.ofNat 32 (i 1).val
  let c256_i32 : BitVec 32 := 256#32
  let v34 : BitVec 32 := Scalar.muli arg1 c256_i32
  let c192_i32 : BitVec 32 := 192#32
  let v3791 : BitVec 32 := Scalar.addi v34 c192_i32
  v3791
def k0_mult18 (i : grid0.Coords) : BitVec 32 :=
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32_1451 : BitVec 32 := 16#32
  let v3793 : BitVec 32 := Scalar.muli v7 c16_i32_1451
  let c0_i32_1453 : BitVec 32 := 0#32
  let v3795 : BitVec 1 := Scalar.cmpi .sgt v3793 c0_i32_1453
  let v3796 : BitVec 32 := Scalar.extui v3795
  let c0_i32_1454 : BitVec 32 := 0#32
  let v3797 : BitVec 1 := Scalar.cmpi .slt v3793 c0_i32_1454
  let v3798 : BitVec 32 := Scalar.extui v3797
  let v3799 : BitVec 32 := Scalar.subi v3796 v3798
  let c128_i32_1452 : BitVec 32 := 128#32
  let c0_i32_1455 : BitVec 32 := 0#32
  let v3800 : BitVec 1 := Scalar.cmpi .sgt c128_i32_1452 c0_i32_1455
  let v3801 : BitVec 32 := Scalar.extui v3800
  let c0_i32_1456 : BitVec 32 := 0#32
  let v3802 : BitVec 1 := Scalar.cmpi .slt c128_i32_1452 c0_i32_1456
  let v3803 : BitVec 32 := Scalar.extui v3802
  let v3804 : BitVec 32 := Scalar.subi v3801 v3803
  let v3805 : BitVec 1 := Scalar.cmpi .ne v3799 v3804
  let v3806 : BitVec 32 := Scalar.remsi v3793 c128_i32_1452
  let c0_i32_1457 : BitVec 32 := 0#32
  let v3807 : BitVec 1 := Scalar.cmpi .ne v3806 c0_i32_1457
  let v3808 : BitVec 1 := Scalar.andi v3805 v3807
  let v3794 : BitVec 32 := Scalar.divsi v3793 c128_i32_1452
  let c1_i32_1458 : BitVec 32 := 1#32
  let v3809 : BitVec 32 := Scalar.subi v3794 c1_i32_1458
  let v3810 : BitVec 32 := Scalar.select v3808 v3809 v3794
  let c128_i32_1459 : BitVec 32 := 128#32
  let v3811 : BitVec 32 := Scalar.muli v3810 c128_i32_1459
  v3811
def k0_off26 (i : grid0.Coords) : Fin 2 → Nat :=
  let c192 : Index := 192#32
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32_1451 : BitVec 32 := 16#32
  let v3793 : BitVec 32 := Scalar.muli v7 c16_i32_1451
  let c0_i32_1453 : BitVec 32 := 0#32
  let v3795 : BitVec 1 := Scalar.cmpi .sgt v3793 c0_i32_1453
  let v3796 : BitVec 32 := Scalar.extui v3795
  let c0_i32_1454 : BitVec 32 := 0#32
  let v3797 : BitVec 1 := Scalar.cmpi .slt v3793 c0_i32_1454
  let v3798 : BitVec 32 := Scalar.extui v3797
  let v3799 : BitVec 32 := Scalar.subi v3796 v3798
  let c128_i32_1452 : BitVec 32 := 128#32
  let c0_i32_1455 : BitVec 32 := 0#32
  let v3800 : BitVec 1 := Scalar.cmpi .sgt c128_i32_1452 c0_i32_1455
  let v3801 : BitVec 32 := Scalar.extui v3800
  let c0_i32_1456 : BitVec 32 := 0#32
  let v3802 : BitVec 1 := Scalar.cmpi .slt c128_i32_1452 c0_i32_1456
  let v3803 : BitVec 32 := Scalar.extui v3802
  let v3804 : BitVec 32 := Scalar.subi v3801 v3803
  let v3805 : BitVec 1 := Scalar.cmpi .ne v3799 v3804
  let v3806 : BitVec 32 := Scalar.remsi v3793 c128_i32_1452
  let c0_i32_1457 : BitVec 32 := 0#32
  let v3807 : BitVec 1 := Scalar.cmpi .ne v3806 c0_i32_1457
  let v3808 : BitVec 1 := Scalar.andi v3805 v3807
  let v3794 : BitVec 32 := Scalar.divsi v3793 c128_i32_1452
  let c1_i32_1458 : BitVec 32 := 1#32
  let v3809 : BitVec 32 := Scalar.subi v3794 c1_i32_1458
  let v3810 : BitVec 32 := Scalar.select v3808 v3809 v3794
  let c128_i32_1459 : BitVec 32 := 128#32
  let v3811 : BitVec 32 := Scalar.muli v3810 c128_i32_1459
  let v3812 : BitVec 32 := v3811
  let v3813 : Index := Scalar.indexCast v3812
  ![192, v3813.toNat]
def k0_mult19 (i : grid0.Coords) : BitVec 32 :=
  let arg1 : BitVec 32 := BitVec.ofNat 32 (i 1).val
  let c256_i32 : BitVec 32 := 256#32
  let v34 : BitVec 32 := Scalar.muli arg1 c256_i32
  let c192_i32 : BitVec 32 := 192#32
  let v3791 : BitVec 32 := Scalar.addi v34 c192_i32
  let v3792 : BitVec 32 := v3791
  let c0_i32_1461 : BitVec 32 := 0#32
  let v3816 : BitVec 1 := Scalar.cmpi .sgt v3792 c0_i32_1461
  let v3817 : BitVec 32 := Scalar.extui v3816
  let c0_i32_1462 : BitVec 32 := 0#32
  let v3818 : BitVec 1 := Scalar.cmpi .slt v3792 c0_i32_1462
  let v3819 : BitVec 32 := Scalar.extui v3818
  let v3820 : BitVec 32 := Scalar.subi v3817 v3819
  let c8_i32_1460 : BitVec 32 := 8#32
  let c0_i32_1463 : BitVec 32 := 0#32
  let v3821 : BitVec 1 := Scalar.cmpi .sgt c8_i32_1460 c0_i32_1463
  let v3822 : BitVec 32 := Scalar.extui v3821
  let c0_i32_1464 : BitVec 32 := 0#32
  let v3823 : BitVec 1 := Scalar.cmpi .slt c8_i32_1460 c0_i32_1464
  let v3824 : BitVec 32 := Scalar.extui v3823
  let v3825 : BitVec 32 := Scalar.subi v3822 v3824
  let v3826 : BitVec 1 := Scalar.cmpi .ne v3820 v3825
  let v3827 : BitVec 32 := Scalar.remsi v3792 c8_i32_1460
  let c0_i32_1465 : BitVec 32 := 0#32
  let v3828 : BitVec 1 := Scalar.cmpi .ne v3827 c0_i32_1465
  let v3829 : BitVec 1 := Scalar.andi v3826 v3828
  let v3815 : BitVec 32 := Scalar.divsi v3792 c8_i32_1460
  let c1_i32_1466 : BitVec 32 := 1#32
  let v3830 : BitVec 32 := Scalar.subi v3815 c1_i32_1466
  let v3831 : BitVec 32 := Scalar.select v3829 v3830 v3815
  let c0_i32_1468 : BitVec 32 := 0#32
  let v3833 : BitVec 1 := Scalar.cmpi .sgt v3831 c0_i32_1468
  let v3834 : BitVec 32 := Scalar.extui v3833
  let c0_i32_1469 : BitVec 32 := 0#32
  let v3835 : BitVec 1 := Scalar.cmpi .slt v3831 c0_i32_1469
  let v3836 : BitVec 32 := Scalar.extui v3835
  let v3837 : BitVec 32 := Scalar.subi v3834 v3836
  let c128_i32_1467 : BitVec 32 := 128#32
  let c0_i32_1470 : BitVec 32 := 0#32
  let v3838 : BitVec 1 := Scalar.cmpi .sgt c128_i32_1467 c0_i32_1470
  let v3839 : BitVec 32 := Scalar.extui v3838
  let c0_i32_1471 : BitVec 32 := 0#32
  let v3840 : BitVec 1 := Scalar.cmpi .slt c128_i32_1467 c0_i32_1471
  let v3841 : BitVec 32 := Scalar.extui v3840
  let v3842 : BitVec 32 := Scalar.subi v3839 v3841
  let v3843 : BitVec 1 := Scalar.cmpi .ne v3837 v3842
  let v3844 : BitVec 32 := Scalar.remsi v3831 c128_i32_1467
  let c0_i32_1472 : BitVec 32 := 0#32
  let v3845 : BitVec 1 := Scalar.cmpi .ne v3844 c0_i32_1472
  let v3846 : BitVec 1 := Scalar.andi v3843 v3845
  let v3832 : BitVec 32 := Scalar.divsi v3831 c128_i32_1467
  let c1_i32_1473 : BitVec 32 := 1#32
  let v3847 : BitVec 32 := Scalar.subi v3832 c1_i32_1473
  let v3848 : BitVec 32 := Scalar.select v3846 v3847 v3832
  let c128_i32_1474 : BitVec 32 := 128#32
  let v3849 : BitVec 32 := Scalar.muli v3848 c128_i32_1474
  v3849
def k0_mult20 (i : grid0.Coords) : BitVec 32 :=
  let arg1 : BitVec 32 := BitVec.ofNat 32 (i 1).val
  let c256_i32 : BitVec 32 := 256#32
  let v34 : BitVec 32 := Scalar.muli arg1 c256_i32
  let c192_i32 : BitVec 32 := 192#32
  let v3791 : BitVec 32 := Scalar.addi v34 c192_i32
  let v3792 : BitVec 32 := v3791
  let c0_i32_1515 : BitVec 32 := 0#32
  let v3962 : BitVec 1 := Scalar.cmpi .sgt v3792 c0_i32_1515
  let v3963 : BitVec 32 := Scalar.extui v3962
  let c0_i32_1516 : BitVec 32 := 0#32
  let v3964 : BitVec 1 := Scalar.cmpi .slt v3792 c0_i32_1516
  let v3965 : BitVec 32 := Scalar.extui v3964
  let v3966 : BitVec 32 := Scalar.subi v3963 v3965
  let c8_i32_1514 : BitVec 32 := 8#32
  let c0_i32_1517 : BitVec 32 := 0#32
  let v3967 : BitVec 1 := Scalar.cmpi .sgt c8_i32_1514 c0_i32_1517
  let v3968 : BitVec 32 := Scalar.extui v3967
  let c0_i32_1518 : BitVec 32 := 0#32
  let v3969 : BitVec 1 := Scalar.cmpi .slt c8_i32_1514 c0_i32_1518
  let v3970 : BitVec 32 := Scalar.extui v3969
  let v3971 : BitVec 32 := Scalar.subi v3968 v3970
  let v3972 : BitVec 1 := Scalar.cmpi .ne v3966 v3971
  let v3973 : BitVec 32 := Scalar.remsi v3792 c8_i32_1514
  let c0_i32_1519 : BitVec 32 := 0#32
  let v3974 : BitVec 1 := Scalar.cmpi .ne v3973 c0_i32_1519
  let v3975 : BitVec 1 := Scalar.andi v3972 v3974
  let v3961 : BitVec 32 := Scalar.divsi v3792 c8_i32_1514
  let c1_i32_1520 : BitVec 32 := 1#32
  let v3976 : BitVec 32 := Scalar.subi v3961 c1_i32_1520
  let v3977 : BitVec 32 := Scalar.select v3975 v3976 v3961
  let c0_i32_1522 : BitVec 32 := 0#32
  let v3979 : BitVec 1 := Scalar.cmpi .sgt v3977 c0_i32_1522
  let v3980 : BitVec 32 := Scalar.extui v3979
  let c0_i32_1523 : BitVec 32 := 0#32
  let v3981 : BitVec 1 := Scalar.cmpi .slt v3977 c0_i32_1523
  let v3982 : BitVec 32 := Scalar.extui v3981
  let v3983 : BitVec 32 := Scalar.subi v3980 v3982
  let c128_i32_1521 : BitVec 32 := 128#32
  let c0_i32_1524 : BitVec 32 := 0#32
  let v3984 : BitVec 1 := Scalar.cmpi .sgt c128_i32_1521 c0_i32_1524
  let v3985 : BitVec 32 := Scalar.extui v3984
  let c0_i32_1525 : BitVec 32 := 0#32
  let v3986 : BitVec 1 := Scalar.cmpi .slt c128_i32_1521 c0_i32_1525
  let v3987 : BitVec 32 := Scalar.extui v3986
  let v3988 : BitVec 32 := Scalar.subi v3985 v3987
  let v3989 : BitVec 1 := Scalar.cmpi .ne v3983 v3988
  let v3990 : BitVec 32 := Scalar.remsi v3977 c128_i32_1521
  let c0_i32_1526 : BitVec 32 := 0#32
  let v3991 : BitVec 1 := Scalar.cmpi .ne v3990 c0_i32_1526
  let v3992 : BitVec 1 := Scalar.andi v3989 v3991
  let v3978 : BitVec 32 := Scalar.divsi v3977 c128_i32_1521
  let c1_i32_1527 : BitVec 32 := 1#32
  let v3993 : BitVec 32 := Scalar.subi v3978 c1_i32_1527
  let v3994 : BitVec 32 := Scalar.select v3992 v3993 v3978
  let c128_i32_1528 : BitVec 32 := 128#32
  let v3995 : BitVec 32 := Scalar.muli v3994 c128_i32_1528
  v3995
def k0_cond3 (i : grid0.Coords) : BitVec 1 :=
  let arg0 : BitVec 32 := BitVec.ofNat 32 (i 0).val
  let c2_i32_9 : BitVec 32 := 2#32
  let c0_i32_10 : BitVec 32 := 0#32
  let v21 : BitVec 1 := Scalar.cmpi .eq c2_i32_9 c0_i32_10
  let c1_i32_11 : BitVec 32 := 1#32
  let v22 : BitVec 32 := Scalar.select v21 c1_i32_11 c2_i32_9
  let v23 : BitVec 32 := Scalar.remsi arg0 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_15 : BitVec 32 := 1#32
  let v31 : BitVec 1 := Scalar.cmpi .eq v30 c1_i32_15
  let v32 : BitVec 32 := Scalar.extui v31
  let c0_i32_16 : BitVec 32 := 0#32
  let v33 : BitVec 1 := Scalar.cmpi .ne v32 c0_i32_16
  v33

def k0_mult21 (i : grid0.Coords) : BitVec 32 :=
  let arg1 : BitVec 32 := BitVec.ofNat 32 (i 1).val
  let c256_i32 : BitVec 32 := 256#32
  let v34 : BitVec 32 := Scalar.muli arg1 c256_i32
  let c0_i32_17 : BitVec 32 := 0#32
  let v35 : BitVec 32 := Scalar.addi v34 c0_i32_17
  v35
def k0_mult22 (i : grid0.Coords) : BitVec 32 :=
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32 : BitVec 32 := 16#32
  let v37 : BitVec 32 := Scalar.muli v7 c16_i32
  let c0_i32_18 : BitVec 32 := 0#32
  let v39 : BitVec 1 := Scalar.cmpi .sgt v37 c0_i32_18
  let v40 : BitVec 32 := Scalar.extui v39
  let c0_i32_19 : BitVec 32 := 0#32
  let v41 : BitVec 1 := Scalar.cmpi .slt v37 c0_i32_19
  let v42 : BitVec 32 := Scalar.extui v41
  let v43 : BitVec 32 := Scalar.subi v40 v42
  let c128_i32 : BitVec 32 := 128#32
  let c0_i32_20 : BitVec 32 := 0#32
  let v44 : BitVec 1 := Scalar.cmpi .sgt c128_i32 c0_i32_20
  let v45 : BitVec 32 := Scalar.extui v44
  let c0_i32_21 : BitVec 32 := 0#32
  let v46 : BitVec 1 := Scalar.cmpi .slt c128_i32 c0_i32_21
  let v47 : BitVec 32 := Scalar.extui v46
  let v48 : BitVec 32 := Scalar.subi v45 v47
  let v49 : BitVec 1 := Scalar.cmpi .ne v43 v48
  let v50 : BitVec 32 := Scalar.remsi v37 c128_i32
  let c0_i32_22 : BitVec 32 := 0#32
  let v51 : BitVec 1 := Scalar.cmpi .ne v50 c0_i32_22
  let v52 : BitVec 1 := Scalar.andi v49 v51
  let v38 : BitVec 32 := Scalar.divsi v37 c128_i32
  let c1_i32_23 : BitVec 32 := 1#32
  let v53 : BitVec 32 := Scalar.subi v38 c1_i32_23
  let v54 : BitVec 32 := Scalar.select v52 v53 v38
  let c128_i32_24 : BitVec 32 := 128#32
  let v55 : BitVec 32 := Scalar.muli v54 c128_i32_24
  v55
def k0_off27 (i : grid0.Coords) : Fin 2 → Nat :=
  let c0_25 : Index := 0#32
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32 : BitVec 32 := 16#32
  let v37 : BitVec 32 := Scalar.muli v7 c16_i32
  let c0_i32_18 : BitVec 32 := 0#32
  let v39 : BitVec 1 := Scalar.cmpi .sgt v37 c0_i32_18
  let v40 : BitVec 32 := Scalar.extui v39
  let c0_i32_19 : BitVec 32 := 0#32
  let v41 : BitVec 1 := Scalar.cmpi .slt v37 c0_i32_19
  let v42 : BitVec 32 := Scalar.extui v41
  let v43 : BitVec 32 := Scalar.subi v40 v42
  let c128_i32 : BitVec 32 := 128#32
  let c0_i32_20 : BitVec 32 := 0#32
  let v44 : BitVec 1 := Scalar.cmpi .sgt c128_i32 c0_i32_20
  let v45 : BitVec 32 := Scalar.extui v44
  let c0_i32_21 : BitVec 32 := 0#32
  let v46 : BitVec 1 := Scalar.cmpi .slt c128_i32 c0_i32_21
  let v47 : BitVec 32 := Scalar.extui v46
  let v48 : BitVec 32 := Scalar.subi v45 v47
  let v49 : BitVec 1 := Scalar.cmpi .ne v43 v48
  let v50 : BitVec 32 := Scalar.remsi v37 c128_i32
  let c0_i32_22 : BitVec 32 := 0#32
  let v51 : BitVec 1 := Scalar.cmpi .ne v50 c0_i32_22
  let v52 : BitVec 1 := Scalar.andi v49 v51
  let v38 : BitVec 32 := Scalar.divsi v37 c128_i32
  let c1_i32_23 : BitVec 32 := 1#32
  let v53 : BitVec 32 := Scalar.subi v38 c1_i32_23
  let v54 : BitVec 32 := Scalar.select v52 v53 v38
  let c128_i32_24 : BitVec 32 := 128#32
  let v55 : BitVec 32 := Scalar.muli v54 c128_i32_24
  let v56 : BitVec 32 := v55
  let v57 : Index := Scalar.indexCast v56
  ![0, v57.toNat]
def k0_mult23 (i : grid0.Coords) : BitVec 32 :=
  let arg1 : BitVec 32 := BitVec.ofNat 32 (i 1).val
  let c256_i32 : BitVec 32 := 256#32
  let v34 : BitVec 32 := Scalar.muli arg1 c256_i32
  let c0_i32_17 : BitVec 32 := 0#32
  let v35 : BitVec 32 := Scalar.addi v34 c0_i32_17
  let v36 : BitVec 32 := v35
  let c0_i32_26 : BitVec 32 := 0#32
  let v60 : BitVec 1 := Scalar.cmpi .sgt v36 c0_i32_26
  let v61 : BitVec 32 := Scalar.extui v60
  let c0_i32_27 : BitVec 32 := 0#32
  let v62 : BitVec 1 := Scalar.cmpi .slt v36 c0_i32_27
  let v63 : BitVec 32 := Scalar.extui v62
  let v64 : BitVec 32 := Scalar.subi v61 v63
  let c8_i32 : BitVec 32 := 8#32
  let c0_i32_28 : BitVec 32 := 0#32
  let v65 : BitVec 1 := Scalar.cmpi .sgt c8_i32 c0_i32_28
  let v66 : BitVec 32 := Scalar.extui v65
  let c0_i32_29 : BitVec 32 := 0#32
  let v67 : BitVec 1 := Scalar.cmpi .slt c8_i32 c0_i32_29
  let v68 : BitVec 32 := Scalar.extui v67
  let v69 : BitVec 32 := Scalar.subi v66 v68
  let v70 : BitVec 1 := Scalar.cmpi .ne v64 v69
  let v71 : BitVec 32 := Scalar.remsi v36 c8_i32
  let c0_i32_30 : BitVec 32 := 0#32
  let v72 : BitVec 1 := Scalar.cmpi .ne v71 c0_i32_30
  let v73 : BitVec 1 := Scalar.andi v70 v72
  let v59 : BitVec 32 := Scalar.divsi v36 c8_i32
  let c1_i32_31 : BitVec 32 := 1#32
  let v74 : BitVec 32 := Scalar.subi v59 c1_i32_31
  let v75 : BitVec 32 := Scalar.select v73 v74 v59
  let c0_i32_33 : BitVec 32 := 0#32
  let v77 : BitVec 1 := Scalar.cmpi .sgt v75 c0_i32_33
  let v78 : BitVec 32 := Scalar.extui v77
  let c0_i32_34 : BitVec 32 := 0#32
  let v79 : BitVec 1 := Scalar.cmpi .slt v75 c0_i32_34
  let v80 : BitVec 32 := Scalar.extui v79
  let v81 : BitVec 32 := Scalar.subi v78 v80
  let c128_i32_32 : BitVec 32 := 128#32
  let c0_i32_35 : BitVec 32 := 0#32
  let v82 : BitVec 1 := Scalar.cmpi .sgt c128_i32_32 c0_i32_35
  let v83 : BitVec 32 := Scalar.extui v82
  let c0_i32_36 : BitVec 32 := 0#32
  let v84 : BitVec 1 := Scalar.cmpi .slt c128_i32_32 c0_i32_36
  let v85 : BitVec 32 := Scalar.extui v84
  let v86 : BitVec 32 := Scalar.subi v83 v85
  let v87 : BitVec 1 := Scalar.cmpi .ne v81 v86
  let v88 : BitVec 32 := Scalar.remsi v75 c128_i32_32
  let c0_i32_37 : BitVec 32 := 0#32
  let v89 : BitVec 1 := Scalar.cmpi .ne v88 c0_i32_37
  let v90 : BitVec 1 := Scalar.andi v87 v89
  let v76 : BitVec 32 := Scalar.divsi v75 c128_i32_32
  let c1_i32_38 : BitVec 32 := 1#32
  let v91 : BitVec 32 := Scalar.subi v76 c1_i32_38
  let v92 : BitVec 32 := Scalar.select v90 v91 v76
  let c128_i32_39 : BitVec 32 := 128#32
  let v93 : BitVec 32 := Scalar.muli v92 c128_i32_39
  v93
def k0_off28 (i : grid0.Coords) (c0_i32_17 : BitVec 32) : Fin 2 → Nat :=
  let c0_40 : Index := 0#32
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  let c0_i32_26 : BitVec 32 := 0#32
  let v60 : BitVec 1 := Scalar.cmpi .sgt v36 c0_i32_26
  let v61 : BitVec 32 := Scalar.extui v60
  let c0_i32_27 : BitVec 32 := 0#32
  let v62 : BitVec 1 := Scalar.cmpi .slt v36 c0_i32_27
  let v63 : BitVec 32 := Scalar.extui v62
  let v64 : BitVec 32 := Scalar.subi v61 v63
  let c8_i32 : BitVec 32 := 8#32
  let c0_i32_28 : BitVec 32 := 0#32
  let v65 : BitVec 1 := Scalar.cmpi .sgt c8_i32 c0_i32_28
  let v66 : BitVec 32 := Scalar.extui v65
  let c0_i32_29 : BitVec 32 := 0#32
  let v67 : BitVec 1 := Scalar.cmpi .slt c8_i32 c0_i32_29
  let v68 : BitVec 32 := Scalar.extui v67
  let v69 : BitVec 32 := Scalar.subi v66 v68
  let v70 : BitVec 1 := Scalar.cmpi .ne v64 v69
  let v71 : BitVec 32 := Scalar.remsi v36 c8_i32
  let c0_i32_30 : BitVec 32 := 0#32
  let v72 : BitVec 1 := Scalar.cmpi .ne v71 c0_i32_30
  let v73 : BitVec 1 := Scalar.andi v70 v72
  let v59 : BitVec 32 := Scalar.divsi v36 c8_i32
  let c1_i32_31 : BitVec 32 := 1#32
  let v74 : BitVec 32 := Scalar.subi v59 c1_i32_31
  let v75 : BitVec 32 := Scalar.select v73 v74 v59
  let c0_i32_33 : BitVec 32 := 0#32
  let v77 : BitVec 1 := Scalar.cmpi .sgt v75 c0_i32_33
  let v78 : BitVec 32 := Scalar.extui v77
  let c0_i32_34 : BitVec 32 := 0#32
  let v79 : BitVec 1 := Scalar.cmpi .slt v75 c0_i32_34
  let v80 : BitVec 32 := Scalar.extui v79
  let v81 : BitVec 32 := Scalar.subi v78 v80
  let c128_i32_32 : BitVec 32 := 128#32
  let c0_i32_35 : BitVec 32 := 0#32
  let v82 : BitVec 1 := Scalar.cmpi .sgt c128_i32_32 c0_i32_35
  let v83 : BitVec 32 := Scalar.extui v82
  let c0_i32_36 : BitVec 32 := 0#32
  let v84 : BitVec 1 := Scalar.cmpi .slt c128_i32_32 c0_i32_36
  let v85 : BitVec 32 := Scalar.extui v84
  let v86 : BitVec 32 := Scalar.subi v83 v85
  let v87 : BitVec 1 := Scalar.cmpi .ne v81 v86
  let v88 : BitVec 32 := Scalar.remsi v75 c128_i32_32
  let c0_i32_37 : BitVec 32 := 0#32
  let v89 : BitVec 1 := Scalar.cmpi .ne v88 c0_i32_37
  let v90 : BitVec 1 := Scalar.andi v87 v89
  let v76 : BitVec 32 := Scalar.divsi v75 c128_i32_32
  let c1_i32_38 : BitVec 32 := 1#32
  let v91 : BitVec 32 := Scalar.subi v76 c1_i32_38
  let v92 : BitVec 32 := Scalar.select v90 v91 v76
  let c128_i32_39 : BitVec 32 := 128#32
  let v93 : BitVec 32 := Scalar.muli v92 c128_i32_39
  let v94 : BitVec 32 := v93
  let v95 : Index := Scalar.indexCast v94
  ![0, v95.toNat]
def k0_mult24 (i : grid0.Coords) : BitVec 32 :=
  let arg1 : BitVec 32 := BitVec.ofNat 32 (i 1).val
  let c256_i32 : BitVec 32 := 256#32
  let v34 : BitVec 32 := Scalar.muli arg1 c256_i32
  let c0_i32_17 : BitVec 32 := 0#32
  let v35 : BitVec 32 := Scalar.addi v34 c0_i32_17
  let v36 : BitVec 32 := v35
  let c0_i32_75 : BitVec 32 := 0#32
  let v206 : BitVec 1 := Scalar.cmpi .sgt v36 c0_i32_75
  let v207 : BitVec 32 := Scalar.extui v206
  let c0_i32_76 : BitVec 32 := 0#32
  let v208 : BitVec 1 := Scalar.cmpi .slt v36 c0_i32_76
  let v209 : BitVec 32 := Scalar.extui v208
  let v210 : BitVec 32 := Scalar.subi v207 v209
  let c8_i32_74 : BitVec 32 := 8#32
  let c0_i32_77 : BitVec 32 := 0#32
  let v211 : BitVec 1 := Scalar.cmpi .sgt c8_i32_74 c0_i32_77
  let v212 : BitVec 32 := Scalar.extui v211
  let c0_i32_78 : BitVec 32 := 0#32
  let v213 : BitVec 1 := Scalar.cmpi .slt c8_i32_74 c0_i32_78
  let v214 : BitVec 32 := Scalar.extui v213
  let v215 : BitVec 32 := Scalar.subi v212 v214
  let v216 : BitVec 1 := Scalar.cmpi .ne v210 v215
  let v217 : BitVec 32 := Scalar.remsi v36 c8_i32_74
  let c0_i32_79 : BitVec 32 := 0#32
  let v218 : BitVec 1 := Scalar.cmpi .ne v217 c0_i32_79
  let v219 : BitVec 1 := Scalar.andi v216 v218
  let v205 : BitVec 32 := Scalar.divsi v36 c8_i32_74
  let c1_i32_80 : BitVec 32 := 1#32
  let v220 : BitVec 32 := Scalar.subi v205 c1_i32_80
  let v221 : BitVec 32 := Scalar.select v219 v220 v205
  let c0_i32_82 : BitVec 32 := 0#32
  let v223 : BitVec 1 := Scalar.cmpi .sgt v221 c0_i32_82
  let v224 : BitVec 32 := Scalar.extui v223
  let c0_i32_83 : BitVec 32 := 0#32
  let v225 : BitVec 1 := Scalar.cmpi .slt v221 c0_i32_83
  let v226 : BitVec 32 := Scalar.extui v225
  let v227 : BitVec 32 := Scalar.subi v224 v226
  let c128_i32_81 : BitVec 32 := 128#32
  let c0_i32_84 : BitVec 32 := 0#32
  let v228 : BitVec 1 := Scalar.cmpi .sgt c128_i32_81 c0_i32_84
  let v229 : BitVec 32 := Scalar.extui v228
  let c0_i32_85 : BitVec 32 := 0#32
  let v230 : BitVec 1 := Scalar.cmpi .slt c128_i32_81 c0_i32_85
  let v231 : BitVec 32 := Scalar.extui v230
  let v232 : BitVec 32 := Scalar.subi v229 v231
  let v233 : BitVec 1 := Scalar.cmpi .ne v227 v232
  let v234 : BitVec 32 := Scalar.remsi v221 c128_i32_81
  let c0_i32_86 : BitVec 32 := 0#32
  let v235 : BitVec 1 := Scalar.cmpi .ne v234 c0_i32_86
  let v236 : BitVec 1 := Scalar.andi v233 v235
  let v222 : BitVec 32 := Scalar.divsi v221 c128_i32_81
  let c1_i32_87 : BitVec 32 := 1#32
  let v237 : BitVec 32 := Scalar.subi v222 c1_i32_87
  let v238 : BitVec 32 := Scalar.select v236 v237 v222
  let c128_i32_88 : BitVec 32 := 128#32
  let v239 : BitVec 32 := Scalar.muli v238 c128_i32_88
  v239
def k0_off29 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  let c0_i32_195 : BitVec 32 := 0#32
  ![v36.toNat, 0]
def k0_off30 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  let c0_i32_195 : BitVec 32 := 0#32
  ![v36.toNat, 0]
def k0_off31 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  ![v36.toNat, 128]
def k0_off32 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  ![v36.toNat, 256]
def k0_off33 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  ![v36.toNat, 384]
def k0_off34 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  ![v36.toNat, 512]
def k0_off35 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  ![v36.toNat, 640]
def k0_off36 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  ![v36.toNat, 768]
def k0_off37 (i : grid0.Coords) (c0_i32_17 : BitVec 32) : Fin 2 → Nat :=
  let arg1 : BitVec 32 := BitVec.ofNat 32 (i 1).val
  let c256_i32 : BitVec 32 := 256#32
  let v34 : BitVec 32 := Scalar.muli arg1 c256_i32
  let v35 : BitVec 32 := Scalar.addi v34 c0_i32_17
  let v36 : BitVec 32 := v35
  ![v36.toNat, 896]
def k0_mult25 (i : grid0.Coords) : BitVec 32 :=
  let arg1 : BitVec 32 := BitVec.ofNat 32 (i 1).val
  let c256_i32 : BitVec 32 := 256#32
  let v34 : BitVec 32 := Scalar.muli arg1 c256_i32
  let c64_i32_475 : BitVec 32 := 64#32
  let v1285 : BitVec 32 := Scalar.addi v34 c64_i32_475
  v1285
def k0_mult26 (i : grid0.Coords) : BitVec 32 :=
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32_476 : BitVec 32 := 16#32
  let v1287 : BitVec 32 := Scalar.muli v7 c16_i32_476
  let c0_i32_478 : BitVec 32 := 0#32
  let v1289 : BitVec 1 := Scalar.cmpi .sgt v1287 c0_i32_478
  let v1290 : BitVec 32 := Scalar.extui v1289
  let c0_i32_479 : BitVec 32 := 0#32
  let v1291 : BitVec 1 := Scalar.cmpi .slt v1287 c0_i32_479
  let v1292 : BitVec 32 := Scalar.extui v1291
  let v1293 : BitVec 32 := Scalar.subi v1290 v1292
  let c128_i32_477 : BitVec 32 := 128#32
  let c0_i32_480 : BitVec 32 := 0#32
  let v1294 : BitVec 1 := Scalar.cmpi .sgt c128_i32_477 c0_i32_480
  let v1295 : BitVec 32 := Scalar.extui v1294
  let c0_i32_481 : BitVec 32 := 0#32
  let v1296 : BitVec 1 := Scalar.cmpi .slt c128_i32_477 c0_i32_481
  let v1297 : BitVec 32 := Scalar.extui v1296
  let v1298 : BitVec 32 := Scalar.subi v1295 v1297
  let v1299 : BitVec 1 := Scalar.cmpi .ne v1293 v1298
  let v1300 : BitVec 32 := Scalar.remsi v1287 c128_i32_477
  let c0_i32_482 : BitVec 32 := 0#32
  let v1301 : BitVec 1 := Scalar.cmpi .ne v1300 c0_i32_482
  let v1302 : BitVec 1 := Scalar.andi v1299 v1301
  let v1288 : BitVec 32 := Scalar.divsi v1287 c128_i32_477
  let c1_i32_483 : BitVec 32 := 1#32
  let v1303 : BitVec 32 := Scalar.subi v1288 c1_i32_483
  let v1304 : BitVec 32 := Scalar.select v1302 v1303 v1288
  let c128_i32_484 : BitVec 32 := 128#32
  let v1305 : BitVec 32 := Scalar.muli v1304 c128_i32_484
  v1305
def k0_off38 (i : grid0.Coords) : Fin 2 → Nat :=
  let c64 : Index := 64#32
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32_476 : BitVec 32 := 16#32
  let v1287 : BitVec 32 := Scalar.muli v7 c16_i32_476
  let c0_i32_478 : BitVec 32 := 0#32
  let v1289 : BitVec 1 := Scalar.cmpi .sgt v1287 c0_i32_478
  let v1290 : BitVec 32 := Scalar.extui v1289
  let c0_i32_479 : BitVec 32 := 0#32
  let v1291 : BitVec 1 := Scalar.cmpi .slt v1287 c0_i32_479
  let v1292 : BitVec 32 := Scalar.extui v1291
  let v1293 : BitVec 32 := Scalar.subi v1290 v1292
  let c128_i32_477 : BitVec 32 := 128#32
  let c0_i32_480 : BitVec 32 := 0#32
  let v1294 : BitVec 1 := Scalar.cmpi .sgt c128_i32_477 c0_i32_480
  let v1295 : BitVec 32 := Scalar.extui v1294
  let c0_i32_481 : BitVec 32 := 0#32
  let v1296 : BitVec 1 := Scalar.cmpi .slt c128_i32_477 c0_i32_481
  let v1297 : BitVec 32 := Scalar.extui v1296
  let v1298 : BitVec 32 := Scalar.subi v1295 v1297
  let v1299 : BitVec 1 := Scalar.cmpi .ne v1293 v1298
  let v1300 : BitVec 32 := Scalar.remsi v1287 c128_i32_477
  let c0_i32_482 : BitVec 32 := 0#32
  let v1301 : BitVec 1 := Scalar.cmpi .ne v1300 c0_i32_482
  let v1302 : BitVec 1 := Scalar.andi v1299 v1301
  let v1288 : BitVec 32 := Scalar.divsi v1287 c128_i32_477
  let c1_i32_483 : BitVec 32 := 1#32
  let v1303 : BitVec 32 := Scalar.subi v1288 c1_i32_483
  let v1304 : BitVec 32 := Scalar.select v1302 v1303 v1288
  let c128_i32_484 : BitVec 32 := 128#32
  let v1305 : BitVec 32 := Scalar.muli v1304 c128_i32_484
  let v1306 : BitVec 32 := v1305
  let v1307 : Index := Scalar.indexCast v1306
  ![64, v1307.toNat]
def k0_mult27 (i : grid0.Coords) : BitVec 32 :=
  let arg1 : BitVec 32 := BitVec.ofNat 32 (i 1).val
  let c256_i32 : BitVec 32 := 256#32
  let v34 : BitVec 32 := Scalar.muli arg1 c256_i32
  let c64_i32_475 : BitVec 32 := 64#32
  let v1285 : BitVec 32 := Scalar.addi v34 c64_i32_475
  let v1286 : BitVec 32 := v1285
  let c0_i32_486 : BitVec 32 := 0#32
  let v1310 : BitVec 1 := Scalar.cmpi .sgt v1286 c0_i32_486
  let v1311 : BitVec 32 := Scalar.extui v1310
  let c0_i32_487 : BitVec 32 := 0#32
  let v1312 : BitVec 1 := Scalar.cmpi .slt v1286 c0_i32_487
  let v1313 : BitVec 32 := Scalar.extui v1312
  let v1314 : BitVec 32 := Scalar.subi v1311 v1313
  let c8_i32_485 : BitVec 32 := 8#32
  let c0_i32_488 : BitVec 32 := 0#32
  let v1315 : BitVec 1 := Scalar.cmpi .sgt c8_i32_485 c0_i32_488
  let v1316 : BitVec 32 := Scalar.extui v1315
  let c0_i32_489 : BitVec 32 := 0#32
  let v1317 : BitVec 1 := Scalar.cmpi .slt c8_i32_485 c0_i32_489
  let v1318 : BitVec 32 := Scalar.extui v1317
  let v1319 : BitVec 32 := Scalar.subi v1316 v1318
  let v1320 : BitVec 1 := Scalar.cmpi .ne v1314 v1319
  let v1321 : BitVec 32 := Scalar.remsi v1286 c8_i32_485
  let c0_i32_490 : BitVec 32 := 0#32
  let v1322 : BitVec 1 := Scalar.cmpi .ne v1321 c0_i32_490
  let v1323 : BitVec 1 := Scalar.andi v1320 v1322
  let v1309 : BitVec 32 := Scalar.divsi v1286 c8_i32_485
  let c1_i32_491 : BitVec 32 := 1#32
  let v1324 : BitVec 32 := Scalar.subi v1309 c1_i32_491
  let v1325 : BitVec 32 := Scalar.select v1323 v1324 v1309
  let c0_i32_493 : BitVec 32 := 0#32
  let v1327 : BitVec 1 := Scalar.cmpi .sgt v1325 c0_i32_493
  let v1328 : BitVec 32 := Scalar.extui v1327
  let c0_i32_494 : BitVec 32 := 0#32
  let v1329 : BitVec 1 := Scalar.cmpi .slt v1325 c0_i32_494
  let v1330 : BitVec 32 := Scalar.extui v1329
  let v1331 : BitVec 32 := Scalar.subi v1328 v1330
  let c128_i32_492 : BitVec 32 := 128#32
  let c0_i32_495 : BitVec 32 := 0#32
  let v1332 : BitVec 1 := Scalar.cmpi .sgt c128_i32_492 c0_i32_495
  let v1333 : BitVec 32 := Scalar.extui v1332
  let c0_i32_496 : BitVec 32 := 0#32
  let v1334 : BitVec 1 := Scalar.cmpi .slt c128_i32_492 c0_i32_496
  let v1335 : BitVec 32 := Scalar.extui v1334
  let v1336 : BitVec 32 := Scalar.subi v1333 v1335
  let v1337 : BitVec 1 := Scalar.cmpi .ne v1331 v1336
  let v1338 : BitVec 32 := Scalar.remsi v1325 c128_i32_492
  let c0_i32_497 : BitVec 32 := 0#32
  let v1339 : BitVec 1 := Scalar.cmpi .ne v1338 c0_i32_497
  let v1340 : BitVec 1 := Scalar.andi v1337 v1339
  let v1326 : BitVec 32 := Scalar.divsi v1325 c128_i32_492
  let c1_i32_498 : BitVec 32 := 1#32
  let v1341 : BitVec 32 := Scalar.subi v1326 c1_i32_498
  let v1342 : BitVec 32 := Scalar.select v1340 v1341 v1326
  let c128_i32_499 : BitVec 32 := 128#32
  let v1343 : BitVec 32 := Scalar.muli v1342 c128_i32_499
  v1343
def k0_mult28 (i : grid0.Coords) : BitVec 32 :=
  let arg1 : BitVec 32 := BitVec.ofNat 32 (i 1).val
  let c256_i32 : BitVec 32 := 256#32
  let v34 : BitVec 32 := Scalar.muli arg1 c256_i32
  let c64_i32_475 : BitVec 32 := 64#32
  let v1285 : BitVec 32 := Scalar.addi v34 c64_i32_475
  let v1286 : BitVec 32 := v1285
  let c0_i32_540 : BitVec 32 := 0#32
  let v1456 : BitVec 1 := Scalar.cmpi .sgt v1286 c0_i32_540
  let v1457 : BitVec 32 := Scalar.extui v1456
  let c0_i32_541 : BitVec 32 := 0#32
  let v1458 : BitVec 1 := Scalar.cmpi .slt v1286 c0_i32_541
  let v1459 : BitVec 32 := Scalar.extui v1458
  let v1460 : BitVec 32 := Scalar.subi v1457 v1459
  let c8_i32_539 : BitVec 32 := 8#32
  let c0_i32_542 : BitVec 32 := 0#32
  let v1461 : BitVec 1 := Scalar.cmpi .sgt c8_i32_539 c0_i32_542
  let v1462 : BitVec 32 := Scalar.extui v1461
  let c0_i32_543 : BitVec 32 := 0#32
  let v1463 : BitVec 1 := Scalar.cmpi .slt c8_i32_539 c0_i32_543
  let v1464 : BitVec 32 := Scalar.extui v1463
  let v1465 : BitVec 32 := Scalar.subi v1462 v1464
  let v1466 : BitVec 1 := Scalar.cmpi .ne v1460 v1465
  let v1467 : BitVec 32 := Scalar.remsi v1286 c8_i32_539
  let c0_i32_544 : BitVec 32 := 0#32
  let v1468 : BitVec 1 := Scalar.cmpi .ne v1467 c0_i32_544
  let v1469 : BitVec 1 := Scalar.andi v1466 v1468
  let v1455 : BitVec 32 := Scalar.divsi v1286 c8_i32_539
  let c1_i32_545 : BitVec 32 := 1#32
  let v1470 : BitVec 32 := Scalar.subi v1455 c1_i32_545
  let v1471 : BitVec 32 := Scalar.select v1469 v1470 v1455
  let c0_i32_547 : BitVec 32 := 0#32
  let v1473 : BitVec 1 := Scalar.cmpi .sgt v1471 c0_i32_547
  let v1474 : BitVec 32 := Scalar.extui v1473
  let c0_i32_548 : BitVec 32 := 0#32
  let v1475 : BitVec 1 := Scalar.cmpi .slt v1471 c0_i32_548
  let v1476 : BitVec 32 := Scalar.extui v1475
  let v1477 : BitVec 32 := Scalar.subi v1474 v1476
  let c128_i32_546 : BitVec 32 := 128#32
  let c0_i32_549 : BitVec 32 := 0#32
  let v1478 : BitVec 1 := Scalar.cmpi .sgt c128_i32_546 c0_i32_549
  let v1479 : BitVec 32 := Scalar.extui v1478
  let c0_i32_550 : BitVec 32 := 0#32
  let v1480 : BitVec 1 := Scalar.cmpi .slt c128_i32_546 c0_i32_550
  let v1481 : BitVec 32 := Scalar.extui v1480
  let v1482 : BitVec 32 := Scalar.subi v1479 v1481
  let v1483 : BitVec 1 := Scalar.cmpi .ne v1477 v1482
  let v1484 : BitVec 32 := Scalar.remsi v1471 c128_i32_546
  let c0_i32_551 : BitVec 32 := 0#32
  let v1485 : BitVec 1 := Scalar.cmpi .ne v1484 c0_i32_551
  let v1486 : BitVec 1 := Scalar.andi v1483 v1485
  let v1472 : BitVec 32 := Scalar.divsi v1471 c128_i32_546
  let c1_i32_552 : BitVec 32 := 1#32
  let v1487 : BitVec 32 := Scalar.subi v1472 c1_i32_552
  let v1488 : BitVec 32 := Scalar.select v1486 v1487 v1472
  let c128_i32_553 : BitVec 32 := 128#32
  let v1489 : BitVec 32 := Scalar.muli v1488 c128_i32_553
  v1489
def k0_mult29 (i : grid0.Coords) : BitVec 32 :=
  let arg1 : BitVec 32 := BitVec.ofNat 32 (i 1).val
  let c256_i32 : BitVec 32 := 256#32
  let v34 : BitVec 32 := Scalar.muli arg1 c256_i32
  let c128_i32_966 : BitVec 32 := 128#32
  let v2541 : BitVec 32 := Scalar.addi v34 c128_i32_966
  v2541
def k0_mult30 (i : grid0.Coords) : BitVec 32 :=
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32_967 : BitVec 32 := 16#32
  let v2543 : BitVec 32 := Scalar.muli v7 c16_i32_967
  let c0_i32_969 : BitVec 32 := 0#32
  let v2545 : BitVec 1 := Scalar.cmpi .sgt v2543 c0_i32_969
  let v2546 : BitVec 32 := Scalar.extui v2545
  let c0_i32_970 : BitVec 32 := 0#32
  let v2547 : BitVec 1 := Scalar.cmpi .slt v2543 c0_i32_970
  let v2548 : BitVec 32 := Scalar.extui v2547
  let v2549 : BitVec 32 := Scalar.subi v2546 v2548
  let c128_i32_968 : BitVec 32 := 128#32
  let c0_i32_971 : BitVec 32 := 0#32
  let v2550 : BitVec 1 := Scalar.cmpi .sgt c128_i32_968 c0_i32_971
  let v2551 : BitVec 32 := Scalar.extui v2550
  let c0_i32_972 : BitVec 32 := 0#32
  let v2552 : BitVec 1 := Scalar.cmpi .slt c128_i32_968 c0_i32_972
  let v2553 : BitVec 32 := Scalar.extui v2552
  let v2554 : BitVec 32 := Scalar.subi v2551 v2553
  let v2555 : BitVec 1 := Scalar.cmpi .ne v2549 v2554
  let v2556 : BitVec 32 := Scalar.remsi v2543 c128_i32_968
  let c0_i32_973 : BitVec 32 := 0#32
  let v2557 : BitVec 1 := Scalar.cmpi .ne v2556 c0_i32_973
  let v2558 : BitVec 1 := Scalar.andi v2555 v2557
  let v2544 : BitVec 32 := Scalar.divsi v2543 c128_i32_968
  let c1_i32_974 : BitVec 32 := 1#32
  let v2559 : BitVec 32 := Scalar.subi v2544 c1_i32_974
  let v2560 : BitVec 32 := Scalar.select v2558 v2559 v2544
  let c128_i32_975 : BitVec 32 := 128#32
  let v2561 : BitVec 32 := Scalar.muli v2560 c128_i32_975
  v2561
def k0_off39 (i : grid0.Coords) : Fin 2 → Nat :=
  let c128_976 : Index := 128#32
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32_967 : BitVec 32 := 16#32
  let v2543 : BitVec 32 := Scalar.muli v7 c16_i32_967
  let c0_i32_969 : BitVec 32 := 0#32
  let v2545 : BitVec 1 := Scalar.cmpi .sgt v2543 c0_i32_969
  let v2546 : BitVec 32 := Scalar.extui v2545
  let c0_i32_970 : BitVec 32 := 0#32
  let v2547 : BitVec 1 := Scalar.cmpi .slt v2543 c0_i32_970
  let v2548 : BitVec 32 := Scalar.extui v2547
  let v2549 : BitVec 32 := Scalar.subi v2546 v2548
  let c128_i32_968 : BitVec 32 := 128#32
  let c0_i32_971 : BitVec 32 := 0#32
  let v2550 : BitVec 1 := Scalar.cmpi .sgt c128_i32_968 c0_i32_971
  let v2551 : BitVec 32 := Scalar.extui v2550
  let c0_i32_972 : BitVec 32 := 0#32
  let v2552 : BitVec 1 := Scalar.cmpi .slt c128_i32_968 c0_i32_972
  let v2553 : BitVec 32 := Scalar.extui v2552
  let v2554 : BitVec 32 := Scalar.subi v2551 v2553
  let v2555 : BitVec 1 := Scalar.cmpi .ne v2549 v2554
  let v2556 : BitVec 32 := Scalar.remsi v2543 c128_i32_968
  let c0_i32_973 : BitVec 32 := 0#32
  let v2557 : BitVec 1 := Scalar.cmpi .ne v2556 c0_i32_973
  let v2558 : BitVec 1 := Scalar.andi v2555 v2557
  let v2544 : BitVec 32 := Scalar.divsi v2543 c128_i32_968
  let c1_i32_974 : BitVec 32 := 1#32
  let v2559 : BitVec 32 := Scalar.subi v2544 c1_i32_974
  let v2560 : BitVec 32 := Scalar.select v2558 v2559 v2544
  let c128_i32_975 : BitVec 32 := 128#32
  let v2561 : BitVec 32 := Scalar.muli v2560 c128_i32_975
  let v2562 : BitVec 32 := v2561
  let v2563 : Index := Scalar.indexCast v2562
  ![128, v2563.toNat]
def k0_mult31 (i : grid0.Coords) : BitVec 32 :=
  let arg1 : BitVec 32 := BitVec.ofNat 32 (i 1).val
  let c256_i32 : BitVec 32 := 256#32
  let v34 : BitVec 32 := Scalar.muli arg1 c256_i32
  let c128_i32_966 : BitVec 32 := 128#32
  let v2541 : BitVec 32 := Scalar.addi v34 c128_i32_966
  let v2542 : BitVec 32 := v2541
  let c0_i32_978 : BitVec 32 := 0#32
  let v2566 : BitVec 1 := Scalar.cmpi .sgt v2542 c0_i32_978
  let v2567 : BitVec 32 := Scalar.extui v2566
  let c0_i32_979 : BitVec 32 := 0#32
  let v2568 : BitVec 1 := Scalar.cmpi .slt v2542 c0_i32_979
  let v2569 : BitVec 32 := Scalar.extui v2568
  let v2570 : BitVec 32 := Scalar.subi v2567 v2569
  let c8_i32_977 : BitVec 32 := 8#32
  let c0_i32_980 : BitVec 32 := 0#32
  let v2571 : BitVec 1 := Scalar.cmpi .sgt c8_i32_977 c0_i32_980
  let v2572 : BitVec 32 := Scalar.extui v2571
  let c0_i32_981 : BitVec 32 := 0#32
  let v2573 : BitVec 1 := Scalar.cmpi .slt c8_i32_977 c0_i32_981
  let v2574 : BitVec 32 := Scalar.extui v2573
  let v2575 : BitVec 32 := Scalar.subi v2572 v2574
  let v2576 : BitVec 1 := Scalar.cmpi .ne v2570 v2575
  let v2577 : BitVec 32 := Scalar.remsi v2542 c8_i32_977
  let c0_i32_982 : BitVec 32 := 0#32
  let v2578 : BitVec 1 := Scalar.cmpi .ne v2577 c0_i32_982
  let v2579 : BitVec 1 := Scalar.andi v2576 v2578
  let v2565 : BitVec 32 := Scalar.divsi v2542 c8_i32_977
  let c1_i32_983 : BitVec 32 := 1#32
  let v2580 : BitVec 32 := Scalar.subi v2565 c1_i32_983
  let v2581 : BitVec 32 := Scalar.select v2579 v2580 v2565
  let c0_i32_985 : BitVec 32 := 0#32
  let v2583 : BitVec 1 := Scalar.cmpi .sgt v2581 c0_i32_985
  let v2584 : BitVec 32 := Scalar.extui v2583
  let c0_i32_986 : BitVec 32 := 0#32
  let v2585 : BitVec 1 := Scalar.cmpi .slt v2581 c0_i32_986
  let v2586 : BitVec 32 := Scalar.extui v2585
  let v2587 : BitVec 32 := Scalar.subi v2584 v2586
  let c128_i32_984 : BitVec 32 := 128#32
  let c0_i32_987 : BitVec 32 := 0#32
  let v2588 : BitVec 1 := Scalar.cmpi .sgt c128_i32_984 c0_i32_987
  let v2589 : BitVec 32 := Scalar.extui v2588
  let c0_i32_988 : BitVec 32 := 0#32
  let v2590 : BitVec 1 := Scalar.cmpi .slt c128_i32_984 c0_i32_988
  let v2591 : BitVec 32 := Scalar.extui v2590
  let v2592 : BitVec 32 := Scalar.subi v2589 v2591
  let v2593 : BitVec 1 := Scalar.cmpi .ne v2587 v2592
  let v2594 : BitVec 32 := Scalar.remsi v2581 c128_i32_984
  let c0_i32_989 : BitVec 32 := 0#32
  let v2595 : BitVec 1 := Scalar.cmpi .ne v2594 c0_i32_989
  let v2596 : BitVec 1 := Scalar.andi v2593 v2595
  let v2582 : BitVec 32 := Scalar.divsi v2581 c128_i32_984
  let c1_i32_990 : BitVec 32 := 1#32
  let v2597 : BitVec 32 := Scalar.subi v2582 c1_i32_990
  let v2598 : BitVec 32 := Scalar.select v2596 v2597 v2582
  let c128_i32_991 : BitVec 32 := 128#32
  let v2599 : BitVec 32 := Scalar.muli v2598 c128_i32_991
  v2599
def k0_mult32 (i : grid0.Coords) : BitVec 32 :=
  let arg1 : BitVec 32 := BitVec.ofNat 32 (i 1).val
  let c256_i32 : BitVec 32 := 256#32
  let v34 : BitVec 32 := Scalar.muli arg1 c256_i32
  let c128_i32_966 : BitVec 32 := 128#32
  let v2541 : BitVec 32 := Scalar.addi v34 c128_i32_966
  let v2542 : BitVec 32 := v2541
  let c0_i32_1032 : BitVec 32 := 0#32
  let v2712 : BitVec 1 := Scalar.cmpi .sgt v2542 c0_i32_1032
  let v2713 : BitVec 32 := Scalar.extui v2712
  let c0_i32_1033 : BitVec 32 := 0#32
  let v2714 : BitVec 1 := Scalar.cmpi .slt v2542 c0_i32_1033
  let v2715 : BitVec 32 := Scalar.extui v2714
  let v2716 : BitVec 32 := Scalar.subi v2713 v2715
  let c8_i32_1031 : BitVec 32 := 8#32
  let c0_i32_1034 : BitVec 32 := 0#32
  let v2717 : BitVec 1 := Scalar.cmpi .sgt c8_i32_1031 c0_i32_1034
  let v2718 : BitVec 32 := Scalar.extui v2717
  let c0_i32_1035 : BitVec 32 := 0#32
  let v2719 : BitVec 1 := Scalar.cmpi .slt c8_i32_1031 c0_i32_1035
  let v2720 : BitVec 32 := Scalar.extui v2719
  let v2721 : BitVec 32 := Scalar.subi v2718 v2720
  let v2722 : BitVec 1 := Scalar.cmpi .ne v2716 v2721
  let v2723 : BitVec 32 := Scalar.remsi v2542 c8_i32_1031
  let c0_i32_1036 : BitVec 32 := 0#32
  let v2724 : BitVec 1 := Scalar.cmpi .ne v2723 c0_i32_1036
  let v2725 : BitVec 1 := Scalar.andi v2722 v2724
  let v2711 : BitVec 32 := Scalar.divsi v2542 c8_i32_1031
  let c1_i32_1037 : BitVec 32 := 1#32
  let v2726 : BitVec 32 := Scalar.subi v2711 c1_i32_1037
  let v2727 : BitVec 32 := Scalar.select v2725 v2726 v2711
  let c0_i32_1039 : BitVec 32 := 0#32
  let v2729 : BitVec 1 := Scalar.cmpi .sgt v2727 c0_i32_1039
  let v2730 : BitVec 32 := Scalar.extui v2729
  let c0_i32_1040 : BitVec 32 := 0#32
  let v2731 : BitVec 1 := Scalar.cmpi .slt v2727 c0_i32_1040
  let v2732 : BitVec 32 := Scalar.extui v2731
  let v2733 : BitVec 32 := Scalar.subi v2730 v2732
  let c128_i32_1038 : BitVec 32 := 128#32
  let c0_i32_1041 : BitVec 32 := 0#32
  let v2734 : BitVec 1 := Scalar.cmpi .sgt c128_i32_1038 c0_i32_1041
  let v2735 : BitVec 32 := Scalar.extui v2734
  let c0_i32_1042 : BitVec 32 := 0#32
  let v2736 : BitVec 1 := Scalar.cmpi .slt c128_i32_1038 c0_i32_1042
  let v2737 : BitVec 32 := Scalar.extui v2736
  let v2738 : BitVec 32 := Scalar.subi v2735 v2737
  let v2739 : BitVec 1 := Scalar.cmpi .ne v2733 v2738
  let v2740 : BitVec 32 := Scalar.remsi v2727 c128_i32_1038
  let c0_i32_1043 : BitVec 32 := 0#32
  let v2741 : BitVec 1 := Scalar.cmpi .ne v2740 c0_i32_1043
  let v2742 : BitVec 1 := Scalar.andi v2739 v2741
  let v2728 : BitVec 32 := Scalar.divsi v2727 c128_i32_1038
  let c1_i32_1044 : BitVec 32 := 1#32
  let v2743 : BitVec 32 := Scalar.subi v2728 c1_i32_1044
  let v2744 : BitVec 32 := Scalar.select v2742 v2743 v2728
  let c128_i32_1045 : BitVec 32 := 128#32
  let v2745 : BitVec 32 := Scalar.muli v2744 c128_i32_1045
  v2745
def k0_mult33 (i : grid0.Coords) : BitVec 32 :=
  let arg1 : BitVec 32 := BitVec.ofNat 32 (i 1).val
  let c256_i32 : BitVec 32 := 256#32
  let v34 : BitVec 32 := Scalar.muli arg1 c256_i32
  let c192_i32 : BitVec 32 := 192#32
  let v3791 : BitVec 32 := Scalar.addi v34 c192_i32
  v3791
def k0_mult34 (i : grid0.Coords) : BitVec 32 :=
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32_1451 : BitVec 32 := 16#32
  let v3793 : BitVec 32 := Scalar.muli v7 c16_i32_1451
  let c0_i32_1453 : BitVec 32 := 0#32
  let v3795 : BitVec 1 := Scalar.cmpi .sgt v3793 c0_i32_1453
  let v3796 : BitVec 32 := Scalar.extui v3795
  let c0_i32_1454 : BitVec 32 := 0#32
  let v3797 : BitVec 1 := Scalar.cmpi .slt v3793 c0_i32_1454
  let v3798 : BitVec 32 := Scalar.extui v3797
  let v3799 : BitVec 32 := Scalar.subi v3796 v3798
  let c128_i32_1452 : BitVec 32 := 128#32
  let c0_i32_1455 : BitVec 32 := 0#32
  let v3800 : BitVec 1 := Scalar.cmpi .sgt c128_i32_1452 c0_i32_1455
  let v3801 : BitVec 32 := Scalar.extui v3800
  let c0_i32_1456 : BitVec 32 := 0#32
  let v3802 : BitVec 1 := Scalar.cmpi .slt c128_i32_1452 c0_i32_1456
  let v3803 : BitVec 32 := Scalar.extui v3802
  let v3804 : BitVec 32 := Scalar.subi v3801 v3803
  let v3805 : BitVec 1 := Scalar.cmpi .ne v3799 v3804
  let v3806 : BitVec 32 := Scalar.remsi v3793 c128_i32_1452
  let c0_i32_1457 : BitVec 32 := 0#32
  let v3807 : BitVec 1 := Scalar.cmpi .ne v3806 c0_i32_1457
  let v3808 : BitVec 1 := Scalar.andi v3805 v3807
  let v3794 : BitVec 32 := Scalar.divsi v3793 c128_i32_1452
  let c1_i32_1458 : BitVec 32 := 1#32
  let v3809 : BitVec 32 := Scalar.subi v3794 c1_i32_1458
  let v3810 : BitVec 32 := Scalar.select v3808 v3809 v3794
  let c128_i32_1459 : BitVec 32 := 128#32
  let v3811 : BitVec 32 := Scalar.muli v3810 c128_i32_1459
  v3811
def k0_off40 (i : grid0.Coords) : Fin 2 → Nat :=
  let c192 : Index := 192#32
  let arg0 : BitVec 32 := BitVec.ofNat 32 (i 0).val
  let c1_i32 : BitVec 32 := 1#32
  let v6 : BitVec 32 := Scalar.addi arg0 c1_i32
  let c13_i32 : BitVec 32 := 13#32
  let v7 : BitVec 32 := Scalar.minsi v6 c13_i32
  let c16_i32_1451 : BitVec 32 := 16#32
  let v3793 : BitVec 32 := Scalar.muli v7 c16_i32_1451
  let c0_i32_1453 : BitVec 32 := 0#32
  let v3795 : BitVec 1 := Scalar.cmpi .sgt v3793 c0_i32_1453
  let v3796 : BitVec 32 := Scalar.extui v3795
  let c0_i32_1454 : BitVec 32 := 0#32
  let v3797 : BitVec 1 := Scalar.cmpi .slt v3793 c0_i32_1454
  let v3798 : BitVec 32 := Scalar.extui v3797
  let v3799 : BitVec 32 := Scalar.subi v3796 v3798
  let c128_i32_1452 : BitVec 32 := 128#32
  let c0_i32_1455 : BitVec 32 := 0#32
  let v3800 : BitVec 1 := Scalar.cmpi .sgt c128_i32_1452 c0_i32_1455
  let v3801 : BitVec 32 := Scalar.extui v3800
  let c0_i32_1456 : BitVec 32 := 0#32
  let v3802 : BitVec 1 := Scalar.cmpi .slt c128_i32_1452 c0_i32_1456
  let v3803 : BitVec 32 := Scalar.extui v3802
  let v3804 : BitVec 32 := Scalar.subi v3801 v3803
  let v3805 : BitVec 1 := Scalar.cmpi .ne v3799 v3804
  let v3806 : BitVec 32 := Scalar.remsi v3793 c128_i32_1452
  let c0_i32_1457 : BitVec 32 := 0#32
  let v3807 : BitVec 1 := Scalar.cmpi .ne v3806 c0_i32_1457
  let v3808 : BitVec 1 := Scalar.andi v3805 v3807
  let v3794 : BitVec 32 := Scalar.divsi v3793 c128_i32_1452
  let c1_i32_1458 : BitVec 32 := 1#32
  let v3809 : BitVec 32 := Scalar.subi v3794 c1_i32_1458
  let v3810 : BitVec 32 := Scalar.select v3808 v3809 v3794
  let c128_i32_1459 : BitVec 32 := 128#32
  let v3811 : BitVec 32 := Scalar.muli v3810 c128_i32_1459
  let v3812 : BitVec 32 := v3811
  let v3813 : Index := Scalar.indexCast v3812
  ![192, v3813.toNat]
def k0_mult35 (i : grid0.Coords) : BitVec 32 :=
  let arg1 : BitVec 32 := BitVec.ofNat 32 (i 1).val
  let c256_i32 : BitVec 32 := 256#32
  let v34 : BitVec 32 := Scalar.muli arg1 c256_i32
  let c192_i32 : BitVec 32 := 192#32
  let v3791 : BitVec 32 := Scalar.addi v34 c192_i32
  let v3792 : BitVec 32 := v3791
  let c0_i32_1461 : BitVec 32 := 0#32
  let v3816 : BitVec 1 := Scalar.cmpi .sgt v3792 c0_i32_1461
  let v3817 : BitVec 32 := Scalar.extui v3816
  let c0_i32_1462 : BitVec 32 := 0#32
  let v3818 : BitVec 1 := Scalar.cmpi .slt v3792 c0_i32_1462
  let v3819 : BitVec 32 := Scalar.extui v3818
  let v3820 : BitVec 32 := Scalar.subi v3817 v3819
  let c8_i32_1460 : BitVec 32 := 8#32
  let c0_i32_1463 : BitVec 32 := 0#32
  let v3821 : BitVec 1 := Scalar.cmpi .sgt c8_i32_1460 c0_i32_1463
  let v3822 : BitVec 32 := Scalar.extui v3821
  let c0_i32_1464 : BitVec 32 := 0#32
  let v3823 : BitVec 1 := Scalar.cmpi .slt c8_i32_1460 c0_i32_1464
  let v3824 : BitVec 32 := Scalar.extui v3823
  let v3825 : BitVec 32 := Scalar.subi v3822 v3824
  let v3826 : BitVec 1 := Scalar.cmpi .ne v3820 v3825
  let v3827 : BitVec 32 := Scalar.remsi v3792 c8_i32_1460
  let c0_i32_1465 : BitVec 32 := 0#32
  let v3828 : BitVec 1 := Scalar.cmpi .ne v3827 c0_i32_1465
  let v3829 : BitVec 1 := Scalar.andi v3826 v3828
  let v3815 : BitVec 32 := Scalar.divsi v3792 c8_i32_1460
  let c1_i32_1466 : BitVec 32 := 1#32
  let v3830 : BitVec 32 := Scalar.subi v3815 c1_i32_1466
  let v3831 : BitVec 32 := Scalar.select v3829 v3830 v3815
  let c0_i32_1468 : BitVec 32 := 0#32
  let v3833 : BitVec 1 := Scalar.cmpi .sgt v3831 c0_i32_1468
  let v3834 : BitVec 32 := Scalar.extui v3833
  let c0_i32_1469 : BitVec 32 := 0#32
  let v3835 : BitVec 1 := Scalar.cmpi .slt v3831 c0_i32_1469
  let v3836 : BitVec 32 := Scalar.extui v3835
  let v3837 : BitVec 32 := Scalar.subi v3834 v3836
  let c128_i32_1467 : BitVec 32 := 128#32
  let c0_i32_1470 : BitVec 32 := 0#32
  let v3838 : BitVec 1 := Scalar.cmpi .sgt c128_i32_1467 c0_i32_1470
  let v3839 : BitVec 32 := Scalar.extui v3838
  let c0_i32_1471 : BitVec 32 := 0#32
  let v3840 : BitVec 1 := Scalar.cmpi .slt c128_i32_1467 c0_i32_1471
  let v3841 : BitVec 32 := Scalar.extui v3840
  let v3842 : BitVec 32 := Scalar.subi v3839 v3841
  let v3843 : BitVec 1 := Scalar.cmpi .ne v3837 v3842
  let v3844 : BitVec 32 := Scalar.remsi v3831 c128_i32_1467
  let c0_i32_1472 : BitVec 32 := 0#32
  let v3845 : BitVec 1 := Scalar.cmpi .ne v3844 c0_i32_1472
  let v3846 : BitVec 1 := Scalar.andi v3843 v3845
  let v3832 : BitVec 32 := Scalar.divsi v3831 c128_i32_1467
  let c1_i32_1473 : BitVec 32 := 1#32
  let v3847 : BitVec 32 := Scalar.subi v3832 c1_i32_1473
  let v3848 : BitVec 32 := Scalar.select v3846 v3847 v3832
  let c128_i32_1474 : BitVec 32 := 128#32
  let v3849 : BitVec 32 := Scalar.muli v3848 c128_i32_1474
  v3849
def k0_mult36 (i : grid0.Coords) : BitVec 32 :=
  let arg1 : BitVec 32 := BitVec.ofNat 32 (i 1).val
  let c256_i32 : BitVec 32 := 256#32
  let v34 : BitVec 32 := Scalar.muli arg1 c256_i32
  let c192_i32 : BitVec 32 := 192#32
  let v3791 : BitVec 32 := Scalar.addi v34 c192_i32
  let v3792 : BitVec 32 := v3791
  let c0_i32_1515 : BitVec 32 := 0#32
  let v3962 : BitVec 1 := Scalar.cmpi .sgt v3792 c0_i32_1515
  let v3963 : BitVec 32 := Scalar.extui v3962
  let c0_i32_1516 : BitVec 32 := 0#32
  let v3964 : BitVec 1 := Scalar.cmpi .slt v3792 c0_i32_1516
  let v3965 : BitVec 32 := Scalar.extui v3964
  let v3966 : BitVec 32 := Scalar.subi v3963 v3965
  let c8_i32_1514 : BitVec 32 := 8#32
  let c0_i32_1517 : BitVec 32 := 0#32
  let v3967 : BitVec 1 := Scalar.cmpi .sgt c8_i32_1514 c0_i32_1517
  let v3968 : BitVec 32 := Scalar.extui v3967
  let c0_i32_1518 : BitVec 32 := 0#32
  let v3969 : BitVec 1 := Scalar.cmpi .slt c8_i32_1514 c0_i32_1518
  let v3970 : BitVec 32 := Scalar.extui v3969
  let v3971 : BitVec 32 := Scalar.subi v3968 v3970
  let v3972 : BitVec 1 := Scalar.cmpi .ne v3966 v3971
  let v3973 : BitVec 32 := Scalar.remsi v3792 c8_i32_1514
  let c0_i32_1519 : BitVec 32 := 0#32
  let v3974 : BitVec 1 := Scalar.cmpi .ne v3973 c0_i32_1519
  let v3975 : BitVec 1 := Scalar.andi v3972 v3974
  let v3961 : BitVec 32 := Scalar.divsi v3792 c8_i32_1514
  let c1_i32_1520 : BitVec 32 := 1#32
  let v3976 : BitVec 32 := Scalar.subi v3961 c1_i32_1520
  let v3977 : BitVec 32 := Scalar.select v3975 v3976 v3961
  let c0_i32_1522 : BitVec 32 := 0#32
  let v3979 : BitVec 1 := Scalar.cmpi .sgt v3977 c0_i32_1522
  let v3980 : BitVec 32 := Scalar.extui v3979
  let c0_i32_1523 : BitVec 32 := 0#32
  let v3981 : BitVec 1 := Scalar.cmpi .slt v3977 c0_i32_1523
  let v3982 : BitVec 32 := Scalar.extui v3981
  let v3983 : BitVec 32 := Scalar.subi v3980 v3982
  let c128_i32_1521 : BitVec 32 := 128#32
  let c0_i32_1524 : BitVec 32 := 0#32
  let v3984 : BitVec 1 := Scalar.cmpi .sgt c128_i32_1521 c0_i32_1524
  let v3985 : BitVec 32 := Scalar.extui v3984
  let c0_i32_1525 : BitVec 32 := 0#32
  let v3986 : BitVec 1 := Scalar.cmpi .slt c128_i32_1521 c0_i32_1525
  let v3987 : BitVec 32 := Scalar.extui v3986
  let v3988 : BitVec 32 := Scalar.subi v3985 v3987
  let v3989 : BitVec 1 := Scalar.cmpi .ne v3983 v3988
  let v3990 : BitVec 32 := Scalar.remsi v3977 c128_i32_1521
  let c0_i32_1526 : BitVec 32 := 0#32
  let v3991 : BitVec 1 := Scalar.cmpi .ne v3990 c0_i32_1526
  let v3992 : BitVec 1 := Scalar.andi v3989 v3991
  let v3978 : BitVec 32 := Scalar.divsi v3977 c128_i32_1521
  let c1_i32_1527 : BitVec 32 := 1#32
  let v3993 : BitVec 32 := Scalar.subi v3978 c1_i32_1527
  let v3994 : BitVec 32 := Scalar.select v3992 v3993 v3978
  let c128_i32_1528 : BitVec 32 := 128#32
  let v3995 : BitVec 32 := Scalar.muli v3994 c128_i32_1528
  v3995
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c13_i32 : BitVec 32 := 13#32
  let v1 : BitVec 32 := Scalar.minsi v0 c13_i32
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x512 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4096x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S1x16384x4096 : Shape := ⟨3, ![1, 16384, 4096]⟩
abbrev S4096x7168 : Shape := ⟨2, ![4096, 7168]⟩
abbrev S4096x224 : Shape := ⟨2, ![4096, 224]⟩
abbrev S3584 : Shape := ⟨1, ![3584]⟩
abbrev S1 : Shape := ⟨1, ![1]⟩
abbrev S3584x256 : Shape := ⟨2, ![3584, 256]⟩
abbrev S3584x1 : Shape := ⟨2, ![3584, 1]⟩
abbrev S_ : Shape := ⟨0, ![]⟩
abbrev S4096x224x32 : Shape := ⟨3, ![4096, 224, 32]⟩
abbrev S4096x224x1 : Shape := ⟨3, ![4096, 224, 1]⟩
abbrev S1x16384x7168 : Shape := ⟨3, ![1, 16384, 7168]⟩
abbrev S1x16384x7168x1 : Shape := ⟨4, ![1, 16384, 7168, 1]⟩
abbrev S1x16384x7168x2 : Shape := ⟨4, ![1, 16384, 7168, 2]⟩
abbrev S1x16384x14336 : Shape := ⟨3, ![1, 16384, 14336]⟩

abbrev nBuf : Space → Nat
  | .hbm => 214
  | .vmem => 0
  | .smem => 0
  | _ => 0

abbrev hbmTy0_0 (i : Nat) : BufTy := match i % 128 with
  | 0 => ⟨S1x16384x4096, .bf16⟩
  | 1 => ⟨S4096x7168, .i8⟩
  | 2 => ⟨S4096x224, .i8⟩
  | 3 => ⟨S3584, .f32⟩
  | 4 => ⟨S1, .f32⟩
  | 5 => ⟨S4096x224, .i32⟩
  | 6 => ⟨S4096x224, .f32⟩
  | 7 => ⟨S3584x256, .f32⟩
  | 8 => ⟨S3584x1, .f32⟩
  | 9 => ⟨S3584x256, .f32⟩
  | 10 => ⟨S3584x256, .f32⟩
  | 11 => ⟨S_, .f32⟩
  | 12 => ⟨S3584x256, .f32⟩
  | 13 => ⟨S3584x256, .f32⟩
  | 14 => ⟨S4096x224, .f32⟩
  | 15 => ⟨S4096x224, .bf16⟩
  | 16 => ⟨S4096x7168, .i32⟩
  | 17 => ⟨S_, .i32⟩
  | 18 => ⟨S4096x7168, .i32⟩
  | 19 => ⟨S4096x7168, .i32⟩
  | 20 => ⟨S_, .i32⟩
  | 21 => ⟨S4096x7168, .i32⟩
  | 22 => ⟨S4096x7168, .i32⟩
  | 23 => ⟨S_, .i32⟩
  | 24 => ⟨S4096x7168, .i32⟩
  | 25 => ⟨S4096x7168, .i32⟩
  | 26 => ⟨S_, .i32⟩
  | 27 => ⟨S4096x7168, .i32⟩
  | 28 => ⟨S4096x7168, .i32⟩
  | 29 => ⟨S_, .i32⟩
  | 30 => ⟨S4096x7168, .i32⟩
  | 31 => ⟨S4096x7168, .i1⟩
  | 32 => ⟨S4096x7168, .i1⟩
  | 33 => ⟨S_, .i32⟩
  | 34 => ⟨S4096x7168, .i32⟩
  | 35 => ⟨S4096x7168, .i32⟩
  | 36 => ⟨S_, .i32⟩
  | 37 => ⟨S4096x7168, .i32⟩
  | 38 => ⟨S4096x7168, .i32⟩
  | 39 => ⟨S_, .i32⟩
  | 40 => ⟨S4096x7168, .i32⟩
  | 41 => ⟨S4096x7168, .i1⟩
  | 42 => ⟨S4096x7168, .i1⟩
  | 43 => ⟨S_, .i32⟩
  | 44 => ⟨S4096x7168, .i32⟩
  | 45 => ⟨S4096x7168, .i32⟩
  | 46 => ⟨S_, .i32⟩
  | 47 => ⟨S4096x7168, .i32⟩
  | 48 => ⟨S4096x7168, .i32⟩
  | 49 => ⟨S_, .i32⟩
  | 50 => ⟨S4096x7168, .i32⟩
  | 51 => ⟨S4096x7168, .i1⟩
  | 52 => ⟨S4096x7168, .i1⟩
  | 53 => ⟨S_, .i32⟩
  | 54 => ⟨S4096x7168, .i32⟩
  | 55 => ⟨S4096x7168, .i32⟩
  | 56 => ⟨S_, .i32⟩
  | 57 => ⟨S4096x7168, .i32⟩
  | 58 => ⟨S4096x7168, .i32⟩
  | 59 => ⟨S_, .i32⟩
  | 60 => ⟨S4096x7168, .i32⟩
  | 61 => ⟨S4096x7168, .i1⟩
  | 62 => ⟨S4096x7168, .i1⟩
  | 63 => ⟨S_, .bf16⟩
  | 64 => ⟨S_, .bf16⟩
  | 65 => ⟨S4096x7168, .bf16⟩
  | 66 => ⟨S4096x7168, .bf16⟩
  | 67 => ⟨S4096x7168, .bf16⟩
  | 68 => ⟨S_, .bf16⟩
  | 69 => ⟨S_, .bf16⟩
  | 70 => ⟨S4096x7168, .bf16⟩
  | 71 => ⟨S4096x7168, .bf16⟩
  | 72 => ⟨S4096x7168, .bf16⟩
  | 73 => ⟨S4096x7168, .bf16⟩
  | 74 => ⟨S_, .bf16⟩
  | 75 => ⟨S_, .bf16⟩
  | 76 => ⟨S4096x7168, .bf16⟩
  | 77 => ⟨S4096x7168, .bf16⟩
  | 78 => ⟨S4096x7168, .bf16⟩
  | 79 => ⟨S_, .bf16⟩
  | 80 => ⟨S_, .bf16⟩
  | 81 => ⟨S4096x7168, .bf16⟩
  | 82 => ⟨S4096x7168, .bf16⟩
  | 83 => ⟨S4096x7168, .bf16⟩
  | 84 => ⟨S4096x7168, .bf16⟩
  | 85 => ⟨S4096x7168, .bf16⟩
  | 86 => ⟨S_, .bf16⟩
  | 87 => ⟨S_, .bf16⟩
  | 88 => ⟨S4096x7168, .bf16⟩
  | 89 => ⟨S4096x7168, .bf16⟩
  | 90 => ⟨S4096x7168, .bf16⟩
  | 91 => ⟨S_, .bf16⟩
  | 92 => ⟨S_, .bf16⟩
  | 93 => ⟨S4096x7168, .bf16⟩
  | 94 => ⟨S4096x7168, .bf16⟩
  | 95 => ⟨S4096x7168, .bf16⟩
  | 96 => ⟨S4096x7168, .bf16⟩
  | 97 => ⟨S_, .bf16⟩
  | 98 => ⟨S_, .bf16⟩
  | 99 => ⟨S4096x7168, .bf16⟩
  | 100 => ⟨S4096x7168, .bf16⟩
  | 101 => ⟨S4096x7168, .bf16⟩
  | 102 => ⟨S_, .bf16⟩
  | 103 => ⟨S_, .bf16⟩
  | 104 => ⟨S4096x7168, .bf16⟩
  | 105 => ⟨S4096x7168, .bf16⟩
  | 106 => ⟨S4096x7168, .bf16⟩
  | 107 => ⟨S4096x7168, .bf16⟩
  | 108 => ⟨S4096x7168, .bf16⟩
  | 109 => ⟨S4096x7168, .bf16⟩
  | 110 => ⟨S4096x224x32, .bf16⟩
  | 111 => ⟨S4096x224x1, .bf16⟩
  | 112 => ⟨S4096x224x32, .bf16⟩
  | 113 => ⟨S4096x224x32, .bf16⟩
  | 114 => ⟨S4096x7168, .bf16⟩
  | 115 => ⟨S_, .i32⟩
  | 116 => ⟨S4096x7168, .i32⟩
  | 117 => ⟨S4096x7168, .i32⟩
  | 118 => ⟨S_, .i32⟩
  | 119 => ⟨S4096x7168, .i32⟩
  | 120 => ⟨S4096x7168, .i32⟩
  | 121 => ⟨S_, .i32⟩
  | 122 => ⟨S4096x7168, .i32⟩
  | 123 => ⟨S4096x7168, .i1⟩
  | 124 => ⟨S4096x7168, .i1⟩
  | 125 => ⟨S_, .i32⟩
  | 126 => ⟨S4096x7168, .i32⟩
  | 127 => ⟨S4096x7168, .i32⟩
  | _ => ⟨S1x16384x4096, .bf16⟩

abbrev hbmTy0_1 (i : Nat) : BufTy := match i % 128 with
  | 0 => ⟨S_, .i32⟩
  | 1 => ⟨S4096x7168, .i32⟩
  | 2 => ⟨S4096x7168, .i32⟩
  | 3 => ⟨S_, .i32⟩
  | 4 => ⟨S4096x7168, .i32⟩
  | 5 => ⟨S4096x7168, .i1⟩
  | 6 => ⟨S4096x7168, .i1⟩
  | 7 => ⟨S_, .i32⟩
  | 8 => ⟨S4096x7168, .i32⟩
  | 9 => ⟨S4096x7168, .i32⟩
  | 10 => ⟨S_, .i32⟩
  | 11 => ⟨S4096x7168, .i32⟩
  | 12 => ⟨S4096x7168, .i32⟩
  | 13 => ⟨S_, .i32⟩
  | 14 => ⟨S4096x7168, .i32⟩
  | 15 => ⟨S4096x7168, .i1⟩
  | 16 => ⟨S4096x7168, .i1⟩
  | 17 => ⟨S_, .i32⟩
  | 18 => ⟨S4096x7168, .i32⟩
  | 19 => ⟨S4096x7168, .i32⟩
  | 20 => ⟨S_, .i32⟩
  | 21 => ⟨S4096x7168, .i32⟩
  | 22 => ⟨S4096x7168, .i32⟩
  | 23 => ⟨S_, .i32⟩
  | 24 => ⟨S4096x7168, .i32⟩
  | 25 => ⟨S4096x7168, .i1⟩
  | 26 => ⟨S4096x7168, .i1⟩
  | 27 => ⟨S_, .bf16⟩
  | 28 => ⟨S_, .bf16⟩
  | 29 => ⟨S4096x7168, .bf16⟩
  | 30 => ⟨S4096x7168, .bf16⟩
  | 31 => ⟨S4096x7168, .bf16⟩
  | 32 => ⟨S_, .bf16⟩
  | 33 => ⟨S_, .bf16⟩
  | 34 => ⟨S4096x7168, .bf16⟩
  | 35 => ⟨S4096x7168, .bf16⟩
  | 36 => ⟨S4096x7168, .bf16⟩
  | 37 => ⟨S4096x7168, .bf16⟩
  | 38 => ⟨S_, .bf16⟩
  | 39 => ⟨S_, .bf16⟩
  | 40 => ⟨S4096x7168, .bf16⟩
  | 41 => ⟨S4096x7168, .bf16⟩
  | 42 => ⟨S4096x7168, .bf16⟩
  | 43 => ⟨S_, .bf16⟩
  | 44 => ⟨S_, .bf16⟩
  | 45 => ⟨S4096x7168, .bf16⟩
  | 46 => ⟨S4096x7168, .bf16⟩
  | 47 => ⟨S4096x7168, .bf16⟩
  | 48 => ⟨S4096x7168, .bf16⟩
  | 49 => ⟨S4096x7168, .bf16⟩
  | 50 => ⟨S_, .bf16⟩
  | 51 => ⟨S_, .bf16⟩
  | 52 => ⟨S4096x7168, .bf16⟩
  | 53 => ⟨S4096x7168, .bf16⟩
  | 54 => ⟨S4096x7168, .bf16⟩
  | 55 => ⟨S_, .bf16⟩
  | 56 => ⟨S_, .bf16⟩
  | 57 => ⟨S4096x7168, .bf16⟩
  | 58 => ⟨S4096x7168, .bf16⟩
  | 59 => ⟨S4096x7168, .bf16⟩
  | 60 => ⟨S4096x7168, .bf16⟩
  | 61 => ⟨S_, .bf16⟩
  | 62 => ⟨S_, .bf16⟩
  | 63 => ⟨S4096x7168, .bf16⟩
  | 64 => ⟨S4096x7168, .bf16⟩
  | 65 => ⟨S4096x7168, .bf16⟩
  | 66 => ⟨S_, .bf16⟩
  | 67 => ⟨S_, .bf16⟩
  | 68 => ⟨S4096x7168, .bf16⟩
  | 69 => ⟨S4096x7168, .bf16⟩
  | 70 => ⟨S4096x7168, .bf16⟩
  | 71 => ⟨S4096x7168, .bf16⟩
  | 72 => ⟨S4096x7168, .bf16⟩
  | 73 => ⟨S4096x7168, .bf16⟩
  | 74 => ⟨S4096x224x32, .bf16⟩
  | 75 => ⟨S4096x224x1, .bf16⟩
  | 76 => ⟨S4096x224x32, .bf16⟩
  | 77 => ⟨S4096x224x32, .bf16⟩
  | 78 => ⟨S4096x7168, .bf16⟩
  | 79 => ⟨S1x16384x7168, .f32⟩
  | 80 => ⟨S1x16384x7168, .f32⟩
  | 81 => ⟨S1x16384x7168x1, .f32⟩
  | 82 => ⟨S1x16384x7168x1, .f32⟩
  | 83 => ⟨S1x16384x7168x2, .f32⟩
  | 84 => ⟨S1x16384x14336, .f32⟩
  | 85 => ⟨S1x16384x14336, .bf16⟩
  | _ => ⟨S1x16384x4096, .bf16⟩

abbrev hbmTy (i : Nat) : BufTy := match i / 128 with
  | 0 => hbmTy0_0 i
  | 1 => hbmTy0_1 i
  | _ => ⟨S1x16384x4096, .bf16⟩

abbrev bufTy : (tb : Table) → Fin (tcTables nBuf tb) → BufTy
  | .hbm, ⟨i, _⟩ => hbmTy i
  | _, _ => ⟨S1x16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_c_11 : Ref sig .tc := ⟨.hbm, 56, rfl⟩
abbrev main_v39 : Ref sig .tc := ⟨.hbm, 57, rfl⟩
abbrev main_v40 : Ref sig .tc := ⟨.hbm, 58, rfl⟩
abbrev main_c_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst : Ref sig .tc := ⟨.hbm, 63, rfl⟩
abbrev main_cst_13 : Ref sig .tc := ⟨.hbm, 64, rfl⟩
abbrev main_call0_v0 : Ref sig .tc := ⟨.hbm, 65, rfl⟩
abbrev main_call0_v1 : Ref sig .tc := ⟨.hbm, 66, rfl⟩
abbrev main_v44 : Ref sig .tc := ⟨.hbm, 67, rfl⟩
abbrev main_cst_14 : Ref sig .tc := ⟨.hbm, 68, rfl⟩
abbrev main_cst_15 : Ref sig .tc := ⟨.hbm, 69, rfl⟩
abbrev main_call1_v0 : Ref sig .tc := ⟨.hbm, 70, rfl⟩
abbrev main_call1_v1 : Ref sig .tc := ⟨.hbm, 71, rfl⟩
abbrev main_v45 : Ref sig .tc := ⟨.hbm, 72, rfl⟩
abbrev main_v46 : Ref sig .tc := ⟨.hbm, 73, rfl⟩
abbrev main_cst_16 : Ref sig .tc := ⟨.hbm, 74, rfl⟩
abbrev main_cst_17 : Ref sig .tc := ⟨.hbm, 75, rfl⟩
abbrev main_call3_v0 : Ref sig .tc := ⟨.hbm, 76, rfl⟩
abbrev main_call3_v1 : Ref sig .tc := ⟨.hbm, 77, rfl⟩
abbrev main_v47 : Ref sig .tc := ⟨.hbm, 78, rfl⟩
abbrev main_cst_18 : Ref sig .tc := ⟨.hbm, 79, rfl⟩
abbrev main_cst_19 : Ref sig .tc := ⟨.hbm, 80, rfl⟩
abbrev main_call4_v0 : Ref sig .tc := ⟨.hbm, 81, rfl⟩
abbrev main_call4_v1 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_20 : Ref sig .tc := ⟨.hbm, 86, rfl⟩
abbrev main_cst_21 : Ref sig .tc := ⟨.hbm, 87, rfl⟩
abbrev main_call7_v0 : Ref sig .tc := ⟨.hbm, 88, rfl⟩
abbrev main_call7_v1 : Ref sig .tc := ⟨.hbm, 89, rfl⟩
abbrev main_v51 : Ref sig .tc := ⟨.hbm, 90, rfl⟩
abbrev main_cst_22 : Ref sig .tc := ⟨.hbm, 91, rfl⟩
abbrev main_cst_23 : Ref sig .tc := ⟨.hbm, 92, rfl⟩
abbrev main_call8_v0 : Ref sig .tc := ⟨.hbm, 93, rfl⟩
abbrev main_call8_v1 : Ref sig .tc := ⟨.hbm, 94, rfl⟩
abbrev main_v52 : Ref sig .tc := ⟨.hbm, 95, rfl⟩
abbrev main_v53 : Ref sig .tc := ⟨.hbm, 96, rfl⟩
abbrev main_cst_24 : Ref sig .tc := ⟨.hbm, 97, rfl⟩
abbrev main_cst_25 : Ref sig .tc := ⟨.hbm, 98, rfl⟩
abbrev main_call10_v0 : Ref sig .tc := ⟨.hbm, 99, rfl⟩
abbrev main_call10_v1 : Ref sig .tc := ⟨.hbm, 100, rfl⟩
abbrev main_v54 : Ref sig .tc := ⟨.hbm, 101, rfl⟩
abbrev main_cst_26 : Ref sig .tc := ⟨.hbm, 102, rfl⟩
abbrev main_cst_27 : Ref sig .tc := ⟨.hbm, 103, rfl⟩
abbrev main_call11_v0 : Ref sig .tc := ⟨.hbm, 104, rfl⟩
abbrev main_call11_v1 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_c_28 : Ref sig .tc := ⟨.hbm, 115, rfl⟩
abbrev main_v64 : Ref sig .tc := ⟨.hbm, 116, rfl⟩
abbrev main_v65 : Ref sig .tc := ⟨.hbm, 117, rfl⟩
abbrev main_c_29 : Ref sig .tc := ⟨.hbm, 118, rfl⟩
abbrev main_v66 : Ref sig .tc := ⟨.hbm, 119, rfl⟩
abbrev main_v67 : Ref sig .tc := ⟨.hbm, 120, rfl⟩
abbrev main_c_30 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_c_31 : Ref sig .tc := ⟨.hbm, 125, rfl⟩
abbrev main_v71 : Ref sig .tc := ⟨.hbm, 126, rfl⟩
abbrev main_v72 : Ref sig .tc := ⟨.hbm, 127, rfl⟩
abbrev main_c_32 : Ref sig .tc := ⟨.hbm, 128, rfl⟩
abbrev main_v73 : Ref sig .tc := ⟨.hbm, 129, rfl⟩
abbrev main_v74 : Ref sig .tc := ⟨.hbm, 130, rfl⟩
abbrev main_c_33 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_c_34 : Ref sig .tc := ⟨.hbm, 135, rfl⟩
abbrev main_v78 : Ref sig .tc := ⟨.hbm, 136, rfl⟩
abbrev main_v79 : Ref sig .tc := ⟨.hbm, 137, rfl⟩
abbrev main_c_35 : Ref sig .tc := ⟨.hbm, 138, rfl⟩
abbrev main_v80 : Ref sig .tc := ⟨.hbm, 139, rfl⟩
abbrev main_v81 : Ref sig .tc := ⟨.hbm, 140, rfl⟩
abbrev main_c_36 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_c_37 : Ref sig .tc := ⟨.hbm, 145, rfl⟩
abbrev main_v85 : Ref sig .tc := ⟨.hbm, 146, rfl⟩
abbrev main_v86 : Ref sig .tc := ⟨.hbm, 147, rfl⟩
abbrev main_c_38 : Ref sig .tc := ⟨.hbm, 148, rfl⟩
abbrev main_v87 : Ref sig .tc := ⟨.hbm, 149, rfl⟩
abbrev main_v88 : Ref sig .tc := ⟨.hbm, 150, rfl⟩
abbrev main_c_39 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_cst_40 : Ref sig .tc := ⟨.hbm, 155, rfl⟩
abbrev main_cst_41 : Ref sig .tc := ⟨.hbm, 156, rfl⟩
abbrev main_call15_v0 : Ref sig .tc := ⟨.hbm, 157, rfl⟩
abbrev main_call15_v1 : Ref sig .tc := ⟨.hbm, 158, rfl⟩
abbrev main_v92 : Ref sig .tc := ⟨.hbm, 159, rfl⟩
abbrev main_cst_42 : Ref sig .tc := ⟨.hbm, 160, rfl⟩
abbrev main_cst_43 : Ref sig .tc := ⟨.hbm, 161, rfl⟩
abbrev main_call16_v0 : Ref sig .tc := ⟨.hbm, 162, rfl⟩
abbrev main_call16_v1 : Ref sig .tc := ⟨.hbm, 163, rfl⟩
abbrev main_v93 : Ref sig .tc := ⟨.hbm, 164, rfl⟩
abbrev main_v94 : Ref sig .tc := ⟨.hbm, 165, rfl⟩
abbrev main_cst_44 : Ref sig .tc := ⟨.hbm, 166, rfl⟩
abbrev main_cst_45 : Ref sig .tc := ⟨.hbm, 167, rfl⟩
abbrev main_call18_v0 : Ref sig .tc := ⟨.hbm, 168, rfl⟩
abbrev main_call18_v1 : Ref sig .tc := ⟨.hbm, 169, rfl⟩
abbrev main_v95 : Ref sig .tc := ⟨.hbm, 170, rfl⟩
abbrev main_cst_46 : Ref sig .tc := ⟨.hbm, 171, rfl⟩
abbrev main_cst_47 : Ref sig .tc := ⟨.hbm, 172, rfl⟩
abbrev main_call19_v0 : Ref sig .tc := ⟨.hbm, 173, rfl⟩
abbrev main_call19_v1 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_cst_48 : Ref sig .tc := ⟨.hbm, 178, rfl⟩
abbrev main_cst_49 : Ref sig .tc := ⟨.hbm, 179, rfl⟩
abbrev main_call22_v0 : Ref sig .tc := ⟨.hbm, 180, rfl⟩
abbrev main_call22_v1 : Ref sig .tc := ⟨.hbm, 181, rfl⟩
abbrev main_v99 : Ref sig .tc := ⟨.hbm, 182, rfl⟩
abbrev main_cst_50 : Ref sig .tc := ⟨.hbm, 183, rfl⟩
abbrev main_cst_51 : Ref sig .tc := ⟨.hbm, 184, rfl⟩
abbrev main_call23_v0 : Ref sig .tc := ⟨.hbm, 185, rfl⟩
abbrev main_call23_v1 : Ref sig .tc := ⟨.hbm, 186, rfl⟩
abbrev main_v100 : Ref sig .tc := ⟨.hbm, 187, rfl⟩
abbrev main_v101 : Ref sig .tc := ⟨.hbm, 188, rfl⟩
abbrev main_cst_52 : Ref sig .tc := ⟨.hbm, 189, rfl⟩
abbrev main_cst_53 : Ref sig .tc := ⟨.hbm, 190, rfl⟩
abbrev main_call25_v0 : Ref sig .tc := ⟨.hbm, 191, rfl⟩
abbrev main_call25_v1 : Ref sig .tc := ⟨.hbm, 192, rfl⟩
abbrev main_v102 : Ref sig .tc := ⟨.hbm, 193, rfl⟩
abbrev main_cst_54 : Ref sig .tc := ⟨.hbm, 194, rfl⟩
abbrev main_cst_55 : Ref sig .tc := ⟨.hbm, 195, rfl⟩
abbrev main_call26_v0 : Ref sig .tc := ⟨.hbm, 196, rfl⟩
abbrev main_call26_v1 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩

abbrev nD : Nat := 1
abbrev τ : Topo := Topo.v7x

variable {F : FTy → Type} [FloatOps F]
-- ==== Proof.KRunA.lean ====
module

public import proofs.«01_k».proof.Proof.Gen.Kernel.Loops
public import proofs.«01_k».proof.Proof.Gen.Kernel.Frame

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

@[irreducible] def runA (𝒱 : Variants) (c : Dev nD) (i : grid0.Coords) (h1 : k0_cond1 i = 1#1) (h2 : k0_cond2 i = 1#1) (h3 : ¬k0_cond3 i = 1#1) (arg2 : Memref sig .tc .smem S1 .f32) (harg2 : arg2.IsWhole) (arg3 : Memref sig .tc .vmem S1024x4096 .bf16) (harg3 : arg3.IsWhole) (arg4 : Memref sig .tc .vmem S4096x512 .i8) (harg4 : arg4.IsWhole) (arg5 : Memref sig .tc .vmem S256x512 .i8) (harg5 : arg5.IsWhole) (arg6 : Memref sig .tc .vmem S4096x256 .i8) (harg6 : arg6.IsWhole) (arg7 : Memref sig .tc .vmem S256x256 .i8) (harg7 : arg7.IsWhole) (arg8 : Memref sig .tc .vmem S8x512 .f32) (harg8 : arg8.IsWhole) (arg9 : Memref sig .tc .vmem S8x512 .f32) (harg9 : arg9.IsWhole) (arg10 : Memref sig .tc .vmem S1024x1024 .bf16) (harg10 : arg10.IsWhole) (arg11 : Memref sig .tc .vmem S4096x1024 .bf16) (harg11 : arg11.IsWhole) (arg12 : Memref sig .tc .vmem S4096x1024 .bf16) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) :
    { L : List (View.Piece (Elt F) S1024x1024 .bf16) × List (View.Piece (Elt F) S4096x1024 .bf16) × List (View.Piece (Elt F) S4096x1024 .bf16) // ∀ (E : Set ℕ) (f_arg10 : BufTy.Contents (Elt F) arg10.view.ty) (f_arg12 : BufTy.Contents (Elt F) arg12.view.ty) (Q : PUnit → sProp 𝕄),
      iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} f_arg10) ∗ (arg11.view.loc (c : Thread nD τ) ↦[arg11.view.set]{fullShare} G_arg11) ∗ (arg12.view.loc (c : Thread nD τ) ↦[arg12.view.set]{fullShare} f_arg12)
        ∗ (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} (arg10.view.writes (Elt F) f_arg10 L.1)) ∗ (arg11.view.loc (c : Thread nD τ) ↦[arg11.view.set]{fullShare} (arg11.view.writes (Elt F) G_arg11 L.2.1)) ∗ (arg12.view.loc (c : Thread nD τ) ↦[arg12.view.set]{fullShare} (arg12.view.writes (Elt F) f_arg12 L.2.2))) -∗ Q ⟨⟩))
      ⊢ wp frame (wpE (defs₀ (F := F)) 𝒱 (c : Thread nD τ) none) E (cc0_nf4_dx (F := F) i arg2 harg2 arg3 harg3 arg4 harg4 arg5 harg5 arg6 harg6 arg7 harg7 arg8 harg8 arg9 harg9 arg10 harg10 arg11 harg11 arg12 harg12) Q } := by
  refine ⟨⟨?_, ?_, ?_⟩, fun E f_arg10 f_arg12 Q => ?run⟩
  case run =>
    iintro ⟨H_arg2, H_arg3, H_arg4, H_arg5, H_arg6, H_arg7, H_arg8, H_arg9, H_arg10, H_arg11, H_arg12, Hk⟩
    sl_exec_parts
    sl_step
    iapply Hk
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg10]; · iexact H_arg10
    isplitl [H_arg11]; · iexact H_arg11
    iexact H_arg12

end Cert.Kernel.Body

end
-- ==== Proof.KRunB.lean ====
module

public import proofs.«01_k».proof.Proof.Gen.Kernel.Loops
public import proofs.«01_k».proof.Proof.Gen.Kernel.Frame

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

@[irreducible] def runB (𝒱 : Variants) (c : Dev nD) (i : grid0.Coords) (h1 : ¬k0_cond1 i = 1#1) (h2 : k0_cond2 i = 1#1) (h3 : ¬k0_cond3 i = 1#1) (arg2 : Memref sig .tc .smem S1 .f32) (harg2 : arg2.IsWhole) (arg3 : Memref sig .tc .vmem S1024x4096 .bf16) (harg3 : arg3.IsWhole) (arg4 : Memref sig .tc .vmem S4096x512 .i8) (harg4 : arg4.IsWhole) (arg5 : Memref sig .tc .vmem S256x512 .i8) (harg5 : arg5.IsWhole) (arg6 : Memref sig .tc .vmem S4096x256 .i8) (harg6 : arg6.IsWhole) (arg7 : Memref sig .tc .vmem S256x256 .i8) (harg7 : arg7.IsWhole) (arg8 : Memref sig .tc .vmem S8x512 .f32) (harg8 : arg8.IsWhole) (arg9 : Memref sig .tc .vmem S8x512 .f32) (harg9 : arg9.IsWhole) (arg10 : Memref sig .tc .vmem S1024x1024 .bf16) (harg10 : arg10.IsWhole) (arg11 : Memref sig .tc .vmem S4096x1024 .bf16) (harg11 : arg11.IsWhole) (arg12 : Memref sig .tc .vmem S4096x1024 .bf16) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg11 : BufTy.Contents (Elt F) arg11.view.ty) :
    { L : List (View.Piece (Elt F) S1024x1024 .bf16) × List (View.Piece (Elt F) S4096x1024 .bf16) // ∀ (E : Set ℕ) (f_arg10 : BufTy.Contents (Elt F) arg10.view.ty) (f_arg12 : BufTy.Contents (Elt F) arg12.view.ty) (Q : PUnit → sProp 𝕄),
      iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg11.view.loc (c : Thread nD τ) ↦[arg11.view.set]{fullShare} X_arg11) ∗ (arg10.view.loc (c : Thread nD τ) ↦[arg10.view.set]{fullShare} f_arg10) ∗ (arg12.view.loc (c : Thread nD τ) ↦[arg12.view.set]{fullShare} f_arg12)
        ∗ (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg11.view.loc (c : Thread nD τ) ↦[arg11.view.set]{fullShare} X_arg11) ∗ (arg10.view.loc (c : Thread nD τ) ↦[arg10.view.set]{fullShare} (arg10.view.writes (Elt F) f_arg10 L.1)) ∗ (arg12.view.loc (c : Thread nD τ) ↦[arg12.view.set]{fullShare} (arg12.view.writes (Elt F) f_arg12 L.2))) -∗ Q ⟨⟩))
      ⊢ wp frame (wpE (defs₀ (F := F)) 𝒱 (c : Thread nD τ) none) E (cc0_nf4_dx (F := F) i arg2 harg2 arg3 harg3 arg4 harg4 arg5 harg5 arg6 harg6 arg7 harg7 arg8 harg8 arg9 harg9 arg10 harg10 arg11 harg11 arg12 harg12) Q } := by
  refine ⟨⟨?_, ?_⟩, fun E f_arg10 f_arg12 Q => ?run⟩
  case run =>
    iintro ⟨H_arg2, H_arg3, H_arg4, H_arg5, H_arg6, H_arg7, H_arg8, H_arg9, H_arg11, H_arg10, H_arg12, Hk⟩
    sl_exec_parts
    sl_step
    iapply Hk
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg11]; · iexact H_arg11
    isplitl [H_arg10]; · iexact H_arg10
    iexact H_arg12

end Cert.Kernel.Body

end
-- ==== Proof.KRunC.lean ====
module

public import proofs.«01_k».proof.Proof.Gen.Kernel.Loops
public import proofs.«01_k».proof.Proof.Gen.Kernel.Frame

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

@[irreducible] def runC (𝒱 : Variants) (c : Dev nD) (i : grid0.Coords) (h1 : ¬k0_cond1 i = 1#1) (h2 : ¬k0_cond2 i = 1#1) (h3 : k0_cond3 i = 1#1) (arg2 : Memref sig .tc .smem S1 .f32) (harg2 : arg2.IsWhole) (arg3 : Memref sig .tc .vmem S1024x4096 .bf16) (harg3 : arg3.IsWhole) (arg4 : Memref sig .tc .vmem S4096x512 .i8) (harg4 : arg4.IsWhole) (arg5 : Memref sig .tc .vmem S256x512 .i8) (harg5 : arg5.IsWhole) (arg6 : Memref sig .tc .vmem S4096x256 .i8) (harg6 : arg6.IsWhole) (arg7 : Memref sig .tc .vmem S256x256 .i8) (harg7 : arg7.IsWhole) (arg8 : Memref sig .tc .vmem S8x512 .f32) (harg8 : arg8.IsWhole) (arg9 : Memref sig .tc .vmem S8x512 .f32) (harg9 : arg9.IsWhole) (arg10 : Memref sig .tc .vmem S1024x1024 .bf16) (harg10 : arg10.IsWhole) (arg11 : Memref sig .tc .vmem S4096x1024 .bf16) (harg11 : arg11.IsWhole) (arg12 : Memref sig .tc .vmem S4096x1024 .bf16) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty) :
    { L : List (View.Piece (Elt F) S1024x1024 .bf16) × List (View.Piece (Elt F) S4096x1024 .bf16) // ∀ (E : Set ℕ) (f_arg10 : BufTy.Contents (Elt F) arg10.view.ty) (f_arg11 : BufTy.Contents (Elt F) arg11.view.ty) (Q : PUnit → sProp 𝕄),
      iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg12.view.loc (c : Thread nD τ) ↦[arg12.view.set]{fullShare} X_arg12) ∗ (arg10.view.loc (c : Thread nD τ) ↦[arg10.view.set]{fullShare} f_arg10) ∗ (arg11.view.loc (c : Thread nD τ) ↦[arg11.view.set]{fullShare} f_arg11)
        ∗ (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg12.view.loc (c : Thread nD τ) ↦[arg12.view.set]{fullShare} X_arg12) ∗ (arg10.view.loc (c : Thread nD τ) ↦[arg10.view.set]{fullShare} (arg10.view.writes (Elt F) f_arg10 L.1)) ∗ (arg11.view.loc (c : Thread nD τ) ↦[arg11.view.set]{fullShare} (arg11.view.writes (Elt F) f_arg11 L.2))) -∗ Q ⟨⟩))
      ⊢ wp frame (wpE (defs₀ (F := F)) 𝒱 (c : Thread nD τ) none) E (cc0_nf4_dx (F := F) i arg2 harg2 arg3 harg3 arg4 harg4 arg5 harg5 arg6 harg6 arg7 harg7 arg8 harg8 arg9 harg9 arg10 harg10 arg11 harg11 arg12 harg12) Q } := by
  refine ⟨⟨?_, ?_⟩, fun E f_arg10 f_arg11 Q => ?run⟩
  case run =>
    iintro ⟨H_arg2, H_arg3, H_arg4, H_arg5, H_arg6, H_arg7, H_arg8, H_arg9, H_arg12, H_arg10, H_arg11, Hk⟩
    sl_exec_parts
    sl_step
    iapply Hk
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg12]; · iexact H_arg12
    isplitl [H_arg10]; · iexact H_arg10
    iexact H_arg11

end Cert.Kernel.Body

end
-- ==== Proof.KBody.lean ====
/- The body of the kernel as printed, run at any point of the grid from any contents of its buffers, and the frame: the arguments
   end unchanged and every semaphore counter ends at zero. Nothing here says what the kernel computes: every window is forgotten. -/
module

public import proofs.«01_k».proof.Proof.KRunA
public import proofs.«01_k».proof.Proof.KRunB
public import proofs.«01_k».proof.Proof.KRunC

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

/-- The three shapes a grid point takes: the first point of all (the first tile is decoded too), an even tile, an odd tile. -/
theorem cond_cases : ∀ i : grid0.Coords, (k0_cond1 i = 1#1 ∧ k0_cond2 i = 1#1 ∧ ¬k0_cond3 i = 1#1)
    ∨ (¬k0_cond1 i = 1#1 ∧ k0_cond2 i = 1#1 ∧ ¬k0_cond3 i = 1#1) ∨ (¬k0_cond1 i = 1#1 ∧ ¬k0_cond2 i = 1#1 ∧ k0_cond3 i = 1#1) := by
  decide +kernel

/-- The body at any point, from any contents of its buffers: it returns, each buffer whole at some contents. -/
theorem body_any (𝒱 : Variants) (c : Dev nD) (i : grid0.Coords) (arg2 : Memref sig .tc .smem S1 .f32) (harg2 : arg2.IsWhole) (arg3 : Memref sig .tc .vmem S1024x4096 .bf16) (harg3 : arg3.IsWhole) (arg4 : Memref sig .tc .vmem S4096x512 .i8) (harg4 : arg4.IsWhole) (arg5 : Memref sig .tc .vmem S256x512 .i8) (harg5 : arg5.IsWhole) (arg6 : Memref sig .tc .vmem S4096x256 .i8) (harg6 : arg6.IsWhole) (arg7 : Memref sig .tc .vmem S256x256 .i8) (harg7 : arg7.IsWhole) (arg8 : Memref sig .tc .vmem S8x512 .f32) (harg8 : arg8.IsWhole) (arg9 : Memref sig .tc .vmem S8x512 .f32) (harg9 : arg9.IsWhole) (arg10 : Memref sig .tc .vmem S1024x1024 .bf16) (harg10 : arg10.IsWhole) (arg11 : Memref sig .tc .vmem S4096x1024 .bf16) (harg11 : arg11.IsWhole) (arg12 : Memref sig .tc .vmem S4096x1024 .bf16) (harg12 : arg12.IsWhole) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) 𝒱 (c : Thread nD τ) none) E (cc0_nf4_dx (F := F) i arg2 harg2 arg3 harg3 arg4 harg4 arg5 harg5 arg6 harg6 arg7 harg7 arg8 harg8 arg9 harg9 arg10 harg10 arg11 harg11 arg12 harg12) K := by
  unfold owns
  iintro ⟨⟨%darg2, %farg2, -, Harg2⟩, ⟨%darg3, %farg3, -, Harg3⟩, ⟨%darg4, %farg4, -, Harg4⟩, ⟨%darg5, %farg5, -, Harg5⟩, ⟨%darg6, %farg6, -, Harg6⟩, ⟨%darg7, %farg7, -, Harg7⟩, ⟨%darg8, %farg8, -, Harg8⟩, ⟨%darg9, %farg9, -, Harg9⟩, ⟨%darg10, %farg10, -, Harg10⟩, ⟨%darg11, %farg11, -, Harg11⟩, ⟨%darg12, %farg12, -, Harg12⟩, Hk⟩
  rcases cond_cases i with ⟨h1, h2, h3⟩ | ⟨h1, h2, h3⟩ | ⟨h1, h2, h3⟩
  ·
    iapply ((runA 𝒱 c i h1 h2 h3 arg2 harg2 arg3 harg3 arg4 harg4 arg5 harg5 arg6 harg6 arg7 harg7 arg8 harg8 arg9 harg9 arg10 harg10 arg11 harg11 arg12 harg12 farg2 farg3 farg4 farg5 farg6 farg7 farg8 farg9 farg11).2 E farg10 farg12 K)
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    iintro ⟨Harg2, Harg3, Harg4, Harg5, Harg6, Harg7, Harg8, Harg9, Harg10, Harg11, Harg12⟩
    iapply Hk
    isplitl [Harg2]
    · iexists _, _; isplitr; swap; · iexact Harg2
      ipureintro; rfl
    isplitl [Harg3]
    · iexists _, _; isplitr; swap; · iexact Harg3
      ipureintro; rfl
    isplitl [Harg4]
    · iexists _, _; isplitr; swap; · iexact Harg4
      ipureintro; rfl
    isplitl [Harg5]
    · iexists _, _; isplitr; swap; · iexact Harg5
      ipureintro; rfl
    isplitl [Harg6]
    · iexists _, _; isplitr; swap; · iexact Harg6
      ipureintro; rfl
    isplitl [Harg7]
    · iexists _, _; isplitr; swap; · iexact Harg7
      ipureintro; rfl
    isplitl [Harg8]
    · iexists _, _; isplitr; swap; · iexact Harg8
      ipureintro; rfl
    isplitl [Harg9]
    · iexists _, _; isplitr; swap; · iexact Harg9
      ipureintro; rfl
    isplitl [Harg10]
    · iexists _, _; isplitr; swap; · iexact Harg10
      ipureintro; rfl
    isplitl [Harg11]
    · iexists _, _; isplitr; swap; · iexact Harg11
      ipureintro; rfl
    iexists _, _; isplitr; swap; · iexact Harg12
    ipureintro; rfl
  ·
    iapply ((runB 𝒱 c i h1 h2 h3 arg2 harg2 arg3 harg3 arg4 harg4 arg5 harg5 arg6 harg6 arg7 harg7 arg8 harg8 arg9 harg9 arg10 harg10 arg11 harg11 arg12 harg12 farg2 farg3 farg4 farg5 farg6 farg7 farg8 farg9 farg11).2 E farg10 farg12 K)
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg11]; · iexact Harg11
    isplitl [Harg10]; · iexact Harg10
    isplitl [Harg12]; · iexact Harg12
    iintro ⟨Harg2, Harg3, Harg4, Harg5, Harg6, Harg7, Harg8, Harg9, Harg11, Harg10, Harg12⟩
    iapply Hk
    isplitl [Harg2]
    · iexists _, _; isplitr; swap; · iexact Harg2
      ipureintro; rfl
    isplitl [Harg3]
    · iexists _, _; isplitr; swap; · iexact Harg3
      ipureintro; rfl
    isplitl [Harg4]
    · iexists _, _; isplitr; swap; · iexact Harg4
      ipureintro; rfl
    isplitl [Harg5]
    · iexists _, _; isplitr; swap; · iexact Harg5
      ipureintro; rfl
    isplitl [Harg6]
    · iexists _, _; isplitr; swap; · iexact Harg6
      ipureintro; rfl
    isplitl [Harg7]
    · iexists _, _; isplitr; swap; · iexact Harg7
      ipureintro; rfl
    isplitl [Harg8]
    · iexists _, _; isplitr; swap; · iexact Harg8
      ipureintro; rfl
    isplitl [Harg9]
    · iexists _, _; isplitr; swap; · iexact Harg9
      ipureintro; rfl
    isplitl [Harg10]
    · iexists _, _; isplitr; swap; · iexact Harg10
      ipureintro; rfl
    isplitl [Harg11]
    · iexists _, _; isplitr; swap; · iexact Harg11
      ipureintro; rfl
    iexists _, _; isplitr; swap; · iexact Harg12
    ipureintro; rfl
  ·
    iapply ((runC 𝒱 c i h1 h2 h3 arg2 harg2 arg3 harg3 arg4 harg4 arg5 harg5 arg6 harg6 arg7 harg7 arg8 harg8 arg9 harg9 arg10 harg10 arg11 harg11 arg12 harg12 farg2 farg3 farg4 farg5 farg6 farg7 farg8 farg9 farg12).2 E farg10 farg11 K)
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg12]; · iexact Harg12
    isplitl [Harg10]; · iexact Harg10
    isplitl [Harg11]; · iexact Harg11
    iintro ⟨Harg2, Harg3, Harg4, Harg5, Harg6, Harg7, Harg8, Harg9, Harg12, Harg10, Harg11⟩
    iapply Hk
    isplitl [Harg2]
    · iexists _, _; isplitr; swap; · iexact Harg2
      ipureintro; rfl
    isplitl [Harg3]
    · iexists _, _; isplitr; swap; · iexact Harg3
      ipureintro; rfl
    isplitl [Harg4]
    · iexists _, _; isplitr; swap; · iexact Harg4
      ipureintro; rfl
    isplitl [Harg5]
    · iexists _, _; isplitr; swap; · iexact Harg5
      ipureintro; rfl
    isplitl [Harg6]
    · iexists _, _; isplitr; swap; · iexact Harg6
      ipureintro; rfl
    isplitl [Harg7]
    · iexists _, _; isplitr; swap; · iexact Harg7
      ipureintro; rfl
    isplitl [Harg8]
    · iexists _, _; isplitr; swap; · iexact Harg8
      ipureintro; rfl
    isplitl [Harg9]
    · iexists _, _; isplitr; swap; · iexact Harg9
      ipureintro; rfl
    isplitl [Harg10]
    · iexists _, _; isplitr; swap; · iexact Harg10
      ipureintro; rfl
    isplitl [Harg11]
    · iexists _, _; isplitr; swap; · iexact Harg11
      ipureintro; rfl
    iexists _, _; isplitr; swap; · iexact Harg12
    ipureintro; rfl

variable (m : (ℓ : Loc nD τ sig) → Buf (Elt F) ℓ) (ρ : Dev nD → PrngReg)

/-- Every window is forgotten: the frame reads nothing of what a staging buffer holds. -/
def forgets0 : Fin 9 → Bool := fun _ => true

/-- The proof data: the arrays as the region finds them, the scratch buffers at some contents, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- The data's arrays are the region's entry contents. -/
theorem A_eq (c : Dev nD) (w : Fin cfg0.W) : (dats m 0 c).A w = V m c (Pipeline.arrRef spec0 w) := by dsimp only [dats]

/-- The two scratch buffers as memrefs. -/
abbrev waM : Memref sig .tc .vmem S4096x1024 .bf16 := Memref.whole cc0_scratch0
abbrev wbM : Memref sig .tc .vmem S4096x1024 .bf16 := Memref.whole cc0_scratch1

/-- The invariant between points: both scratch buffers owned at some contents, and the generator register. -/
theorem phi_eq (c : Dev nD) : (Pipeline.ΦA spec0 c : sProp 𝕄)
    = iprop(iprop((∃ d, owns (c : Thread nD τ) waM fullShare d) ∗ (∃ d, owns (c : Thread nD τ) wbM fullShare d)) ∗ (∃ r, prngReg c r)) := by
  unfold Pipeline.ΦA; rw [scopedRest0_eq]; simp only [waM, wbM, owns_whole]; try rfl

/-- What a point starts from and ends with: the invariant and the nine staging buffers at some contents. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d))
def bodyPost (c : Dev nD) (t : Fin cfg0.N) : sProp 𝕄 :=
  iprop((dats m 0 c).Φ t.succ ∗ (dats m 0 c).owesAt () t.succ ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d))

/-- The body at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq]
  iintro ⟨⟨⟨Ha, Hb⟩, Hg⟩, HO, H0, H1, H2, H3, H4, H5, H6, H7, H8⟩
  iapply (body_any Variants.none c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) waM (Memref.isWhole_whole _) wbM (Memref.isWhole_whole _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Ha]; · iexact Ha
  isplitl [Hb]; · iexact Hb
  iintro ⟨H0, H1, H2, H3, H4, H5, H6, H7, H8, Ha, Hb⟩
  isplitl [Ha Hb Hg]
  · isplitl [Ha Hb]
    · isplitl [Ha]; · iexact Ha
      iexact Hb
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with every window forgotten. -/
theorem body_obligation (c : Dev nD) :
    BodyObligationLoose (dats (F := F) m 0 c) (defs₀ (F := F)) Variants.none () Set.univ forgets0 := fun t => by
  rw [bigSep_W0, bigSep_W0, defs₀_row]
  exact triple_restated (sound_body m c t) rfl .rfl fun _ => .rfl

/-- The buffer the line after the kernel call writes. -/
def T0 : Finset (Ref sig .tc) := {main_v8}

/-- The line after the kernel call writes the result's array alone. -/
theorem sfx_T : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  subst hops
  simp only [hostOps1, List.mem_cons, List.mem_nil_iff, or_false] at hop
  subst hop
  simp only [T0, Finset.mem_singleton]
  simp only [StableHlo.reshape_writes, Finset.mem_singleton] at hb
  exact Proc.devRef_injective (τ := τ) _ hb

set_option backward.isDefEq.respectTransparency.types false in
/-- Every weakly fair execution from zero counters terminates, and every final state has the windows' input arrays as the region found
    them, every other buffer but the result as it was there, and every counter at zero. -/
theorem run_main : θ_run defs (onTc (τ := τ) (main (F := F))) (s₀ m ρ)
    (fun r => Pipeline.RDat.FramePostR (cfgs 0) (fun c => (dats m 0 c).toRForget forgets0) T0 (V m) r ∧ r.2.sem = fun _ => 0) :=
  Pipeline.θ_run_frame_around_T_track_forget_shared (Q' := _) cfgs (dats m) (0 : Fin 1) launch₀0 defs₀ Variants.none forgets0 T0 m ρ main
    (hbody := body_obligation m) (hq := fun _ _ _ => rfl) (howed := fun _ _ => rfl) (V₀ := V0 m) (opss := [hostOps1])
    (hsub := sfx_sub) (hfresh := sfx_fresh) (hkeep := sfx_keeps) (hT := sfx_T) (hmain := hmain m Variants.none) (hA := A_eq m)
    (hin := fun _ => .rfl) (hout := fun _ => .rfl)

/-- The frame: the five arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (Finset.mem_sdiff.mpr ⟨Pipeline.mem_restRefs_of main_arg0 (by decide) (by decide), by decide⟩)).trans (V_main_arg0 m c),
      (h.1.arr_in c 3 rfl).trans ((A_eq m c 3).trans (V_main_arg1 m c)),
      (h.1.arr_in c 5 rfl).trans ((A_eq m c 5).trans (V_main_arg2 m c)),
      ((h.1 c).2 main_arg3 (Finset.mem_sdiff.mpr ⟨Pipeline.mem_restRefs_of main_arg3 (by decide) (by decide), by decide⟩)).trans (V_main_arg3 m c),
      (h.1.arr_in c 0 rfl).trans ((A_eq m c 0).trans (V_main_arg4 m c))⟩, h.2⟩) (run_main m ρ)

end Cert.Kernel.Body

end
-- ==== Proof.RunA.lean ====
module

public import proofs.«01_k».proof.Proof.Gen.KernelIdeal.Loops
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

@[irreducible] def runA (𝒱 : Variants) (c : Dev nD) (i : grid0.Coords) (h1 : k0_cond1 i = 1#1) (h2 : k0_cond2 i = 1#1) (h3 : ¬k0_cond3 i = 1#1) (arg2 : Memref sig .tc .smem S1 .f32) (harg2 : arg2.IsWhole) (arg3 : Memref sig .tc .vmem S1024x4096 .bf16) (harg3 : arg3.IsWhole) (arg4 : Memref sig .tc .vmem S4096x512 .i8) (harg4 : arg4.IsWhole) (arg5 : Memref sig .tc .vmem S256x512 .i8) (harg5 : arg5.IsWhole) (arg6 : Memref sig .tc .vmem S4096x256 .i8) (harg6 : arg6.IsWhole) (arg7 : Memref sig .tc .vmem S256x256 .i8) (harg7 : arg7.IsWhole) (arg8 : Memref sig .tc .vmem S8x512 .f32) (harg8 : arg8.IsWhole) (arg9 : Memref sig .tc .vmem S8x512 .f32) (harg9 : arg9.IsWhole) (arg10 : Memref sig .tc .vmem S1024x1024 .bf16) (harg10 : arg10.IsWhole) (arg11 : Memref sig .tc .vmem S4096x1024 .bf16) (harg11 : arg11.IsWhole) (arg12 : Memref sig .tc .vmem S4096x1024 .bf16) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) :
    { L : List (View.Piece (Elt F) S1024x1024 .bf16) × List (View.Piece (Elt F) S4096x1024 .bf16) × List (View.Piece (Elt F) S4096x1024 .bf16) // ∀ (E : Set ℕ) (f_arg10 : BufTy.Contents (Elt F) arg10.view.ty) (f_arg12 : BufTy.Contents (Elt F) arg12.view.ty) (Q : PUnit → sProp 𝕄),
      iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} f_arg10) ∗ (arg11.view.loc (c : Thread nD τ) ↦[arg11.view.set]{fullShare} G_arg11) ∗ (arg12.view.loc (c : Thread nD τ) ↦[arg12.view.set]{fullShare} f_arg12)
        ∗ (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} (arg10.view.writes (Elt F) f_arg10 L.1)) ∗ (arg11.view.loc (c : Thread nD τ) ↦[arg11.view.set]{fullShare} (arg11.view.writes (Elt F) G_arg11 L.2.1)) ∗ (arg12.view.loc (c : Thread nD τ) ↦[arg12.view.set]{fullShare} (arg12.view.writes (Elt F) f_arg12 L.2.2))) -∗ Q ⟨⟩))
      ⊢ wp frame (wpE (defs₀ (F := F)) 𝒱 (c : Thread nD τ) none) E (cc0_nf4_dx (F := F) i arg2 harg2 arg3 harg3 arg4 harg4 arg5 harg5 arg6 harg6 arg7 harg7 arg8 harg8 arg9 harg9 arg10 harg10 arg11 harg11 arg12 harg12) Q } := by
  refine ⟨⟨?_, ?_, ?_⟩, fun E f_arg10 f_arg12 Q => ?run⟩
  case run =>
    iintro ⟨H_arg2, H_arg3, H_arg4, H_arg5, H_arg6, H_arg7, H_arg8, H_arg9, H_arg10, H_arg11, H_arg12, Hk⟩
    sl_exec_parts
    sl_step
    iapply Hk
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg10]; · iexact H_arg10
    isplitl [H_arg11]; · iexact H_arg11
    iexact H_arg12

end Cert.KernelIdeal.Body

end
-- ==== Proof.RunB.lean ====
module

public import proofs.«01_k».proof.Proof.Gen.KernelIdeal.Loops
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

@[irreducible] def runB (𝒱 : Variants) (c : Dev nD) (i : grid0.Coords) (h1 : ¬k0_cond1 i = 1#1) (h2 : k0_cond2 i = 1#1) (h3 : ¬k0_cond3 i = 1#1) (arg2 : Memref sig .tc .smem S1 .f32) (harg2 : arg2.IsWhole) (arg3 : Memref sig .tc .vmem S1024x4096 .bf16) (harg3 : arg3.IsWhole) (arg4 : Memref sig .tc .vmem S4096x512 .i8) (harg4 : arg4.IsWhole) (arg5 : Memref sig .tc .vmem S256x512 .i8) (harg5 : arg5.IsWhole) (arg6 : Memref sig .tc .vmem S4096x256 .i8) (harg6 : arg6.IsWhole) (arg7 : Memref sig .tc .vmem S256x256 .i8) (harg7 : arg7.IsWhole) (arg8 : Memref sig .tc .vmem S8x512 .f32) (harg8 : arg8.IsWhole) (arg9 : Memref sig .tc .vmem S8x512 .f32) (harg9 : arg9.IsWhole) (arg10 : Memref sig .tc .vmem S1024x1024 .bf16) (harg10 : arg10.IsWhole) (arg11 : Memref sig .tc .vmem S4096x1024 .bf16) (harg11 : arg11.IsWhole) (arg12 : Memref sig .tc .vmem S4096x1024 .bf16) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg11 : BufTy.Contents (Elt F) arg11.view.ty) :
    { L : List (View.Piece (Elt F) S1024x1024 .bf16) × List (View.Piece (Elt F) S4096x1024 .bf16) // ∀ (E : Set ℕ) (f_arg10 : BufTy.Contents (Elt F) arg10.view.ty) (f_arg12 : BufTy.Contents (Elt F) arg12.view.ty) (Q : PUnit → sProp 𝕄),
      iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg11.view.loc (c : Thread nD τ) ↦[arg11.view.set]{fullShare} X_arg11) ∗ (arg10.view.loc (c : Thread nD τ) ↦[arg10.view.set]{fullShare} f_arg10) ∗ (arg12.view.loc (c : Thread nD τ) ↦[arg12.view.set]{fullShare} f_arg12)
        ∗ (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg11.view.loc (c : Thread nD τ) ↦[arg11.view.set]{fullShare} X_arg11) ∗ (arg10.view.loc (c : Thread nD τ) ↦[arg10.view.set]{fullShare} (arg10.view.writes (Elt F) f_arg10 L.1)) ∗ (arg12.view.loc (c : Thread nD τ) ↦[arg12.view.set]{fullShare} (arg12.view.writes (Elt F) f_arg12 L.2))) -∗ Q ⟨⟩))
      ⊢ wp frame (wpE (defs₀ (F := F)) 𝒱 (c : Thread nD τ) none) E (cc0_nf4_dx (F := F) i arg2 harg2 arg3 harg3 arg4 harg4 arg5 harg5 arg6 harg6 arg7 harg7 arg8 harg8 arg9 harg9 arg10 harg10 arg11 harg11 arg12 harg12) Q } := by
  refine ⟨⟨?_, ?_⟩, fun E f_arg10 f_arg12 Q => ?run⟩
  case run =>
    iintro ⟨H_arg2, H_arg3, H_arg4, H_arg5, H_arg6, H_arg7, H_arg8, H_arg9, H_arg11, H_arg10, H_arg12, Hk⟩
    sl_exec_parts
    sl_step
    iapply Hk
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg11]; · iexact H_arg11
    isplitl [H_arg10]; · iexact H_arg10
    iexact H_arg12

end Cert.KernelIdeal.Body

end
-- ==== Proof.RunC.lean ====
module

public import proofs.«01_k».proof.Proof.Gen.KernelIdeal.Loops
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

@[irreducible] def runC (𝒱 : Variants) (c : Dev nD) (i : grid0.Coords) (h1 : ¬k0_cond1 i = 1#1) (h2 : ¬k0_cond2 i = 1#1) (h3 : k0_cond3 i = 1#1) (arg2 : Memref sig .tc .smem S1 .f32) (harg2 : arg2.IsWhole) (arg3 : Memref sig .tc .vmem S1024x4096 .bf16) (harg3 : arg3.IsWhole) (arg4 : Memref sig .tc .vmem S4096x512 .i8) (harg4 : arg4.IsWhole) (arg5 : Memref sig .tc .vmem S256x512 .i8) (harg5 : arg5.IsWhole) (arg6 : Memref sig .tc .vmem S4096x256 .i8) (harg6 : arg6.IsWhole) (arg7 : Memref sig .tc .vmem S256x256 .i8) (harg7 : arg7.IsWhole) (arg8 : Memref sig .tc .vmem S8x512 .f32) (harg8 : arg8.IsWhole) (arg9 : Memref sig .tc .vmem S8x512 .f32) (harg9 : arg9.IsWhole) (arg10 : Memref sig .tc .vmem S1024x1024 .bf16) (harg10 : arg10.IsWhole) (arg11 : Memref sig .tc .vmem S4096x1024 .bf16) (harg11 : arg11.IsWhole) (arg12 : Memref sig .tc .vmem S4096x1024 .bf16) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty) :
    { L : List (View.Piece (Elt F) S1024x1024 .bf16) × List (View.Piece (Elt F) S4096x1024 .bf16) // ∀ (E : Set ℕ) (f_arg10 : BufTy.Contents (Elt F) arg10.view.ty) (f_arg11 : BufTy.Contents (Elt F) arg11.view.ty) (Q : PUnit → sProp 𝕄),
      iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg12.view.loc (c : Thread nD τ) ↦[arg12.view.set]{fullShare} X_arg12) ∗ (arg10.view.loc (c : Thread nD τ) ↦[arg10.view.set]{fullShare} f_arg10) ∗ (arg11.view.loc (c : Thread nD τ) ↦[arg11.view.set]{fullShare} f_arg11)
        ∗ (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg12.view.loc (c : Thread nD τ) ↦[arg12.view.set]{fullShare} X_arg12) ∗ (arg10.view.loc (c : Thread nD τ) ↦[arg10.view.set]{fullShare} (arg10.view.writes (Elt F) f_arg10 L.1)) ∗ (arg11.view.loc (c : Thread nD τ) ↦[arg11.view.set]{fullShare} (arg11.view.writes (Elt F) f_arg11 L.2))) -∗ Q ⟨⟩))
      ⊢ wp frame (wpE (defs₀ (F := F)) 𝒱 (c : Thread nD τ) none) E (cc0_nf4_dx (F := F) i arg2 harg2 arg3 harg3 arg4 harg4 arg5 harg5 arg6 harg6 arg7 harg7 arg8 harg8 arg9 harg9 arg10 harg10 arg11 harg11 arg12 harg12) Q } := by
  refine ⟨⟨?_, ?_⟩, fun E f_arg10 f_arg11 Q => ?run⟩
  case run =>
    iintro ⟨H_arg2, H_arg3, H_arg4, H_arg5, H_arg6, H_arg7, H_arg8, H_arg9, H_arg12, H_arg10, H_arg11, Hk⟩
    sl_exec_parts
    sl_step
    iapply Hk
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg12]; · iexact H_arg12
    isplitl [H_arg10]; · iexact H_arg10
    iexact H_arg11

end Cert.KernelIdeal.Body

end
-- ==== Proof.IFrame.lean ====
/- The body of the kernel as printed, run at any point of the grid from any contents of its buffers, and the frame: the arguments
   end unchanged and every semaphore counter ends at zero. Nothing here says what the kernel computes: every window is forgotten. -/
module

public import proofs.«01_k».proof.Proof.RunA
public import proofs.«01_k».proof.Proof.RunB
public import proofs.«01_k».proof.Proof.RunC

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three shapes a grid point takes: the first point of all (the first tile is decoded too), an even tile, an odd tile. -/
theorem cond_cases : ∀ i : grid0.Coords, (k0_cond1 i = 1#1 ∧ k0_cond2 i = 1#1 ∧ ¬k0_cond3 i = 1#1)
    ∨ (¬k0_cond1 i = 1#1 ∧ k0_cond2 i = 1#1 ∧ ¬k0_cond3 i = 1#1) ∨ (¬k0_cond1 i = 1#1 ∧ ¬k0_cond2 i = 1#1 ∧ k0_cond3 i = 1#1) := by
  decide +kernel

/-- The body at any point, from any contents of its buffers: it returns, each buffer whole at some contents. -/
theorem body_any (𝒱 : Variants) (c : Dev nD) (i : grid0.Coords) (arg2 : Memref sig .tc .smem S1 .f32) (harg2 : arg2.IsWhole) (arg3 : Memref sig .tc .vmem S1024x4096 .bf16) (harg3 : arg3.IsWhole) (arg4 : Memref sig .tc .vmem S4096x512 .i8) (harg4 : arg4.IsWhole) (arg5 : Memref sig .tc .vmem S256x512 .i8) (harg5 : arg5.IsWhole) (arg6 : Memref sig .tc .vmem S4096x256 .i8) (harg6 : arg6.IsWhole) (arg7 : Memref sig .tc .vmem S256x256 .i8) (harg7 : arg7.IsWhole) (arg8 : Memref sig .tc .vmem S8x512 .f32) (harg8 : arg8.IsWhole) (arg9 : Memref sig .tc .vmem S8x512 .f32) (harg9 : arg9.IsWhole) (arg10 : Memref sig .tc .vmem S1024x1024 .bf16) (harg10 : arg10.IsWhole) (arg11 : Memref sig .tc .vmem S4096x1024 .bf16) (harg11 : arg11.IsWhole) (arg12 : Memref sig .tc .vmem S4096x1024 .bf16) (harg12 : arg12.IsWhole) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) 𝒱 (c : Thread nD τ) none) E (cc0_nf4_dx (F := F) i arg2 harg2 arg3 harg3 arg4 harg4 arg5 harg5 arg6 harg6 arg7 harg7 arg8 harg8 arg9 harg9 arg10 harg10 arg11 harg11 arg12 harg12) K := by
  unfold owns
  iintro ⟨⟨%darg2, %farg2, -, Harg2⟩, ⟨%darg3, %farg3, -, Harg3⟩, ⟨%darg4, %farg4, -, Harg4⟩, ⟨%darg5, %farg5, -, Harg5⟩, ⟨%darg6, %farg6, -, Harg6⟩, ⟨%darg7, %farg7, -, Harg7⟩, ⟨%darg8, %farg8, -, Harg8⟩, ⟨%darg9, %farg9, -, Harg9⟩, ⟨%darg10, %farg10, -, Harg10⟩, ⟨%darg11, %farg11, -, Harg11⟩, ⟨%darg12, %farg12, -, Harg12⟩, Hk⟩
  rcases cond_cases i with ⟨h1, h2, h3⟩ | ⟨h1, h2, h3⟩ | ⟨h1, h2, h3⟩
  ·
    iapply ((runA 𝒱 c i h1 h2 h3 arg2 harg2 arg3 harg3 arg4 harg4 arg5 harg5 arg6 harg6 arg7 harg7 arg8 harg8 arg9 harg9 arg10 harg10 arg11 harg11 arg12 harg12 farg2 farg3 farg4 farg5 farg6 farg7 farg8 farg9 farg11).2 E farg10 farg12 K)
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    iintro ⟨Harg2, Harg3, Harg4, Harg5, Harg6, Harg7, Harg8, Harg9, Harg10, Harg11, Harg12⟩
    iapply Hk
    isplitl [Harg2]
    · iexists _, _; isplitr; swap; · iexact Harg2
      ipureintro; rfl
    isplitl [Harg3]
    · iexists _, _; isplitr; swap; · iexact Harg3
      ipureintro; rfl
    isplitl [Harg4]
    · iexists _, _; isplitr; swap; · iexact Harg4
      ipureintro; rfl
    isplitl [Harg5]
    · iexists _, _; isplitr; swap; · iexact Harg5
      ipureintro; rfl
    isplitl [Harg6]
    · iexists _, _; isplitr; swap; · iexact Harg6
      ipureintro; rfl
    isplitl [Harg7]
    · iexists _, _; isplitr; swap; · iexact Harg7
      ipureintro; rfl
    isplitl [Harg8]
    · iexists _, _; isplitr; swap; · iexact Harg8
      ipureintro; rfl
    isplitl [Harg9]
    · iexists _, _; isplitr; swap; · iexact Harg9
      ipureintro; rfl
    isplitl [Harg10]
    · iexists _, _; isplitr; swap; · iexact Harg10
      ipureintro; rfl
    isplitl [Harg11]
    · iexists _, _; isplitr; swap; · iexact Harg11
      ipureintro; rfl
    iexists _, _; isplitr; swap; · iexact Harg12
    ipureintro; rfl
  ·
    iapply ((runB 𝒱 c i h1 h2 h3 arg2 harg2 arg3 harg3 arg4 harg4 arg5 harg5 arg6 harg6 arg7 harg7 arg8 harg8 arg9 harg9 arg10 harg10 arg11 harg11 arg12 harg12 farg2 farg3 farg4 farg5 farg6 farg7 farg8 farg9 farg11).2 E farg10 farg12 K)
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg11]; · iexact Harg11
    isplitl [Harg10]; · iexact Harg10
    isplitl [Harg12]; · iexact Harg12
    iintro ⟨Harg2, Harg3, Harg4, Harg5, Harg6, Harg7, Harg8, Harg9, Harg11, Harg10, Harg12⟩
    iapply Hk
    isplitl [Harg2]
    · iexists _, _; isplitr; swap; · iexact Harg2
      ipureintro; rfl
    isplitl [Harg3]
    · iexists _, _; isplitr; swap; · iexact Harg3
      ipureintro; rfl
    isplitl [Harg4]
    · iexists _, _; isplitr; swap; · iexact Harg4
      ipureintro; rfl
    isplitl [Harg5]
    · iexists _, _; isplitr; swap; · iexact Harg5
      ipureintro; rfl
    isplitl [Harg6]
    · iexists _, _; isplitr; swap; · iexact Harg6
      ipureintro; rfl
    isplitl [Harg7]
    · iexists _, _; isplitr; swap; · iexact Harg7
      ipureintro; rfl
    isplitl [Harg8]
    · iexists _, _; isplitr; swap; · iexact Harg8
      ipureintro; rfl
    isplitl [Harg9]
    · iexists _, _; isplitr; swap; · iexact Harg9
      ipureintro; rfl
    isplitl [Harg10]
    · iexists _, _; isplitr; swap; · iexact Harg10
      ipureintro; rfl
    isplitl [Harg11]
    · iexists _, _; isplitr; swap; · iexact Harg11
      ipureintro; rfl
    iexists _, _; isplitr; swap; · iexact Harg12
    ipureintro; rfl
  ·
    iapply ((runC 𝒱 c i h1 h2 h3 arg2 harg2 arg3 harg3 arg4 harg4 arg5 harg5 arg6 harg6 arg7 harg7 arg8 harg8 arg9 harg9 arg10 harg10 arg11 harg11 arg12 harg12 farg2 farg3 farg4 farg5 farg6 farg7 farg8 farg9 farg12).2 E farg10 farg11 K)
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg12]; · iexact Harg12
    isplitl [Harg10]; · iexact Harg10
    isplitl [Harg11]; · iexact Harg11
    iintro ⟨Harg2, Harg3, Harg4, Harg5, Harg6, Harg7, Harg8, Harg9, Harg12, Harg10, Harg11⟩
    iapply Hk
    isplitl [Harg2]
    · iexists _, _; isplitr; swap; · iexact Harg2
      ipureintro; rfl
    isplitl [Harg3]
    · iexists _, _; isplitr; swap; · iexact Harg3
      ipureintro; rfl
    isplitl [Harg4]
    · iexists _, _; isplitr; swap; · iexact Harg4
      ipureintro; rfl
    isplitl [Harg5]
    · iexists _, _; isplitr; swap; · iexact Harg5
      ipureintro; rfl
    isplitl [Harg6]
    · iexists _, _; isplitr; swap; · iexact Harg6
      ipureintro; rfl
    isplitl [Harg7]
    · iexists _, _; isplitr; swap; · iexact Harg7
      ipureintro; rfl
    isplitl [Harg8]
    · iexists _, _; isplitr; swap; · iexact Harg8
      ipureintro; rfl
    isplitl [Harg9]
    · iexists _, _; isplitr; swap; · iexact Harg9
      ipureintro; rfl
    isplitl [Harg10]
    · iexists _, _; isplitr; swap; · iexact Harg10
      ipureintro; rfl
    isplitl [Harg11]
    · iexists _, _; isplitr; swap; · iexact Harg11
      ipureintro; rfl
    iexists _, _; isplitr; swap; · iexact Harg12
    ipureintro; rfl

variable (m : (ℓ : Loc nD τ sig) → Buf (Elt F) ℓ) (ρ : Dev nD → PrngReg)

/-- Every window is forgotten: the frame reads nothing of what a staging buffer holds. -/
def forgets0 : Fin 9 → Bool := fun _ => true

/-- The proof data: the arrays as the region finds them, the scratch buffers at some contents, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- The data's arrays are the region's entry contents. -/
theorem A_eq (c : Dev nD) (w : Fin cfg0.W) : (dats m 0 c).A w = V m c (Pipeline.arrRef spec0 w) := by dsimp only [dats]

/-- The two scratch buffers as memrefs. -/
abbrev waM : Memref sig .tc .vmem S4096x1024 .bf16 := Memref.whole cc0_scratch0
abbrev wbM : Memref sig .tc .vmem S4096x1024 .bf16 := Memref.whole cc0_scratch1

/-- The invariant between points: both scratch buffers owned at some contents, and the generator register. -/
theorem phi_eq (c : Dev nD) : (Pipeline.ΦA spec0 c : sProp 𝕄)
    = iprop(iprop((∃ d, owns (c : Thread nD τ) waM fullShare d) ∗ (∃ d, owns (c : Thread nD τ) wbM fullShare d)) ∗ (∃ r, prngReg c r)) := by
  unfold Pipeline.ΦA; rw [scopedRest0_eq]; simp only [waM, wbM, owns_whole]; try rfl

/-- What a point starts from and ends with: the invariant and the nine staging buffers at some contents. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d))
def bodyPost (c : Dev nD) (t : Fin cfg0.N) : sProp 𝕄 :=
  iprop((dats m 0 c).Φ t.succ ∗ (dats m 0 c).owesAt () t.succ ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d))

/-- The body at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq]
  iintro ⟨⟨⟨Ha, Hb⟩, Hg⟩, HO, H0, H1, H2, H3, H4, H5, H6, H7, H8⟩
  iapply (body_any Variants.none c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) waM (Memref.isWhole_whole _) wbM (Memref.isWhole_whole _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Ha]; · iexact Ha
  isplitl [Hb]; · iexact Hb
  iintro ⟨H0, H1, H2, H3, H4, H5, H6, H7, H8, Ha, Hb⟩
  isplitl [Ha Hb Hg]
  · isplitl [Ha Hb]
    · isplitl [Ha]; · iexact Ha
      iexact Hb
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with every window forgotten. -/
theorem body_obligation (c : Dev nD) :
    BodyObligationLoose (dats (F := F) m 0 c) (defs₀ (F := F)) Variants.none () Set.univ forgets0 := fun t => by
  rw [bigSep_W0, bigSep_W0, defs₀_row]
  exact triple_restated (sound_body m c t) rfl .rfl fun _ => .rfl

/-- The buffer the line after the kernel call writes. -/
def T0 : Finset (Ref sig .tc) := {main_v8}

/-- The line after the kernel call writes the result's array alone. -/
theorem sfx_T : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  subst hops
  simp only [hostOps1, List.mem_cons, List.mem_nil_iff, or_false] at hop
  subst hop
  simp only [T0, Finset.mem_singleton]
  simp only [StableHlo.reshape_writes, Finset.mem_singleton] at hb
  exact Proc.devRef_injective (τ := τ) _ hb

set_option backward.isDefEq.respectTransparency.types false in
/-- Every weakly fair execution from zero counters terminates, and every final state has the windows' input arrays as the region found
    them, every other buffer but the result as it was there, and every counter at zero. -/
theorem run_main : θ_run defs (onTc (τ := τ) (main (F := F))) (s₀ m ρ)
    (fun r => Pipeline.RDat.FramePostR (cfgs 0) (fun c => (dats m 0 c).toRForget forgets0) T0 (V m) r ∧ r.2.sem = fun _ => 0) :=
  Pipeline.θ_run_frame_around_T_track_forget_shared (Q' := _) cfgs (dats m) (0 : Fin 1) launch₀0 defs₀ Variants.none forgets0 T0 m ρ main
    (hbody := body_obligation m) (hq := fun _ _ _ => rfl) (howed := fun _ _ => rfl) (V₀ := V0 m) (opss := [hostOps1])
    (hsub := sfx_sub) (hfresh := sfx_fresh) (hkeep := sfx_keeps) (hT := sfx_T) (hmain := hmain m Variants.none) (hA := A_eq m)
    (hin := fun _ => .rfl) (hout := fun _ => .rfl)

/-- The frame: the five arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (Finset.mem_sdiff.mpr ⟨Pipeline.mem_restRefs_of main_arg0 (by decide) (by decide), by decide⟩)).trans (V_main_arg0 m c),
      (h.1.arr_in c 3 rfl).trans ((A_eq m c 3).trans (V_main_arg1 m c)),
      (h.1.arr_in c 5 rfl).trans ((A_eq m c 5).trans (V_main_arg2 m c)),
      ((h.1 c).2 main_arg3 (Finset.mem_sdiff.mpr ⟨Pipeline.mem_restRefs_of main_arg3 (by decide) (by decide), by decide⟩)).trans (V_main_arg3 m c),
      (h.1.arr_in c 0 rfl).trans ((A_eq m c 0).trans (V_main_arg4 m c))⟩, h.2⟩) (run_main m ρ)

end Cert.KernelIdeal.Body

end
-- ==== Proof.Decode.lean ====
/-
  One decoded slab of 64 rows, as the kernel computes it: the kernel decodes 64 rows of a weight tile at a time, 128
  columns at a time, and it does so at nine places (once for each of four slabs in each of the two buffer orders, and once
  in the loop that fills the first tile). The functions here are that one computation, over what it is given: the packed
  codes `pw`, the quantized block scales `q`, the two groups of second level scales `lo8` and `hi8`, the offset `off`, the
  slab's first row `row0`, and the two lane numbers that say where the tile starts in its plane of block scales.
-/
module

public import proofs.«01_k».proof.Proof.Gen.KernelIdeal.Loops
public import proofs.«01_k».proof.Proof.Gen.KernelIdeal.Frame

@[expose] public section

set_option maxRecDepth 16384

noncomputable section

namespace Cert.Decode

open Cert.KernelIdeal Cert.KernelIdeal.Gen
open Idealize.ShloMosaic

variable {F : FTy → Type} [FloatOps F]

/-- Division of a word by a constant, rounded towards minus infinity, as the kernel writes it. -/
def fdiv (x c : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32))))
      (Scalar.cmpi .ne (Scalar.remsi x c) 0#32))
    (Scalar.subi (Scalar.divsi x c) 1#32) (Scalar.divsi x c)

/-- The remainder that goes with `fdiv`, as the kernel writes it. -/
def fmod (x c : BitVec 32) : BitVec 32 :=
  let d := Scalar.select (Scalar.cmpi .eq c 0#32) 1#32 c
  let r := Scalar.remsi x d
  Scalar.select (Scalar.andi (Scalar.xori (Scalar.cmpi .slt r 0#32) (Scalar.cmpi .slt d 0#32)) (Scalar.cmpi .ne r 0#32))
    (Scalar.addi r d) r

/-- `fdiv` on every element of a vector. -/
def vfdiv {s : Shape} (x : IVec s 32) (c : BitVec 32) : IVec s 32 :=
  select (andi
      (cmpi .ne (subi (extui 32 (cmpi .sgt x (broadcast s 0#32)) natLt_1_32) (extui 32 (cmpi .slt x (broadcast s 0#32)) natLt_1_32))
        (broadcast s (Scalar.subi (Scalar.extui (Scalar.cmpi .sgt c 0#32)) (Scalar.extui (Scalar.cmpi .slt c 0#32)))))
      (cmpi .ne (remsi x (broadcast s c)) (broadcast s 0#32)))
    (subi (divsi x (broadcast s c)) (broadcast s 1#32)) (divsi x (broadcast s c))

/-- A lane number made nonnegative, as an indexed read of a vector writes it. -/
def wrap {s : Shape} (x : IVec s 32) : IVec s 32 :=
  select (cmpi .slt x (broadcast s 0#32)) (addi x (broadcast s 128#32)) x

/-- The scale of each of eight rows, all of whose lanes read lane `col + k`. -/
def scale8 (s : FVec F S8x128 .f32) (col k : BitVec 32) : FVec F S8x128 .f32 :=
  dynamicGather 1 s (shapeCast S8x128 (shapeCast S8x128x1
    (wrap (addi (broadcast S8x128 0#32) (broadcast S8x128 (Scalar.addi col k)))) shapeCasts_S8x128_S8x128x1) shapeCasts_S8x128x1_S8x128)

/-- The scales of 64 rows: eight rows of scales spread over 64, the first of them in lane `col`. -/
def scaleAt (s8 : Vec F S8x128 .f32) (col : BitVec 32) : FVec F S64x128 .f32 :=
  have s : FVec F S8x128 .f32 := shapeCast S8x128 s8 shapeCasts_S8x128_S8x128
  concatenate S64x128 0 [⟨S8x128, scale8 s col 0#32⟩, ⟨S8x128, scale8 s col 1#32⟩, ⟨S8x128, scale8 s col 2#32⟩, ⟨S8x128, scale8 s col 3#32⟩,
    ⟨S8x128, scale8 s col 4#32⟩, ⟨S8x128, scale8 s col 5#32⟩, ⟨S8x128, scale8 s col 6#32⟩, ⟨S8x128, scale8 s col 7#32⟩]
    concatenates_S8x128_S8x128_S8x128_S8x128_S8x128_S8x128_S8x128_S8x128_S64x128_d0

/-- The lane of its plane in which the scales of a slab's first eight rows lie. -/
def colOf (row0 : BitVec 32) : BitVec 32 := fmod (fdiv row0 8#32) 128#32

/-- The row number of every element of the slab. -/
def rows (row0 : BitVec 32) : IVec S64x128 32 :=
  addi (broadcast S64x128 row0) (iota .tc S64x128 32 [0] iota_S64x128_d0_w32)

/-- The first block of each row that is scaled by the row's second group. -/
def firstHi (row0 : BitVec 32) : IVec S64x128 32 :=
  subi (muli (addi (vfdiv (muli (rows row0) (broadcast S64x128 224#32)) 256#32) (broadcast S64x128 1#32)) (broadcast S64x128 256#32))
    (muli (rows row0) (broadcast S64x128 224#32))

/-- The largest magnitude of each block of the slab, rounded to bf16; the scales of its first eight rows lie in lanes `cl` and `ch`. -/
def absmaxAt (q : Vec F S64x128 .i8) (lo8 hi8 : Vec F S8x128 .f32) (off : Elt F .f32) (row0 plane cl ch : BitVec 32) : FVec F S64x128 .f32 :=
  extf .f32 (truncf .bf16 (addf (mulf (sitofp .f32 q)
    (select (cmpi .sge (addi (broadcast S64x128 plane) (iota .tc S64x128 32 [1] iota_S64x128_d1_w32)) (firstHi row0)) (scaleAt hi8 ch) (scaleAt lo8 cl)))
    (broadcast S64x128 off)) bitsLt_bf16_f32) bitsLt_bf16_f32

/-- The same with the lanes the slab's first row gives. -/
def absmax (q : Vec F S64x128 .i8) (lo8 hi8 : Vec F S8x128 .f32) (off : Elt F .f32) (row0 plane : BitVec 32) : FVec F S64x128 .f32 :=
  absmaxAt q lo8 hi8 off row0 plane (colOf row0) (colOf row0)

/-- Four slices of 128 columns of packed bytes. -/
theorem slices (c : Fin 4) : S64x512.Slices ![0, 128 * c.val] S64x128 := by
  revert c; decide

/-- The codes of 128 columns, from the slab's packed bytes: the bytes of 64 of the 128 packed columns from `128 * c` on. -/
def codes (pw : Vec F S64x512 .i8) (c : Fin 4) (h : BitVec 32) : IVec S64x128 16 :=
  have lane : IVec S16x128 32 := iota .tc S16x128 32 [1] iota_S16x128_d1_w32
  have words : IVec S16x128 32 := bitcast S16x128 32 (extractStridedSlice S64x128 ![0, 128 * c.val] pw (slices c)) bitcasts_S64x128_w8_S16x128_w32
  extsi 16 (bitcast S64x128 8 (andi (shrui
      (dynamicGather 1 words (shapeCast S16x128 (shapeCast S16x128x1 (wrap (addi (vfdiv lane 2#32) (broadcast S16x128 h))) shapeCasts_S16x128_S16x128x1) shapeCasts_S16x128x1_S16x128))
      (muli (andi lane (broadcast S16x128 1#32)) (broadcast S16x128 4#32))) (broadcast S16x128 252645135#32)) bitcasts_S16x128_w32_S64x128_w8) natLt_8_16

/-- Bit `k` of each code, as a test. -/
def bit (x : IVec S64x128 16) (m : BitVec 16) : IVec S64x128 1 := cmpi .ne (andi x (broadcast S64x128 m)) (broadcast S64x128 0#16)

/-- One of two table entries by the codes' lowest bit. -/
def pick (x : IVec S64x128 16) (a b : BitVec 16) : FVec F S64x128 .bf16 :=
  select (bit x 1#16) (broadcast S64x128 (FloatOps.ofBits .bf16 a)) (broadcast S64x128 (FloatOps.ofBits .bf16 b))

/-- The table entry of each code. -/
def table (x : IVec S64x128 16) : FVec F S64x128 .bf16 :=
  select (bit x 8#16)
    (select (bit x 4#16)
      (select (bit x 2#16) (pick x 0x3F80#16 0x3F39#16) (pick x 0x3F10#16 0x3EE2#16))
      (select (bit x 2#16) (pick x 0x3EAD#16 0x3E7C#16) (pick x 0x3E25#16 0x3DA3#16)))
    (select (bit x 4#16)
      (select (bit x 2#16) (pick x 0x0000#16 0xBDBA#16) (pick x 0xBE3D#16 0xBE92#16))
      (select (bit x 2#16) (pick x 0xBECA#16 0xBF06#16) (pick x 0xBF32#16 0xBF80#16)))

/-- The block number of every column of a group of 128 columns, counted from lane `base` of the plane of block scales. -/
def blocks (base : BitVec 32) : IVec S64x128 32 :=
  addi (broadcast S64x128 base) (vfdiv (iota .tc S64x128 32 [1] iota_S64x128_d1_w32) 64#32)

/-- The 64 rows and 128 columns of weights that one store writes: columns `128 t` to `128 t + 127` of the tile. -/
def slab (pw : Vec F S64x512 .i8) (am : FVec F S64x128 .f32) (base : BitVec 32) (c : Fin 4) (h k : BitVec 32) : Vec F S64x128 .bf16 :=
  shapeCast S64x128 (mulf (table (codes (F := F) pw c h))
    (truncf .bf16 (dynamicGather 1 am (shapeCast S64x128 (shapeCast S64x128x1 (wrap (addi (blocks base) (broadcast S64x128 k)))
      shapeCasts_S64x128_S64x128x1) shapeCasts_S64x128x1_S64x128)) bitsLt_bf16_f32)) shapeCasts_S64x128_S64x128

/-- Which of the four slices of the packed bytes, and which half of it, column group `t` of a tile comes from: two columns to a byte. -/
def slabT (pw : Vec F S64x512 .i8) (am : FVec F S64x128 .f32) (base : BitVec 32) (t : Fin 8) : Vec F S64x128 .bf16 :=
  match t with
  | 0 => slab pw am base 0 0#32 0#32
  | 1 => slab pw am base 0 64#32 2#32
  | 2 => slab pw am base 1 0#32 4#32
  | 3 => slab pw am base 1 64#32 6#32
  | 4 => slab pw am base 2 0#32 8#32
  | 5 => slab pw am base 2 64#32 10#32
  | 6 => slab pw am base 3 0#32 12#32
  | 7 => slab pw am base 3 64#32 14#32

/-- A store of 64 rows and 128 columns into a buffer of decoded weights. -/
def store (o : Fin 2 → ℕ) (inb : ∀ a, o a + S64x128.size a ≤ S4096x1024.size a) (v : Vec F S64x128 .bf16) :
    View.Piece (Elt F) S4096x1024 .bf16 := ⟨Rect.unit (s := S4096x1024) o S64x128.size inb, v⟩

/-- The eight stores of a slab, the last one first. -/
def stores (o : Fin 8 → Fin 2 → ℕ) (inb : ∀ t a, o t a + S64x128.size a ≤ S4096x1024.size a) (v : Fin 8 → Vec F S64x128 .bf16) :
    List (View.Piece (Elt F) S4096x1024 .bf16) :=
  [store (o 7) (inb 7) (v 7), store (o 6) (inb 6) (v 6), store (o 5) (inb 5) (v 5), store (o 4) (inb 4) (v 4),
    store (o 3) (inb 3) (v 3), store (o 2) (inb 2) (v 2), store (o 1) (inb 1) (v 1), store (o 0) (inb 0) (v 0)]

/-- The number of the tile being decoded at a grid point: the next one, or the last one again. -/
def nextTile (i : grid0.Coords) : BitVec 32 := Scalar.minsi (Scalar.addi (BitVec.ofNat 32 (i 0).val) 1#32) 13#32

/-- The first row of the slab number `p` of a grid point. -/
def row0 (i : grid0.Coords) (p : BitVec 32) : BitVec 32 := Scalar.addi (Scalar.muli (BitVec.ofNat 32 (i 1).val) 256#32) p

end Cert.Decode

end
-- ==== Proof.Slabs.lean ====
/- Where the slabs of a tile lie: the rectangles a grid point reads the packed bytes, the codes of the block scales and the group scales at,
   the rectangles it writes decoded weights at, and the lists of the stores themselves, with what they hold (Decode). A grid point decodes
   four slabs of 64 rows of the next tile; the loop of the first grid point decodes the 64 slabs of the first tile. -/
module

public import proofs.«01_k».proof.Proof.Decode

@[expose] public section

set_option maxRecDepth 16384

noncomputable section

namespace Cert.Decode

open Cert.KernelIdeal Cert.KernelIdeal.Gen
open Idealize.ShloMosaic Idealize.ShloMosaic.View

variable {F : FTy → Type} [FloatOps F]

/-! ## A grid point's four slabs -/

/-- Where slab `p` of a grid point reads its block-scale codes. -/
def qOff (i : grid0.Coords) (p : Fin 4) : Fin 2 → ℕ :=
  match p with | 0 => k0_off13 i | 1 => k0_off24 i | 2 => k0_off25 i | 3 => k0_off26 i

/-- Where slab `p` reads its group scales. -/
def sOff (i : grid0.Coords) (p : Fin 4) : Fin 2 → ℕ := k0_off14 i (BitVec.ofNat 32 (64 * p.val))

/-- Where slab `p` reads its packed bytes. -/
def pOff (p : Fin 4) : Fin 2 → ℕ := ![64 * p.val, 0]

/-- Where slab `p` writes its column group `t`. -/
def wOff (i : grid0.Coords) (p : Fin 4) (t : Fin 8) : Fin 2 → ℕ :=
  match t with
  | 0 => k0_off16 i (BitVec.ofNat 32 (64 * p.val)) | 1 => k0_off17 i (BitVec.ofNat 32 (64 * p.val))
  | 2 => k0_off18 i (BitVec.ofNat 32 (64 * p.val)) | 3 => k0_off19 i (BitVec.ofNat 32 (64 * p.val))
  | 4 => k0_off20 i (BitVec.ofNat 32 (64 * p.val)) | 5 => k0_off21 i (BitVec.ofNat 32 (64 * p.val))
  | 6 => k0_off22 i (BitVec.ofNat 32 (64 * p.val)) | 7 => k0_off23 i (BitVec.ofNat 32 (64 * p.val))

/-- The block-scale codes of slab `p`: the rows of the slab, the plane of 128 lanes the tile's blocks lie in. -/
theorem qOff_eq (i : grid0.Coords) (p : Fin 4) : qOff i p = ![64 * p.val, 128 * (16 * min ((i 0).val + 1) 13 / 128)] :=
  match p with | 0 => k0_off13_eq i | 1 => k0_off24_eq i | 2 => k0_off25_eq i | 3 => k0_off26_eq i

/-- The group scales of slab `p`: the plane of 128 lanes its eight lanes lie in. -/
theorem sOff_eq : ∀ (i : grid0.Coords) (p : Fin 4), sOff i p = ![0, 128 * ((256 * (i 1).val + 64 * p.val) / 8 / 128)] := by
  decide +kernel

/-- Column group `t` of slab `p`: the slab's rows of the tile, 128 columns. -/
theorem wOff_eq (i : grid0.Coords) (p : Fin 4) (t : Fin 8) : wOff i p t = ![256 * (i 1).val + 64 * p.val, 128 * t.val] :=
  match t with
  | 0 => k0_off16_eq i p | 1 => k0_off17_eq i p | 2 => k0_off18_eq i p | 3 => k0_off19_eq i p
  | 4 => k0_off20_eq i p | 5 => k0_off21_eq i p | 6 => k0_off22_eq i p | 7 => k0_off23_eq i p

/-- A grid point's coordinates are below 14 and 16. -/
theorem coord0_lt (i : grid0.Coords) : (i 0).val < 14 := (i 0).isLt
theorem coord1_lt (i : grid0.Coords) : (i 1).val < 16 := (i 1).isLt

theorem qOff_inb (i : grid0.Coords) (p : Fin 4) (a : Fin 2) : qOff i p a + S64x128.size a ≤ S256x256.size a := by
  rw [qOff_eq]; have := coord0_lt i; revert a
  simp only [Fin.forall_fin_two]; simp; constructor <;> omega
theorem sOff_inb (i : grid0.Coords) (p : Fin 4) (a : Fin 2) : sOff i p a + S8x128.size a ≤ S8x512.size a := by
  rw [sOff_eq]; have := coord1_lt i; revert a
  simp only [Fin.forall_fin_two]; simp; omega
theorem pOff_inb (p : Fin 4) (a : Fin 2) : pOff p a + S64x512.size a ≤ S256x512.size a := by
  revert a; simp only [Fin.forall_fin_two, pOff]; simp; omega
theorem wOff_inb (i : grid0.Coords) (p : Fin 4) (t : Fin 8) (a : Fin 2) : wOff i p t a + S64x128.size a ≤ S4096x1024.size a := by
  rw [wOff_eq]; have := coord1_lt i; revert a
  simp only [Fin.forall_fin_two]; simp; constructor <;> omega

/-- The first lane of a tile's blocks in its plane, and the plane. -/
def base (i : grid0.Coords) : BitVec 32 := fmod (Scalar.muli (nextTile i) 16#32) 128#32
def plane (i : grid0.Coords) : BitVec 32 := Scalar.muli (fdiv (Scalar.muli (nextTile i) 16#32) 128#32) 128#32

/-- The block scales of slab `p`. -/
def slabAm (i : grid0.Coords) (Q : Vec F S256x256 .i8) (Lo Hi : Vec F S8x512 .f32) (off : Elt F .f32) (p : Fin 4) : FVec F S64x128 .f32 :=
  absmax (ld Q (Rect.unit (s := S256x256) (qOff i p) S64x128.size (qOff_inb i p)))
    (ld Lo (Rect.unit (s := S8x512) (sOff i p) S8x128.size (sOff_inb i p)))
    (ld Hi (Rect.unit (s := S8x512) (sOff i p) S8x128.size (sOff_inb i p))) off (row0 i (BitVec.ofNat 32 (64 * p.val))) (plane i)

/-- What slab `p` writes in its column group `t`. -/
def slabVal (i : grid0.Coords) (P : Vec F S256x512 .i8) (Q : Vec F S256x256 .i8) (Lo Hi : Vec F S8x512 .f32) (off : Elt F .f32)
    (p : Fin 4) (t : Fin 8) : Vec F S64x128 .bf16 :=
  slabT (ld P (Rect.unit (s := S256x512) (pOff p) S64x512.size (pOff_inb p))) (slabAm i Q Lo Hi off p) (base i) t

/-- The stores of slab `p`, the last first. -/
def slabStores (i : grid0.Coords) (P : Vec F S256x512 .i8) (Q : Vec F S256x256 .i8) (Lo Hi : Vec F S8x512 .f32) (off : Elt F .f32) (p : Fin 4) :
    List (View.Piece (Elt F) S4096x1024 .bf16) :=
  stores (wOff i p) (wOff_inb i p) (slabVal i P Q Lo Hi off p)

/-- The stores of a grid point, the last first. -/
def tileStores (i : grid0.Coords) (P : Vec F S256x512 .i8) (Q : Vec F S256x256 .i8) (Lo Hi : Vec F S8x512 .f32) (off : Elt F .f32) :
    List (View.Piece (Elt F) S4096x1024 .bf16) :=
  slabStores i P Q Lo Hi off 3 ++ (slabStores i P Q Lo Hi off 2 ++ (slabStores i P Q Lo Hi off 1 ++ slabStores i P Q Lo Hi off 0))

/-! ## The loop's slabs -/

/-- Where trip `k` writes its column group `t`. -/
def lwOff (k : Fin k0_t1_loop.trips) (t : Fin 8) : Fin 2 → ℕ :=
  match t with
  | 0 => k0_off5 k | 1 => k0_off6 k | 2 => k0_off7 k | 3 => k0_off8 k | 4 => k0_off9 k | 5 => k0_off10 k | 6 => k0_off11 k | 7 => k0_off12 k

theorem lwOff_eq (k : Fin k0_t1_loop.trips) (t : Fin 8) : lwOff k t = ![64 * k.val, 128 * t.val] :=
  match t with
  | 0 => k0_off5_eq k | 1 => k0_off6_eq k | 2 => k0_off7_eq k | 3 => k0_off8_eq k
  | 4 => k0_off9_eq k | 5 => k0_off10_eq k | 6 => k0_off11_eq k | 7 => k0_off12_eq k

/-- The loop makes 64 trips. -/
theorem trips_eq : k0_t1_loop.trips = 64 := by decide +kernel
theorem trip_lt (k : Fin k0_t1_loop.trips) : k.val < 64 := trips_eq ▸ k.isLt

theorem lsOff_eq : ∀ k : Fin k0_t1_loop.trips, k0_off2 k = ![0, 128 * (64 * k.val / 8 / 128)] := by decide +kernel

theorem lqOff_inb (k : Fin k0_t1_loop.trips) (a : Fin 2) : k0_off1 k a + S64x128.size a ≤ S4096x256.size a := by
  rw [k0_off1_eq]; have := trip_lt k; revert a
  simp only [Fin.forall_fin_two]; simp; omega
theorem lsOff_inb (k : Fin k0_t1_loop.trips) (a : Fin 2) : k0_off2 k a + S8x128.size a ≤ S8x512.size a := by
  rw [lsOff_eq]; have := trip_lt k; revert a
  simp only [Fin.forall_fin_two]; simp; omega
theorem lpOff_inb (k : Fin k0_t1_loop.trips) (a : Fin 2) : k0_off3 k a + S64x512.size a ≤ S4096x512.size a := by
  rw [k0_off3_eq]; have := trip_lt k; revert a
  simp only [Fin.forall_fin_two]; simp; omega
theorem lwOff_inb (k : Fin k0_t1_loop.trips) (t : Fin 8) (a : Fin 2) : lwOff k t a + S64x128.size a ≤ S4096x1024.size a := by
  rw [lwOff_eq]; have := trip_lt k; revert a
  simp only [Fin.forall_fin_two]; simp; constructor <;> omega

/-- The first row of trip `k`'s slab. -/
def lrow0 (k : Fin k0_t1_loop.trips) : BitVec 32 := Scalar.muli (Scf.iv 0#32 1#32 k.val) 64#32

/-- What trip `k` writes in its column group `t`; the scales of its first eight rows lie in lanes `cl` and `ch`. -/
def loopValAt (P : Vec F S4096x512 .i8) (Q : Vec F S4096x256 .i8) (Lo Hi : Vec F S8x512 .f32) (off : Elt F .f32)
    (k : Fin k0_t1_loop.trips) (cl ch : BitVec 32) (t : Fin 8) : Vec F S64x128 .bf16 :=
  slabT (ld P (Rect.unit (s := S4096x512) (k0_off3 k) S64x512.size (lpOff_inb k)))
    (absmaxAt (ld Q (Rect.unit (s := S4096x256) (k0_off1 k) S64x128.size (lqOff_inb k)))
      (ld Lo (Rect.unit (s := S8x512) (k0_off2 k) S8x128.size (lsOff_inb k)))
      (ld Hi (Rect.unit (s := S8x512) (k0_off2 k) S8x128.size (lsOff_inb k))) off (lrow0 k) 0#32 cl ch) 0#32 t

/-- The same with the lanes the trip's first row gives. -/
def loopVal (P : Vec F S4096x512 .i8) (Q : Vec F S4096x256 .i8) (Lo Hi : Vec F S8x512 .f32) (off : Elt F .f32)
    (k : Fin k0_t1_loop.trips) (t : Fin 8) : Vec F S64x128 .bf16 := loopValAt P Q Lo Hi off k (colOf (lrow0 k)) (colOf (lrow0 k)) t

/-- The stores of trip `k`, the last first. -/
def loopStores (P : Vec F S4096x512 .i8) (Q : Vec F S4096x256 .i8) (Lo Hi : Vec F S8x512 .f32) (off : Elt F .f32) (k : Fin k0_t1_loop.trips) :
    List (View.Piece (Elt F) S4096x1024 .bf16) :=
  stores (lwOff k) (lwOff_inb k) (loopVal P Q Lo Hi off k)

/-! ## The product -/

/-- 512 columns of a grid point's block of the result: the block of activations times 512 columns of the decoded tile. -/
def dot512 (X : Vec F S1024x4096 .bf16) (W : Vec F S4096x512 .bf16) : FVec F S1024x512 .bf16 :=
  truncf .bf16 (matmul dot_S1024x4096_S4096x512_S1024x512_1_0_0_1_n_n none (shapeCast S1024x4096 X shapeCasts_S1024x4096_S1024x4096) W
    (constant S1024x512 .f32 0x00000000#32)) bitsLt_bf16_f32

/-- The two stores of a grid point's block of the result, the last first. -/
def outStores (X : Vec F S1024x4096 .bf16) (W : Vec F S4096x1024 .bf16) : List (View.Piece (Elt F) S1024x1024 .bf16) :=
  [⟨Rect.unit (s := S1024x1024) ![0, 512] S1024x512.size inb_S1024x1024_S1024x512_0_512,
      dot512 (ld X (Rect.unit (s := S1024x4096) ![0, 0] S1024x4096.size inb_S1024x4096_S1024x4096_0_0))
        (ld W (Rect.unit (s := S4096x1024) ![0, 512] S4096x512.size inb_S4096x1024_S4096x512_0_512))⟩,
    ⟨Rect.unit (s := S1024x1024) ![0, 0] S1024x512.size inb_S1024x1024_S1024x512_0_0,
      dot512 (ld X (Rect.unit (s := S1024x4096) ![0, 0] S1024x4096.size inb_S1024x4096_S1024x4096_0_0))
        (ld W (Rect.unit (s := S4096x1024) ![0, 0] S4096x512.size inb_S4096x1024_S4096x512_0_0))⟩]

end Cert.Decode

end
-- ==== Proof.Match.lean ====
/- The stores the runs of the body found (RunA, RunB, RunC and the loop's trip) are the slabs' stores of Slabs and the two products. -/
module

public import proofs.«01_k».proof.Proof.Slabs
public import proofs.«01_k».proof.Proof.RunA
public import proofs.«01_k».proof.Proof.RunB
public import proofs.«01_k».proof.Proof.RunC
public import Idealize.ShloMosaic.Lib.Tactic

@[expose] public section

set_option maxRecDepth 16384

noncomputable section

namespace Cert.KernelIdeal.Body

open Cert.KernelIdeal Cert.KernelIdeal.Gen Cert.Decode
open Idealize.ShloMosaic Idealize.ShloMosaic.TcCoe Idealize.ShloMosaic.Tactic Idealize.ShloMosaic.View

variable {F : FTy → Type} [FloatOps F]

/-- The one number of the offset's buffer, as the body loads it. -/
def off0 (arg2 : Memref sig .tc .smem S1 .f32) (X_arg2 : BufTy.Contents (Elt F) arg2.view.ty) : Elt F .f32 :=
  ld (arg2.view.read (Elt F) X_arg2) (Rect.unit (s := S1) ![0] S1.size inb_S1_S1_0) (Shape.Idx.first (by decide))

/-- The stores of a point of an even tile: the product with the buffer of the tile at hand into the result, the next tile's slabs into the other. -/
theorem runB_eq (𝒱 : Variants) (c : Dev nD) (i : grid0.Coords) (h1 : ¬k0_cond1 i = 1#1) (h2 : k0_cond2 i = 1#1) (h3 : ¬k0_cond3 i = 1#1)
    (arg2 : Memref sig .tc .smem S1 .f32) (harg2 : arg2.IsWhole)
    (arg3 : Memref sig .tc .vmem S1024x4096 .bf16) (harg3 : arg3.IsWhole)
    (arg4 : Memref sig .tc .vmem S4096x512 .i8) (harg4 : arg4.IsWhole)
    (arg5 : Memref sig .tc .vmem S256x512 .i8) (harg5 : arg5.IsWhole)
    (arg6 : Memref sig .tc .vmem S4096x256 .i8) (harg6 : arg6.IsWhole)
    (arg7 : Memref sig .tc .vmem S256x256 .i8) (harg7 : arg7.IsWhole)
    (arg8 : Memref sig .tc .vmem S8x512 .f32) (harg8 : arg8.IsWhole)
    (arg9 : Memref sig .tc .vmem S8x512 .f32) (harg9 : arg9.IsWhole)
    (arg10 : Memref sig .tc .vmem S1024x1024 .bf16) (harg10 : arg10.IsWhole)
    (arg11 : Memref sig .tc .vmem S4096x1024 .bf16) (harg11 : arg11.IsWhole)
    (arg12 : Memref sig .tc .vmem S4096x1024 .bf16) (harg12 : arg12.IsWhole)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg11 : BufTy.Contents (Elt F) arg11.view.ty) :
    (runB 𝒱 c i h1 h2 h3 arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 X_arg11).1
      = (outStores (arg3.view.read (Elt F) X_arg3) (arg11.view.read (Elt F) X_arg11), tileStores i (arg5.view.read (Elt F) X_arg5) (arg7.view.read (Elt F) X_arg7) (arg8.view.read (Elt F) X_arg8) (arg9.view.read (Elt F) X_arg9) (off0 arg2 X_arg2)) := by
  sl_kernel_rfl

/-- The stores of a point of an odd tile: the product with the buffer of the tile at hand into the result, the next tile's slabs into the other. -/
theorem runC_eq (𝒱 : Variants) (c : Dev nD) (i : grid0.Coords) (h1 : ¬k0_cond1 i = 1#1) (h2 : ¬k0_cond2 i = 1#1) (h3 : k0_cond3 i = 1#1)
    (arg2 : Memref sig .tc .smem S1 .f32) (harg2 : arg2.IsWhole)
    (arg3 : Memref sig .tc .vmem S1024x4096 .bf16) (harg3 : arg3.IsWhole)
    (arg4 : Memref sig .tc .vmem S4096x512 .i8) (harg4 : arg4.IsWhole)
    (arg5 : Memref sig .tc .vmem S256x512 .i8) (harg5 : arg5.IsWhole)
    (arg6 : Memref sig .tc .vmem S4096x256 .i8) (harg6 : arg6.IsWhole)
    (arg7 : Memref sig .tc .vmem S256x256 .i8) (harg7 : arg7.IsWhole)
    (arg8 : Memref sig .tc .vmem S8x512 .f32) (harg8 : arg8.IsWhole)
    (arg9 : Memref sig .tc .vmem S8x512 .f32) (harg9 : arg9.IsWhole)
    (arg10 : Memref sig .tc .vmem S1024x1024 .bf16) (harg10 : arg10.IsWhole)
    (arg11 : Memref sig .tc .vmem S4096x1024 .bf16) (harg11 : arg11.IsWhole)
    (arg12 : Memref sig .tc .vmem S4096x1024 .bf16) (harg12 : arg12.IsWhole)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg12 : BufTy.Contents (Elt F) arg12.view.ty) :
    (runC 𝒱 c i h1 h2 h3 arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 X_arg12).1
      = (outStores (arg3.view.read (Elt F) X_arg3) (arg12.view.read (Elt F) X_arg12), tileStores i (arg5.view.read (Elt F) X_arg5) (arg7.view.read (Elt F) X_arg7) (arg8.view.read (Elt F) X_arg8) (arg9.view.read (Elt F) X_arg9) (off0 arg2 X_arg2)) := by
  sl_kernel_rfl

/-- The lane the trip reads its first scales in, of either table. -/
theorem trip_col : ∀ k : Fin k0_t1_loop.trips, trip_k0_t1.sl.v89 k = colOf (lrow0 k) := by decide +kernel

/-- The stores of a trip of the loop. -/
theorem trip_eq (𝒱 : Variants) (c : Dev nD) (bd : Option 𝒱.V) (i : grid0.Coords)
    (arg2 : Memref sig .tc .smem S1 .f32) (harg2 : arg2.IsWhole)
    (arg3 : Memref sig .tc .vmem S1024x4096 .bf16) (harg3 : arg3.IsWhole)
    (arg4 : Memref sig .tc .vmem S4096x512 .i8) (harg4 : arg4.IsWhole)
    (arg5 : Memref sig .tc .vmem S256x512 .i8) (harg5 : arg5.IsWhole)
    (arg6 : Memref sig .tc .vmem S4096x256 .i8) (harg6 : arg6.IsWhole)
    (arg7 : Memref sig .tc .vmem S256x256 .i8) (harg7 : arg7.IsWhole)
    (arg8 : Memref sig .tc .vmem S8x512 .f32) (harg8 : arg8.IsWhole)
    (arg9 : Memref sig .tc .vmem S8x512 .f32) (harg9 : arg9.IsWhole)
    (arg10 : Memref sig .tc .vmem S1024x1024 .bf16) (harg10 : arg10.IsWhole)
    (arg11 : Memref sig .tc .vmem S4096x1024 .bf16) (harg11 : arg11.IsWhole)
    (arg12 : Memref sig .tc .vmem S4096x1024 .bf16) (harg12 : arg12.IsWhole) (v0 : Elt F .f32) (k0_h1 : k0_cond1 i = 1#1)
    (X_arg4 : BufTy.Contents (Elt F) arg4.view.ty) (X_arg6 : BufTy.Contents (Elt F) arg6.view.ty) (X_arg8 : BufTy.Contents (Elt F) arg8.view.ty) (X_arg9 : BufTy.Contents (Elt F) arg9.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 v0 k0_h1 X_arg4 X_arg6 X_arg8 X_arg9 k
      = loopStores (arg4.view.read (Elt F) X_arg4) (arg6.view.read (Elt F) X_arg6) (arg8.view.read (Elt F) X_arg8) (arg9.view.read (Elt F) X_arg9) v0 k := by
  have h : tripL_k0_t1 (F := F) 𝒱 c bd i arg2 harg2 arg3 harg3 arg4 harg4 arg5 harg5 arg6 harg6 arg7 harg7 arg8 harg8 arg9 harg9 arg10 harg10 arg11 harg11 arg12 harg12 v0 k0_h1 X_arg4 X_arg6 X_arg8 X_arg9 k
      = stores (lwOff k) (lwOff_inb k) (loopValAt (arg4.view.read (Elt F) X_arg4) (arg6.view.read (Elt F) X_arg6) (arg8.view.read (Elt F) X_arg8) (arg9.view.read (Elt F) X_arg9) v0 k
          (trip_k0_t1.sl.v89 k) (trip_k0_t1.sl.v89 k)) := by
    sl_kernel_rfl
  rw [h, trip_col]; rfl

/-- The stores of the first point: the loop's into the first buffer, the product with what they leave there into the result, and the next
    tile's slabs into the other. -/
theorem runA_eq (𝒱 : Variants) (c : Dev nD) (i : grid0.Coords) (h1 : k0_cond1 i = 1#1) (h2 : k0_cond2 i = 1#1) (h3 : ¬k0_cond3 i = 1#1)
    (arg2 : Memref sig .tc .smem S1 .f32) (harg2 : arg2.IsWhole)
    (arg3 : Memref sig .tc .vmem S1024x4096 .bf16) (harg3 : arg3.IsWhole)
    (arg4 : Memref sig .tc .vmem S4096x512 .i8) (harg4 : arg4.IsWhole)
    (arg5 : Memref sig .tc .vmem S256x512 .i8) (harg5 : arg5.IsWhole)
    (arg6 : Memref sig .tc .vmem S4096x256 .i8) (harg6 : arg6.IsWhole)
    (arg7 : Memref sig .tc .vmem S256x256 .i8) (harg7 : arg7.IsWhole)
    (arg8 : Memref sig .tc .vmem S8x512 .f32) (harg8 : arg8.IsWhole)
    (arg9 : Memref sig .tc .vmem S8x512 .f32) (harg9 : arg9.IsWhole)
    (arg10 : Memref sig .tc .vmem S1024x1024 .bf16) (harg10 : arg10.IsWhole)
    (arg11 : Memref sig .tc .vmem S4096x1024 .bf16) (harg11 : arg11.IsWhole)
    (arg12 : Memref sig .tc .vmem S4096x1024 .bf16) (harg12 : arg12.IsWhole)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) :
    (runA 𝒱 c i h1 h2 h3 arg2 harg2 arg3 harg3 arg4 harg4 arg5 harg5 arg6 harg6 arg7 harg7 arg8 harg8 arg9 harg9 arg10 harg10 arg11 harg11 arg12 harg12 X_arg2 X_arg3 X_arg4 X_arg5 X_arg6 X_arg7 X_arg8 X_arg9 G_arg11).1
      = (outStores (arg3.view.read (Elt F) X_arg3) (arg11.view.read (Elt F) (arg11.view.writes (Elt F) G_arg11
            (pb_k0_t1 (F := F) 𝒱 c none i arg2 harg2 arg3 harg3 arg4 harg4 arg5 harg5 arg6 harg6 arg7 harg7 arg8 harg8 arg9 harg9 arg10 harg10 arg11 harg11 arg12 harg12 (off0 arg2 X_arg2) h1 X_arg4 X_arg6 X_arg8 X_arg9 k0_t1_loop.trips))),
          pb_k0_t1 (F := F) 𝒱 c none i arg2 harg2 arg3 harg3 arg4 harg4 arg5 harg5 arg6 harg6 arg7 harg7 arg8 harg8 arg9 harg9 arg10 harg10 arg11 harg11 arg12 harg12 (off0 arg2 X_arg2) h1 X_arg4 X_arg6 X_arg8 X_arg9 k0_t1_loop.trips,
          tileStores i (arg5.view.read (Elt F) X_arg5) (arg7.view.read (Elt F) X_arg7) (arg8.view.read (Elt F) X_arg8) (arg9.view.read (Elt F) X_arg9) (off0 arg2 X_arg2)) := by
  sl_kernel_rfl

end Cert.KernelIdeal.Body

end
-- ==== Proof.SlabValue.lean ====
/- What one decoded slab holds, element by element, over the extended reals: a table entry, chosen by four bits of a packed byte, times
   the block's largest magnitude, which is the block's code times its group's scale plus the offset. -/
module

public import proofs.«01_k».proof.Proof.Slabs
public import Idealize.ShloMosaic.Lib.BitcastFour
public import Idealize.ShloMosaic.Lib.ValueIdxCore
public import Idealize.ShloMosaic.Lib.Pipeline.Value
public import Idealize.ShloMosaic.Lib.Pointwise.Tactic

@[expose] public section

set_option maxRecDepth 16384

noncomputable section

namespace Cert.Decode

open Cert.KernelIdeal Cert.KernelIdeal.Gen
open Idealize.ShloMosaic hiding ix0 ix1 ix2 ix3 ix4 ix5
open Idealize.ShloMosaic.View Idealize.ShloMosaic.ValueIdx

/-! ## Codes and the table -/

/-- The lower (`p = 0`) or upper (`p = 1`) four bits of a byte. -/
def nib (b : BitVec 8) (p : ℕ) : BitVec 4 := (b >>> (4 * p)).setWidth 4

/-- The sixteen table entries, by the code's four bits. -/
def entry (n : BitVec 4) : EReal :=
  bif n.getLsbD 3 then
    bif n.getLsbD 2 then
      bif n.getLsbD 1 then bif n.getLsbD 0 then Ideal.ofBits .bf16 0x3F80#16 else Ideal.ofBits .bf16 0x3F39#16
      else bif n.getLsbD 0 then Ideal.ofBits .bf16 0x3F10#16 else Ideal.ofBits .bf16 0x3EE2#16
    else
      bif n.getLsbD 1 then bif n.getLsbD 0 then Ideal.ofBits .bf16 0x3EAD#16 else Ideal.ofBits .bf16 0x3E7C#16
      else bif n.getLsbD 0 then Ideal.ofBits .bf16 0x3E25#16 else Ideal.ofBits .bf16 0x3DA3#16
  else
    bif n.getLsbD 2 then
      bif n.getLsbD 1 then bif n.getLsbD 0 then Ideal.ofBits .bf16 0x0000#16 else Ideal.ofBits .bf16 0xBDBA#16
      else bif n.getLsbD 0 then Ideal.ofBits .bf16 0xBE3D#16 else Ideal.ofBits .bf16 0xBE92#16
    else
      bif n.getLsbD 1 then bif n.getLsbD 0 then Ideal.ofBits .bf16 0xBECA#16 else Ideal.ofBits .bf16 0xBF06#16
      else bif n.getLsbD 0 then Ideal.ofBits .bf16 0xBF32#16 else Ideal.ofBits .bf16 0xBF80#16

/-- A choice by a truth value written as a one-bit word. -/
theorem select_ofBool {α : Type} (b : Bool) (x y : α) : Scalar.select (BitVec.ofBool b) x y = bif b then x else y := by
  cases b <;> rfl

theorem bit_code : ∀ n : BitVec 4,
    IntOp.cmpi .ne (IntOp.andi (n.setWidth 16) 1#16) 0#16 = BitVec.ofBool (n.getLsbD 0)
    ∧ IntOp.cmpi .ne (IntOp.andi (n.setWidth 16) 2#16) 0#16 = BitVec.ofBool (n.getLsbD 1)
    ∧ IntOp.cmpi .ne (IntOp.andi (n.setWidth 16) 4#16) 0#16 = BitVec.ofBool (n.getLsbD 2)
    ∧ IntOp.cmpi .ne (IntOp.andi (n.setWidth 16) 8#16) 0#16 = BitVec.ofBool (n.getLsbD 3) := by decide

/-- The table at an element whose code is `n`. -/
theorem table_apply (x : IVec S64x128 16) (j : S64x128.Idx) (n : BitVec 4) (h : x j = n.setWidth 16) :
    table (F := Ideal) x j = entry n := by
  obtain ⟨h0, h1, h2, h3⟩ := bit_code n
  have b0 : bit x 1#16 j = BitVec.ofBool (n.getLsbD 0) := by rw [← h0, ← h]; rfl
  have b1 : bit x 2#16 j = BitVec.ofBool (n.getLsbD 1) := by rw [← h1, ← h]; rfl
  have b2 : bit x 4#16 j = BitVec.ofBool (n.getLsbD 2) := by rw [← h2, ← h]; rfl
  have b3 : bit x 8#16 j = BitVec.ofBool (n.getLsbD 3) := by rw [← h3, ← h]; rfl
  simp only [table, pick, select_apply, broadcast_apply, b0, b1, b2, b3, select_ofBool]
  rfl

/-! ## Words -/

/-- The vector division at one lane. -/
def vfd (x c : BitVec 32) : BitVec 32 := vfdiv (s := ⟨0, ![]⟩) (fun _ => x) c ix0
def wr (x : BitVec 32) : BitVec 32 := wrap (s := ⟨0, ![]⟩) (fun _ => x) ix0

theorem vfdiv_apply {s : Shape} (x : IVec s 32) (c : BitVec 32) (j : s.Idx) : vfdiv x c j = vfd (x j) c := rfl
theorem wrap_apply {s : Shape} (x : IVec s 32) (j : s.Idx) : wrap x j = wr (x j) := rfl

theorem half_lane : ∀ (h : Fin 2) (l : Fin 128), (wr (vfd (BitVec.ofNat 32 l.val) 2#32 + BitVec.ofNat 32 (64 * h.val))).toNat % 128
    = l.val / 2 + 64 * h.val := by decide +kernel
theorem block_lane : ∀ (b : Fin 8) (t : Fin 8) (l : Fin 128),
    (wr ((BitVec.ofNat 32 (16 * b.val) + vfd (BitVec.ofNat 32 l.val) 64#32) + BitVec.ofNat 32 (2 * t.val))).toNat % 128
    = 16 * b.val + 2 * t.val + l.val / 64 := by decide +kernel
theorem scale_lane : ∀ (c : Fin 16) (k : Fin 8), (wr (0#32 + (Scalar.addi (BitVec.ofNat 32 (8 * c.val)) (BitVec.ofNat 32 k.val)))).toNat % 128
    = 8 * c.val + k.val := by decide +kernel
theorem shift_amount : ∀ l : Fin 128, IntOp.muli (IntOp.andi (BitVec.ofNat 32 l.val) 1#32) 4#32 = BitVec.ofNat 32 (4 * (l.val % 2)) := by
  decide +kernel
theorem mask_bit : ∀ q : Fin 32, (252645135#32).getLsbD q.val = decide (q.val % 8 < 4) := by decide +kernel

/-- The first block of row `r` of eight that its second group scales; a row of the first of eight has one group alone. -/
def firstBlk (s : ℕ) : ℕ := if s = 0 then 256 else 32 * s

theorem firstHi_word : ∀ r : Fin 4096,
    IntOp.subi (IntOp.muli (IntOp.addi (vfd (IntOp.muli (BitVec.ofNat 32 r.val) 224#32) 256#32) 1#32) 256#32) (IntOp.muli (BitVec.ofNat 32 r.val) 224#32)
      = BitVec.ofNat 32 (firstBlk (r.val % 8)) := by decide +kernel
theorem cmp_block : ∀ (b : Fin 256) (s : Fin 8), IntOp.cmpi .sge (BitVec.ofNat 32 b.val) (BitVec.ofNat 32 (firstBlk s.val))
    = BitVec.ofBool (decide (firstBlk s.val ≤ b.val)) := by decide +kernel

/-! ## The codes -/

/-- A gather of lanes at an element. -/
theorem gather_lane {a n : ℕ} {α : Type} (x : (⟨2, ![a, n]⟩ : Shape).Idx → α) (idx : IVec (⟨2, ![a, n]⟩ : Shape) 32) (r : Fin a) (l l' : Fin n)
    (h : (idx (ix2 r l)).toNat % n = l'.val) : dynamicGather 1 x idx (ix2 r l) = x (ix2 r l') := by
  rw [show dynamicGather 1 x idx (ix2 r l) = x fun b => if b = 1 then ⟨(idx (ix2 r l)).toNat % (⟨2, ![a, n]⟩ : Shape).size b, Nat.mod_lt _ (Fin.pos ((ix2 r l) b))⟩
    else (ix2 r l) b from rfl]
  congr 1
  funext b
  match b with
  | ⟨0, _⟩ => rfl
  | ⟨1, _⟩ => exact Fin.ext h

theorem widen (n : BitVec 4) : (n.setWidth 8).signExtend 16 = n.setWidth 16 := by revert n; decide

theorem codes_apply (pw : Vec Ideal S64x512 .i8) (c : Fin 4) (h : Fin 2) (r : Fin 64) (l : Fin 128) (b : Fin 512)
    (hb : b.val = 128 * c.val + (l.val / 2 + 64 * h.val)) :
    codes (F := Ideal) pw c (BitVec.ofNat 32 (64 * h.val)) (ix2 r l) = (nib (pw (ix2 r b)) (l.val % 2)).setWidth 16 := by
  rw [← widen]
  show BitVec.signExtend 16 (bitcast S64x128 8 _ _ (ix2 r l)) = _
  congr 1
  apply BitVec.eq_of_getLsbD_eq
  intro q hq
  rw [bitcast_getLsbD _ _ _ q hq (by decide)]
  have hl := l.isLt; have hr := r.isLt; have hh := h.isLt
  have hrow : Shape.row S64x128 (ix2 r l) = r.val := rfl
  have hsrc : ∀ hp, (bitcasts_S16x128_w32_S64x128_w8).srcIdx (ix2 r l) ((Shape.row S64x128 (ix2 r l) * 8 + q) / 32) hp
      = ix2 (⟨r.val / 4, by omega⟩ : Fin 16) l := by
    intro hp; funext a
    match a with
    | ⟨0, _⟩ => exact Fin.ext ((bitcasts_S16x128_w32_S64x128_w8.srcIdx_row _ _ _ ⟨0, Nat.zero_lt_two⟩ rfl).trans (by rw [hrow]; show _ = r.val / 4; omega))
    | ⟨1, _⟩ => exact Fin.ext (bitcasts_S16x128_w32_S64x128_w8.srcIdx_other _ _ _ ⟨1, Nat.one_lt_two⟩ (by show ¬ 1 + 2 = 2; omega))
  rw [hsrc, hrow]
  have hlane : iota .tc S16x128 32 [1] iota_S16x128_d1_w32 (ix2 (⟨r.val / 4, by omega⟩ : Fin 16) l) = BitVec.ofNat 32 l.val := by
    show BitVec.ofNat 32 _ = _; simp
  have hsh := shift_amount l
  show (IntOp.andi (IntOp.shrui .vector (dynamicGather 1 _ _ (ix2 (⟨r.val / 4, _⟩ : Fin 16) l)) (IntOp.muli (IntOp.andi (iota .tc S16x128 32 [1] iota_S16x128_d1_w32 (ix2 (⟨r.val / 4, _⟩ : Fin 16) l)) 1#32) 4#32))
    252645135#32).getLsbD _ = _
  rw [hlane, hsh, gather_lane _ _ _ l (⟨l.val / 2 + 64 * h.val, by omega⟩ : Fin 128) (by
    rw [shapeCast_shapeCast, wrap_apply]
    show (wr (vfd (iota .tc S16x128 32 [1] iota_S16x128_d1_w32 (ix2 _ l)) 2#32 + _)).toNat % 128 = _
    rw [hlane]; exact half_lane h l)]
  generalize hi : (r.val * 8 + q) % 32 = i
  have hi32 : i < 32 := by omega
  have hm : (252645135#32).getLsbD i = decide (i % 8 < 4) := mask_bit ⟨i, hi32⟩
  have hamt : (BitVec.ofNat 32 (4 * (l.val % 2))).toNat = 4 * (l.val % 2) := by
    rw [BitVec.toNat_ofNat]; omega
  unfold IntOp.andi IntOp.shrui
  rw [BitVec.getLsbD_and, hm, if_pos (by rw [hamt]; omega), BitVec.ushiftRight_eq', hamt, BitVec.getLsbD_ushiftRight]
  by_cases hq4 : q < 4
  · have e8 : i % 8 = q := by omega
    rw [e8, bitcast_8_32_getLsbD_ix2 _ _ _ _ _ (by omega) r (by show r.val = 4 * (r.val / 4) + _; omega)]
    rw [nib, BitVec.getLsbD_setWidth, BitVec.getLsbD_setWidth, BitVec.getLsbD_ushiftRight]
    have e9 : (4 * (l.val % 2) + i) % 8 = 4 * (l.val % 2) + q := by omega
    rw [e9]
    have hx : extractStridedSlice S64x128 ![0, 128 * c.val] pw (slices c) (ix2 r (⟨l.val / 2 + 64 * h.val, by omega⟩ : Fin 128)) = pw (ix2 r b) := by
      show pw _ = pw _
      congr 1; funext a
      match a with
      | ⟨0, _⟩ => exact Fin.ext (by show 0 + r.val = r.val; omega)
      | ⟨1, _⟩ => exact Fin.ext hb.symm
    rw [hx]
    simp [hq4, show q < 8 by omega]
  · have e8 : ¬ i % 8 < 4 := by omega
    rw [nib, BitVec.getLsbD_setWidth, BitVec.getLsbD_setWidth]
    simp [e8, hq4]

/-! ## The block scales -/

/-- Eight pieces of eight rows, one below the other, at an element. -/
theorem concat8 {α : Type} (f : Fin 8 → S8x128.Idx → α) (r : Fin 64) (l : Fin 128) (s : Fin 8) (k : Fin 8) (hr : 8 * k.val + s.val = r.val) :
    concatenate S64x128 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩]
      concatenates_S8x128_S8x128_S8x128_S8x128_S8x128_S8x128_S8x128_S8x128_S64x128_d0 (ix2 r l) = f k (ix2 s l) := by
  have hi : ∀ b : Fin S8x128.rank, b.cast rfl ≠ (0 : Fin S64x128.rank) → ((ix2 s l : S8x128.Idx) b).val = ((ix2 r l : S64x128.Idx) (b.cast rfl)).val := by
    intro b hb
    match b with
    | ⟨0, _⟩ => exact absurd rfl hb
    | ⟨1, _⟩ => rfl
  match k with
  | 0 => exact concatenate_apply_piece (t := S64x128) 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩] concatenates_S8x128_S8x128_S8x128_S8x128_S8x128_S8x128_S8x128_S8x128_S64x128_d0 (ix2 r l) 0 (by decide : 0 < 8) S8x128 (f 0) rfl rfl 0 rfl (ix2 s l) hi hr
  | 1 => exact concatenate_apply_piece (t := S64x128) 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩] concatenates_S8x128_S8x128_S8x128_S8x128_S8x128_S8x128_S8x128_S8x128_S64x128_d0 (ix2 r l) 1 (by decide : 1 < 8) S8x128 (f 1) rfl rfl 8 rfl (ix2 s l) hi hr
  | 2 => exact concatenate_apply_piece (t := S64x128) 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩] concatenates_S8x128_S8x128_S8x128_S8x128_S8x128_S8x128_S8x128_S8x128_S64x128_d0 (ix2 r l) 2 (by decide : 2 < 8) S8x128 (f 2) rfl rfl 16 rfl (ix2 s l) hi hr
  | 3 => exact concatenate_apply_piece (t := S64x128) 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩] concatenates_S8x128_S8x128_S8x128_S8x128_S8x128_S8x128_S8x128_S8x128_S64x128_d0 (ix2 r l) 3 (by decide : 3 < 8) S8x128 (f 3) rfl rfl 24 rfl (ix2 s l) hi hr
  | 4 => exact concatenate_apply_piece (t := S64x128) 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩] concatenates_S8x128_S8x128_S8x128_S8x128_S8x128_S8x128_S8x128_S8x128_S64x128_d0 (ix2 r l) 4 (by decide : 4 < 8) S8x128 (f 4) rfl rfl 32 rfl (ix2 s l) hi hr
  | 5 => exact concatenate_apply_piece (t := S64x128) 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩] concatenates_S8x128_S8x128_S8x128_S8x128_S8x128_S8x128_S8x128_S8x128_S64x128_d0 (ix2 r l) 5 (by decide : 5 < 8) S8x128 (f 5) rfl rfl 40 rfl (ix2 s l) hi hr
  | 6 => exact concatenate_apply_piece (t := S64x128) 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩] concatenates_S8x128_S8x128_S8x128_S8x128_S8x128_S8x128_S8x128_S8x128_S64x128_d0 (ix2 r l) 6 (by decide : 6 < 8) S8x128 (f 6) rfl rfl 48 rfl (ix2 s l) hi hr
  | 7 => exact concatenate_apply_piece (t := S64x128) 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩] concatenates_S8x128_S8x128_S8x128_S8x128_S8x128_S8x128_S8x128_S8x128_S64x128_d0 (ix2 r l) 7 (by decide : 7 < 8) S8x128 (f 7) rfl rfl 56 rfl (ix2 s l) hi hr

/-- Eight rows of scales spread over 64: row `r`'s is row `r % 8`, in the lane `r / 8` beyond the first. -/
theorem scaleAt_apply (s8 : Vec Ideal S8x128 .f32) (c : Fin 16) (r : Fin 64) (l : Fin 128) (s : Fin 8) (hs : s.val = r.val % 8) (g : Fin 128)
    (hg : g.val = 8 * c.val + r.val / 8) : scaleAt (F := Ideal) s8 (BitVec.ofNat 32 (8 * c.val)) (ix2 r l) = s8 (ix2 s g) := by
  have hr := r.isLt
  have e : scaleAt (F := Ideal) s8 (BitVec.ofNat 32 (8 * c.val)) (ix2 r l)
      = scale8 (F := Ideal) (shapeCast S8x128 s8 shapeCasts_S8x128_S8x128) (BitVec.ofNat 32 (8 * c.val)) (BitVec.ofNat 32 (r.val / 8)) (ix2 s l) :=
    concat8 (fun k => scale8 (F := Ideal) (shapeCast S8x128 s8 shapeCasts_S8x128_S8x128) (BitVec.ofNat 32 (8 * c.val)) (BitVec.ofNat 32 k.val)) r l s
      ⟨r.val / 8, by omega⟩ (by show 8 * (r.val / 8) + s.val = r.val; omega)
  rw [e, shapeCast_self]
  unfold scale8
  exact gather_lane s8 _ s l g (by
    rw [shapeCast_shapeCast, wrap_apply]
    exact (scale_lane c ⟨r.val / 8, by omega⟩).trans hg.symm)

/-- The largest magnitude of a block: its code, scaled by the group its block number gives, plus the offset. -/
theorem absmaxAt_apply (q : Vec Ideal S64x128 .i8) (lo8 hi8 : Vec Ideal S8x128 .f32) (off : Elt Ideal .f32) (R : Fin 64) (pl : Fin 2) (c : Fin 16)
    (r : Fin 64) (l : Fin 128) (s : Fin 8) (hs : s.val = r.val % 8) (g : Fin 128) (hg : g.val = 8 * c.val + r.val / 8) :
    absmaxAt (F := Ideal) q lo8 hi8 off (BitVec.ofNat 32 (64 * R.val)) (BitVec.ofNat 32 (128 * pl.val)) (BitVec.ofNat 32 (8 * c.val))
        (BitVec.ofNat 32 (8 * c.val)) (ix2 r l)
      = FloatOps.addf (F := Ideal) (FloatOps.mulf (F := Ideal) (FloatOps.sitofp (F := Ideal) .f32 (q (ix2 r l)))
          (bif decide (firstBlk s.val ≤ 128 * pl.val + l.val) then hi8 (ix2 s g) else lo8 (ix2 s g))) off := by
  have hr := r.isLt; have hR := R.isLt; have hl := l.isLt; have hpl := pl.isLt
  have hrow : rows (BitVec.ofNat 32 (64 * R.val)) (ix2 r l) = BitVec.ofNat 32 (64 * R.val + r.val) := by
    show BitVec.ofNat 32 _ + BitVec.ofNat 32 _ = _
    rw [← BitVec.ofNat_add]; simp
  have hfh : firstHi (BitVec.ofNat 32 (64 * R.val)) (ix2 r l) = BitVec.ofNat 32 (firstBlk s.val) := by
    have := firstHi_word ⟨64 * R.val + r.val, by omega⟩
    rw [show (64 * R.val + r.val) % 8 = s.val by omega] at this
    rw [← this, ← hrow]; rfl
  have hblk : addi (broadcast S64x128 (BitVec.ofNat 32 (128 * pl.val))) (iota .tc S64x128 32 [1] iota_S64x128_d1_w32) (ix2 r l)
      = BitVec.ofNat 32 (128 * pl.val + l.val) := by
    show BitVec.ofNat 32 _ + BitVec.ofNat 32 _ = _
    rw [← BitVec.ofNat_add]; simp
  have hcmp : cmpi .sge (addi (broadcast S64x128 (BitVec.ofNat 32 (128 * pl.val))) (iota .tc S64x128 32 [1] iota_S64x128_d1_w32))
      (firstHi (BitVec.ofNat 32 (64 * R.val))) (ix2 r l) = BitVec.ofBool (decide (firstBlk s.val ≤ 128 * pl.val + l.val)) := by
    rw [← cmp_block ⟨128 * pl.val + l.val, by omega⟩ s, ← hfh, ← hblk]; rfl
  rw [← scaleAt_apply hi8 c r l s hs g hg, ← scaleAt_apply lo8 c r l s hs g hg, ← select_ofBool, ← hcmp]
  rfl

/-! ## The slab -/

/-- What a slab writes in its column group `t`. -/
theorem slabT_apply (pw : Vec Ideal S64x512 .i8) (am : FVec Ideal S64x128 .f32) (b : Fin 8) (t : Fin 8) (r : Fin 64) (l : Fin 128)
    (y : Fin 512) (hy : y.val = 64 * t.val + l.val / 2) (a : Fin 128) (ha : a.val = 16 * b.val + 2 * t.val + l.val / 64) :
    slabT (F := Ideal) pw am (BitVec.ofNat 32 (16 * b.val)) t (ix2 r l)
      = FloatOps.mulf (F := Ideal) (entry (nib (pw (ix2 r y)) (l.val % 2))) (am (ix2 r a)) := by
  have hl := l.isLt
  have key : ∀ (c : Fin 4) (h : Fin 2), t.val = 2 * c.val + h.val →
      slab (F := Ideal) pw am (BitVec.ofNat 32 (16 * b.val)) c (BitVec.ofNat 32 (64 * h.val)) (BitVec.ofNat 32 (2 * t.val)) (ix2 r l)
        = FloatOps.mulf (F := Ideal) (entry (nib (pw (ix2 r y)) (l.val % 2))) (am (ix2 r a)) := by
    intro c h hch
    unfold slab
    rw [shapeCast_self, shapeCast_shapeCast]
    show FloatOps.mulf (F := Ideal) (table _ (ix2 r l)) (dynamicGather 1 am _ (ix2 r l)) = _
    rw [table_apply _ _ _ (codes_apply pw c h r l y (by omega)), gather_lane _ _ r l a]
    · rfl
    rw [wrap_apply]
    show (wr ((BitVec.ofNat 32 (16 * b.val) + vfd (iota .tc S64x128 32 [1] iota_S64x128_d1_w32 (ix2 r l)) 64#32) + BitVec.ofNat 32 (2 * t.val))).toNat % 128 = _
    rw [show iota .tc S64x128 32 [1] iota_S64x128_d1_w32 (ix2 r l) = BitVec.ofNat 32 l.val by show BitVec.ofNat 32 _ = _; simp]
    exact (block_lane b t l).trans ha.symm
  match t with
  | 0 => exact key 0 0 rfl
  | 1 => exact key 0 1 rfl
  | 2 => exact key 1 0 rfl
  | 3 => exact key 1 1 rfl
  | 4 => exact key 2 0 rfl
  | 5 => exact key 2 1 rfl
  | 6 => exact key 3 0 rfl
  | 7 => exact key 3 1 rfl

end Cert.Decode

end
-- ==== Proof.PointValue.lean ====
/- What the stores of a grid point and of the first point's loop leave in a buffer of decoded weights: rows of a tile of the weight matrix,
   whose elements `weight` spells out. -/
module

public import proofs.«01_k».proof.Proof.SlabValue
public import Idealize.ShloMosaic.Lib.Pipeline.ValueKit.Tiles
public import Idealize.ShloMosaic.Lib.Writes
public import Idealize.ShloMosaic.Lib.Pointwise.Tactic
public import Idealize.ShloMosaic.Lib.Pointwise.Contract

@[expose] public section

set_option maxRecDepth 16384

noncomputable section

namespace Cert.Decode

open Cert.KernelIdeal Cert.KernelIdeal.Gen
open Idealize.ShloMosaic hiding ix0 ix1 ix2 ix3 ix4 ix5
open Idealize.ShloMosaic.View Idealize.ShloMosaic.ValueIdx

/-- The decoded weight in row `R` and column `j`: the table entry of its four bits times its block's largest magnitude. -/
def weight (PW : S4096x7168.Idx → BitVec 8) (QA : S4096x224.Idx → BitVec 8) (Lo Hi : Vec Ideal S8x512 .f32) (off : Elt Ideal .f32)
    (R : Fin 4096) (j : Fin 14336) : EReal :=
  FloatOps.mulf (F := Ideal) (φ := .bf16) (entry (nib (PW (ix2 R ⟨j.val / 2, by omega⟩)) (j.val % 2)))
    (FloatOps.addf (F := Ideal) (φ := .f32) (FloatOps.mulf (F := Ideal) (φ := .f32) (FloatOps.sitofp (F := Ideal) .f32 (QA (ix2 R ⟨j.val / 64, by omega⟩)))
      (bif decide (firstBlk (R.val % 8) ≤ j.val / 64) then Hi (ix2 ⟨R.val % 8, by omega⟩ ⟨R.val / 8, by omega⟩)
        else Lo (ix2 ⟨R.val % 8, by omega⟩ ⟨R.val / 8, by omega⟩))) off)

/-- Tile `T` of the decoded weights: columns `1024 T` to `1024 T + 1023`. -/
def tile (PW : S4096x7168.Idx → BitVec 8) (QA : S4096x224.Idx → BitVec 8) (Lo Hi : Vec Ideal S8x512 .f32) (off : Elt Ideal .f32)
    (T : Fin 14) : Vec Ideal S4096x1024 .bf16 := fun y =>
  weight PW QA Lo Hi off ⟨(y 0).val, idx2_lt0 y⟩ ⟨1024 * T.val + (y 1).val, by have := idx2_lt1 y; omega⟩

/-- The first `N` rows of `d` are those of `G`. -/
def Upto (G : S4096x1024.Idx → EReal) (N : ℕ) (d : S4096x1024.Idx → EReal) : Prop := ∀ y, (y 0).val < N → d y = G y

/-- The eight stores of a slab leave 64 more rows. -/
theorem stores_upto {sig : RefSig} {κ : Kind} {sp : Space} (v : View sig κ sp S4096x1024 .bf16) (f : v.ty.Contents (Elt Ideal))
    (G : S4096x1024.Idx → EReal) (N : ℕ) (o : Fin 8 → Fin 2 → ℕ) (inb : ∀ t a, o t a + S64x128.size a ≤ S4096x1024.size a)
    (w : Fin 8 → Vec Ideal S64x128 .bf16) (ho : ∀ t, o t = ![N, 128 * t.val])
    (hw : ∀ (t : Fin 8) (r : Fin 64) (l : Fin 128) (y : S4096x1024.Idx), (y 0).val = N + r.val → (y 1).val = 128 * t.val + l.val → w t (ix2 r l) = G y)
    (h : Upto G N (v.read (Elt Ideal) f)) : Upto G (N + 64) (v.read (Elt Ideal) (v.writes (Elt Ideal) f (stores o inb w))) := by
  intro y hy
  have e : stores o inb w = ([7, 6, 5, 4, 3, 2, 1, 0] : List (Fin 8)).map fun t => store (o t) (inb t) (w t) := rfl
  have h1 := idx2_lt1 y
  rw [e]
  by_cases hN : (y 0).val < N
  · rw [read_writes_apply_of_forall_not_mem, h y hN]
    intro p hp
    obtain ⟨t, -, rfl⟩ := List.mem_map.mp hp
    exact Rect.not_mem_set_of_axis _ y (0 : Fin 2) N 64 (congrFun (ho t) 0) rfl rfl (Or.inl hN)
  · refine read_writes_apply_of_pieces v f G _ (fun p hp x => ?_) y ?_
    · obtain ⟨t, -, rfl⟩ := List.mem_map.mp hp
      have hx : x = ix2 (n0 := 64) (n1 := 128) (x 0) (x 1) := ValueIdx.eq_ix2 (n0 := 64) (n1 := 128) x
      show w t x = _
      rw [hx]
      refine hw t _ _ _ ?_ ?_
      · have e0 : o t 0 = N := congrFun (ho t) 0
        show o t 0 + 1 * (x 0).val = N + (x 0).val; omega
      · have e1 : o t 1 = 128 * t.val := congrFun (ho t) 1
        show o t 1 + 1 * (x 1).val = 128 * t.val + (x 1).val; omega
    · refine ⟨_, List.mem_map.mpr ⟨⟨(y 1).val / 128, by omega⟩, ?_, rfl⟩, ?_⟩
      · have all : ∀ t : Fin 8, t ∈ ([7, 6, 5, 4, 3, 2, 1, 0] : List (Fin 8)) := by decide
        exact all _
      · refine (Rect.mem_set_unit (s := S4096x1024) (off := o _) (size := S64x128.size) (inb := inb _)).mpr ?_
        rw [ho, show (∀ P : Fin 2 → Prop, (∀ a, P a) ↔ P 0 ∧ P 1) from fun P => Fin.forall_fin_two]
        show (N ≤ (y 0).val ∧ (y 0).val < N + 64) ∧ (128 * ((y 1).val / 128) ≤ (y 1).val ∧ (y 1).val < 128 * ((y 1).val / 128) + 128)
        omega

/-- A list of stores put before another. -/
theorem writes_append {sig : RefSig} {κ : Kind} {sp : Space} {S : Shape} {e : EltTy} (v : View sig κ sp S e) (f : v.ty.Contents (Elt Ideal))
    (L L' : List (View.Piece (Elt Ideal) S e)) : v.writes (Elt Ideal) f (L ++ L') = v.writes (Elt Ideal) (v.writes (Elt Ideal) f L') L := by
  induction L with
  | nil => rfl
  | cons p L ih => show v.writes (Elt Ideal) f (p :: (L ++ L')) = _; rw [View.writes_cons, View.writes_cons, ih]

/-! ## The words of a grid point and of a trip -/

theorem row0_eq : ∀ (i : grid0.Coords) (p : Fin 4), row0 i (BitVec.ofNat 32 (64 * p.val)) = BitVec.ofNat 32 (64 * (4 * (i 1).val + p.val)) := by
  decide +kernel
theorem colOf_eq : ∀ R : Fin 64, colOf (BitVec.ofNat 32 (64 * R.val)) = BitVec.ofNat 32 (8 * (R.val % 16)) := by decide +kernel
theorem base_eq : ∀ i : grid0.Coords, base i = BitVec.ofNat 32 (16 * (min ((i 0).val + 1) 13 % 8)) := by decide +kernel
theorem plane_eq : ∀ i : grid0.Coords, plane i = BitVec.ofNat 32 (128 * (min ((i 0).val + 1) 13 / 8)) := by decide +kernel
theorem lrow0_eq : ∀ k : Fin k0_t1_loop.trips, lrow0 k = BitVec.ofNat 32 (64 * k.val) := by decide +kernel

section
variable (PW : S4096x7168.Idx → BitVec 8) (QA : S4096x224.Idx → BitVec 8) (Lo Hi : Vec Ideal S8x512 .f32) (off : Elt Ideal .f32)

/-- One element of a slab of tile `T`, the slab's first row being `64 R`. -/
theorem slab_weight (T : Fin 14) (R : Fin 64) (pw : Vec Ideal S64x512 .i8) (q : Vec Ideal S64x128 .i8) (lo8 hi8 : Vec Ideal S8x128 .f32)
    (hpw : ∀ (r : Fin 64) (x : Fin 512) (A : Fin 4096) (B : Fin 7168), A.val = 64 * R.val + r.val → B.val = 512 * T.val + x.val → pw (ix2 r x) = PW (ix2 A B))
    (hq : ∀ (r : Fin 64) (x : Fin 128) (A : Fin 4096) (B : Fin 224), A.val = 64 * R.val + r.val → B.val = 128 * (T.val / 8) + x.val → q (ix2 r x) = QA (ix2 A B))
    (hlo : ∀ (s : Fin 8) (x : Fin 128) (y : Fin 512), y.val = 128 * (R.val / 16) + x.val → lo8 (ix2 s x) = Lo (ix2 s y))
    (hhi : ∀ (s : Fin 8) (x : Fin 128) (y : Fin 512), y.val = 128 * (R.val / 16) + x.val → hi8 (ix2 s x) = Hi (ix2 s y))
    (t : Fin 8) (r : Fin 64) (l : Fin 128) (y : S4096x1024.Idx) (h0 : (y 0).val = 64 * R.val + r.val) (h1 : (y 1).val = 128 * t.val + l.val) :
    slabT pw (absmaxAt q lo8 hi8 off (BitVec.ofNat 32 (64 * R.val)) (BitVec.ofNat 32 (128 * (T.val / 8)))
        (BitVec.ofNat 32 (8 * (R.val % 16))) (BitVec.ofNat 32 (8 * (R.val % 16)))) (BitVec.ofNat 32 (16 * (T.val % 8))) t (ix2 r l)
      = tile PW QA Lo Hi off T y := by
  have hT := T.isLt
  have hR := R.isLt
  rw [slabT_apply pw _ ⟨T.val % 8, by omega⟩ t r l ⟨64 * t.val + l.val / 2, by omega⟩ rfl ⟨16 * (T.val % 8) + 2 * t.val + l.val / 64, by omega⟩ rfl,
    absmaxAt_apply q lo8 hi8 off R ⟨T.val / 8, by omega⟩ ⟨R.val % 16, by omega⟩ r _ ⟨r.val % 8, by omega⟩ rfl ⟨8 * (R.val % 16) + r.val / 8, by omega⟩ rfl]
  unfold tile weight
  rw [hpw r _ ⟨(y 0).val, idx2_lt0 y⟩ ⟨(1024 * T.val + (y 1).val) / 2, by omega⟩ h0 (by show _ / 2 = 512 * T.val + (64 * t.val + l.val / 2); omega),
    hq r _ ⟨(y 0).val, idx2_lt0 y⟩ ⟨(1024 * T.val + (y 1).val) / 64, by omega⟩ h0
      (by show _ / 64 = 128 * (T.val / 8) + (16 * (T.val % 8) + 2 * t.val + l.val / 64); omega),
    hlo _ _ ⟨(y 0).val / 8, by omega⟩ (by show (y 0).val / 8 = 128 * (R.val / 16) + (8 * (R.val % 16) + r.val / 8); omega),
    hhi _ _ ⟨(y 0).val / 8, by omega⟩ (by show (y 0).val / 8 = 128 * (R.val / 16) + (8 * (R.val % 16) + r.val / 8); omega)]
  have e1 : l.val % 2 = (1024 * T.val + (y 1).val) % 2 := by omega
  have e2 : (⟨r.val % 8, by omega⟩ : Fin 8) = ⟨(y 0).val % 8, by omega⟩ := Fin.ext (by show r.val % 8 = (y 0).val % 8; omega)
  have e3 : r.val % 8 = (y 0).val % 8 := by omega
  have e4 : 128 * (T.val / 8) + (16 * (T.val % 8) + 2 * t.val + l.val / 64) = (1024 * T.val + (y 1).val) / 64 := by omega
  have e5 : decide (firstBlk (r.val % 8) ≤ 128 * (T.val / 8) + (16 * (T.val % 8) + 2 * t.val + l.val / 64))
      = decide (firstBlk ((y 0).val % 8) ≤ (1024 * T.val + (y 1).val) / 64) := decide_eq_decide.mpr (by rw [e3, e4])
  simp only [e1, e2, e5]
  rfl

/-- The stores of a grid point leave its 256 rows of the next tile. -/
theorem tileStores_upto {sig : RefSig} {κ : Kind} {sp : Space} (v : View sig κ sp S4096x1024 .bf16) (f : v.ty.Contents (Elt Ideal))
    (i : grid0.Coords) (T : Fin 14) (hT : T.val = min ((i 0).val + 1) 13) (P : Vec Ideal S256x512 .i8) (Q : Vec Ideal S256x256 .i8)
    (hP : ∀ (r : Fin 256) (x : Fin 512) (A : Fin 4096) (B : Fin 7168), A.val = 256 * (i 1).val + r.val → B.val = 512 * T.val + x.val → P (ix2 r x) = PW (ix2 A B))
    (hQ : ∀ (r : Fin 256) (x : Fin 256) (A : Fin 4096) (B : Fin 224), A.val = 256 * (i 1).val + r.val → B.val = x.val → Q (ix2 r x) = QA (ix2 A B))
    (h : Upto (tile PW QA Lo Hi off T) (256 * (i 1).val) (v.read (Elt Ideal) f)) :
    Upto (tile PW QA Lo Hi off T) (256 * (i 1).val + 256) (v.read (Elt Ideal) (v.writes (Elt Ideal) f (tileStores i P Q Lo Hi off))) := by
  have hm := coord1_lt i
  have hT' := T.isLt
  have step : ∀ (p : Fin 4) (g : v.ty.Contents (Elt Ideal)), Upto (tile PW QA Lo Hi off T) (256 * (i 1).val + 64 * p.val) (v.read (Elt Ideal) g) →
      Upto (tile PW QA Lo Hi off T) (256 * (i 1).val + 64 * p.val + 64) (v.read (Elt Ideal) (v.writes (Elt Ideal) g (slabStores i P Q Lo Hi off p))) := by
    intro p g hg
    refine stores_upto v g _ _ _ _ _ (fun t => wOff_eq i p t) (fun t r l y h0 h1 => ?_) hg
    have hR : 4 * (i 1).val + p.val < 64 := by omega
    unfold slabVal slabAm absmax
    rw [row0_eq, colOf_eq ⟨4 * (i 1).val + p.val, hR⟩, base_eq, plane_eq, ← hT]
    refine slab_weight PW QA Lo Hi off T ⟨4 * (i 1).val + p.val, hR⟩ _ _ _ _ (fun r x A B hA hB => ?_) (fun r x A B hA hB => ?_)
      (fun s x y hy => ?_) (fun s x y hy => ?_) t r l y (by rw [h0]; show _ = 64 * (4 * (i 1).val + p.val) + r.val; omega) h1
    · rw [← hP ⟨64 * p.val + r.val, by omega⟩ x A B (by rw [hA]; show 64 * (4 * (i 1).val + p.val) + r.val = 256 * (i 1).val + (64 * p.val + r.val); omega) hB]
      refine ld_unit_apply_of _ _ _ _ _ _ ((Fin.forall_fin_two (p := fun a => _ = _)).mpr ⟨?_, ?_⟩)
      · show _ = 64 * p.val + r.val; rfl
      · show x.val = 0 + x.val; omega
    · have hx : 128 * (T.val / 8) + x.val < 256 := by omega
      rw [← hQ ⟨64 * p.val + r.val, by omega⟩ ⟨_, hx⟩ A B (by rw [hA]; show 64 * (4 * (i 1).val + p.val) + r.val = 256 * (i 1).val + (64 * p.val + r.val); omega) hB]
      have q0 : qOff i p 0 = 64 * p.val := congrFun (qOff_eq i p) 0
      have q1 : qOff i p 1 = 128 * (16 * min ((i 0).val + 1) 13 / 128) := congrFun (qOff_eq i p) 1
      refine ld_unit_apply_of _ _ _ _ _ _ ((Fin.forall_fin_two (p := fun a => _ = _)).mpr ⟨?_, ?_⟩)
      · show 64 * p.val + r.val = qOff i p 0 + r.val; omega
      · show 128 * (T.val / 8) + x.val = qOff i p 1 + x.val; omega
    all_goals
      have s0 : sOff i p 0 = 0 := congrFun (sOff_eq i p) 0
      have s1 : sOff i p 1 = 128 * ((256 * (i 1).val + 64 * p.val) / 8 / 128) := congrFun (sOff_eq i p) 1
      refine ld_unit_apply_of _ _ _ _ _ _ ((Fin.forall_fin_two (p := fun a => _ = _)).mpr ⟨?_, ?_⟩)
      · show s.val = sOff i p 0 + s.val; omega
      · have hy' : y.val = 128 * ((4 * (i 1).val + p.val) / 16) + x.val := hy
        show y.val = sOff i p 1 + x.val; omega
  unfold tileStores
  rw [writes_append, writes_append, writes_append]
  exact step 3 _ (step 2 _ (step 1 _ (step 0 _ h)))

/-- The stores of a trip leave its 64 rows of the first tile. -/
theorem loopStores_upto {sig : RefSig} {κ : Kind} {sp : Space} (v : View sig κ sp S4096x1024 .bf16) (f : v.ty.Contents (Elt Ideal))
    (k : Fin k0_t1_loop.trips) (P : Vec Ideal S4096x512 .i8) (Q : Vec Ideal S4096x256 .i8)
    (hP : ∀ (r : Fin 4096) (x : Fin 512) (B : Fin 7168), B.val = x.val → P (ix2 r x) = PW (ix2 r B))
    (hQ : ∀ (r : Fin 4096) (x : Fin 256) (B : Fin 224), B.val = x.val → Q (ix2 r x) = QA (ix2 r B))
    (h : Upto (tile PW QA Lo Hi off 0) (64 * k.val) (v.read (Elt Ideal) f)) :
    Upto (tile PW QA Lo Hi off 0) (64 * k.val + 64) (v.read (Elt Ideal) (v.writes (Elt Ideal) f (loopStores P Q Lo Hi off k))) := by
  have hk := trip_lt k
  refine stores_upto v f _ _ _ _ _ (fun t => lwOff_eq k t) (fun t r l y h0 h1 => ?_) h
  unfold loopVal loopValAt
  rw [lrow0_eq, colOf_eq ⟨k.val, hk⟩]
  refine slab_weight PW QA Lo Hi off 0 ⟨k.val, hk⟩ _ _ _ _ (fun r x A B hA hB => ?_) (fun r x A B hA hB => ?_)
      (fun s x y hy => ?_) (fun s x y hy => ?_) t r l y h0 h1
  · have hA' : A.val = 64 * k.val + r.val := hA
    rw [← hP A x B (by rw [hB]; show 512 * 0 + x.val = x.val; omega)]
    have q0 : k0_off3 k 0 = 64 * k.val := congrFun (k0_off3_eq k) 0
    have q1 : k0_off3 k 1 = 0 := congrFun (k0_off3_eq k) 1
    refine ld_unit_apply_of _ _ _ _ _ _ ((Fin.forall_fin_two (p := fun a => _ = _)).mpr ⟨?_, ?_⟩)
    · show A.val = k0_off3 k 0 + r.val; omega
    · show x.val = k0_off3 k 1 + x.val; omega
  · have hA' : A.val = 64 * k.val + r.val := hA
    rw [← hQ A ⟨x.val, by omega⟩ B (by rw [hB]; show 128 * (0 / 8) + x.val = x.val; omega)]
    have q0 : k0_off1 k 0 = 64 * k.val := congrFun (k0_off1_eq k) 0
    have q1 : k0_off1 k 1 = 0 := congrFun (k0_off1_eq k) 1
    refine ld_unit_apply_of _ _ _ _ _ _ ((Fin.forall_fin_two (p := fun a => _ = _)).mpr ⟨?_, ?_⟩)
    · show A.val = k0_off1 k 0 + r.val; omega
    · show x.val = k0_off1 k 1 + x.val; omega
  all_goals
    have s0 : k0_off2 k 0 = 0 := congrFun (lsOff_eq k) 0
    have s1 : k0_off2 k 1 = 128 * (64 * k.val / 8 / 128) := congrFun (lsOff_eq k) 1
    refine ld_unit_apply_of _ _ _ _ _ _ ((Fin.forall_fin_two (p := fun a => _ = _)).mpr ⟨?_, ?_⟩)
    · show s.val = k0_off2 k 0 + s.val; omega
    · have hy' : y.val = 128 * (k.val / 16) + x.val := hy
      show y.val = k0_off2 k 1 + x.val; omega

end

/-! ## The product -/

/-- The block of activations times the decoded tile. -/
def prod (X : Vec Ideal S1024x4096 .bf16) (W : Vec Ideal S4096x1024 .bf16) : Vec Ideal S1024x1024 .bf16 := fun y =>
  ∑ k : Fin 4096, X (ix2 ⟨(y 0).val, idx2_lt0 y⟩ k) * W (ix2 k ⟨(y 1).val, idx2_lt1 y⟩)

/-- One element of 512 columns of the product. -/
theorem dot512_apply (X : Vec Ideal S1024x4096 .bf16) (W : Vec Ideal S4096x512 .bf16) (r : Fin 1024) (c : Fin 512) :
    dot512 X W (ix2 r c) = ∑ k : Fin 4096, X (ix2 r k) * W (ix2 k c) := by
  unfold dot512
  rw [truncf_apply, shapeCast_self]
  show Ideal.matmul _ _ _ _ _ = _
  rw [Ideal.matmul_apply₁ _ (a := 1) (K := 4096) rfl rfl]
  have e0 : constant S1024x512 .f32 0x00000000#32 (F := Ideal) (ix2 r c) = (0 : EReal) := by
    show FloatOps.ofBits (F := Ideal) .f32 0x00000000#32 = 0
    pointwise
  rw [e0, zero_add]
  simp only [pointwise]
  rfl

/-- The two stores of a grid point's block of the result leave the whole product. -/
theorem outStores_read {sig : RefSig} {κ : Kind} {sp : Space} (v : View sig κ sp S1024x1024 .bf16) (f : v.ty.Contents (Elt Ideal))
    (X : Vec Ideal S1024x4096 .bf16) (W : Vec Ideal S4096x1024 .bf16) :
    v.read (Elt Ideal) (v.writes (Elt Ideal) f (outStores X W)) = prod X W := by
  funext y
  have hy0 := idx2_lt0 y
  have hy1 := idx2_lt1 y
  have val : ∀ (c0 : ℕ) (inbX) (inbW) (x : S1024x512.Idx) (z : S1024x1024.Idx), (z 0).val = (x 0).val → (z 1).val = c0 + (x 1).val →
      dot512 (ld X (Rect.unit (s := S1024x4096) ![0, 0] S1024x4096.size inbX)) (ld W (Rect.unit (s := S4096x1024) ![0, c0] S4096x512.size inbW)) x
        = prod X W z := by
    intro c0 inbX inbW x z h0 h1
    have hx : x = ix2 (n0 := 1024) (n1 := 512) (x 0) (x 1) := ValueIdx.eq_ix2 (n0 := 1024) (n1 := 512) x
    rw [hx]
    refine (dot512_apply _ _ (x 0) (x 1)).trans ?_
    refine Finset.sum_congr rfl fun k _ => ?_
    congr 1
    · refine ld_unit_apply_of _ _ _ _ _ _ ((Fin.forall_fin_two (p := fun a => _ = _)).mpr ⟨?_, ?_⟩)
      · show (z 0).val = 0 + (x 0).val; omega
      · show k.val = 0 + k.val; omega
    · refine ld_unit_apply_of _ _ _ _ _ _ ((Fin.forall_fin_two (p := fun a => _ = _)).mpr ⟨?_, ?_⟩)
      · show k.val = 0 + k.val; omega
      · show (z 1).val = c0 + (x 1).val; omega
  refine read_writes_apply_of_pieces v f (prod X W) _ (fun p hp x => ?_) y ?_
  · rcases List.mem_cons.mp hp with rfl | hp
    · exact val 512 _ _ x _ (by show 0 + 1 * (x 0).val = (x 0).val; omega) (by show 512 + 1 * (x 1).val = 512 + (x 1).val; omega)
    · rcases List.mem_cons.mp hp with rfl | hp
      · exact val 0 _ _ x _ (by show 0 + 1 * (x 0).val = (x 0).val; omega) (by show 0 + 1 * (x 1).val = 0 + (x 1).val; omega)
      · cases hp
  · by_cases h : (y 1).val < 512
    · refine ⟨_, List.mem_cons_of_mem _ (List.mem_cons_self ..), (Rect.mem_set_unit (s := S1024x1024) (off := ![0, 0]) (size := S1024x512.size) (inb := inb_S1024x1024_S1024x512_0_0)).mpr ?_⟩
      refine (Fin.forall_fin_two (p := fun a => _ ∧ _)).mpr ⟨?_, ?_⟩
      · show 0 ≤ (y 0).val ∧ (y 0).val < 0 + 1024; omega
      · show 0 ≤ (y 1).val ∧ (y 1).val < 0 + 512; omega
    · refine ⟨_, List.mem_cons_self .., (Rect.mem_set_unit (s := S1024x1024) (off := ![0, 512]) (size := S1024x512.size) (inb := inb_S1024x1024_S1024x512_0_512)).mpr ?_⟩
      refine (Fin.forall_fin_two (p := fun a => _ ∧ _)).mpr ⟨?_, ?_⟩
      · show 0 ≤ (y 0).val ∧ (y 0).val < 0 + 1024; omega
      · show 512 ≤ (y 1).val ∧ (y 1).val < 512 + 512; omega

end Cert.Decode

end
-- ==== Proof.Step.lean ====
/- What a grid point leaves: its block of the result, and its rows of the next tile of decoded weights. `Before` and `After` say what the two
   weight buffers hold before and after a point. -/
module

public import proofs.«01_k».proof.Proof.IFrame
public import proofs.«01_k».proof.Proof.Match
public import proofs.«01_k».proof.Proof.PointValue

@[expose] public section

set_option maxRecDepth 16384

noncomputable section

namespace Cert.KernelIdeal.Value

open Cert.KernelIdeal Cert.KernelIdeal.Gen Cert.KernelIdeal.Body Cert.Decode
open Idealize.ShloMosaic hiding ix0 ix1 ix2 ix3 ix4 ix5
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The tile a point of tile `n` prepares: the next one, the last again at the end. -/
def nxt (n : Fin 14) : Fin 14 := ⟨min (n.val + 1) 13, by omega⟩

/-- Before a point: the buffer at hand holds tile `n` (unless the grid starts here), the other the first `256 m` rows of the next. -/
def Before (W : Fin 14 → Vec Ideal S4096x1024 .bf16) (n : Fin 14) (m : ℕ) (cur oth : Vec Ideal S4096x1024 .bf16) : Prop :=
  ((n.val = 0 ∧ m = 0) ∨ cur = W n) ∧ Upto (W (nxt n)) (256 * m) oth

/-- After it: the buffer at hand holds tile `n`, the other 256 rows more of the next. -/
def After (W : Fin 14 → Vec Ideal S4096x1024 .bf16) (n : Fin 14) (m : ℕ) (cur oth : Vec Ideal S4096x1024 .bf16) : Prop :=
  cur = W n ∧ Upto (W (nxt n)) (256 * m + 256) oth

/-- Which of the two buffers is the one at hand: the first for an even tile, the second for an odd one. -/
def Two (R : Vec Ideal S4096x1024 .bf16 → Vec Ideal S4096x1024 .bf16 → Prop) (n : Fin 14) (da db : Vec Ideal S4096x1024 .bf16) : Prop :=
  if n.val % 2 = 0 then R da db else R db da

theorem cond1_iff : ∀ i : grid0.Coords, k0_cond1 i = 1#1 ↔ ((i 0).val = 0 ∧ (i 1).val = 0) := by decide +kernel
theorem cond2_iff : ∀ i : grid0.Coords, k0_cond2 i = 1#1 ↔ (i 0).val % 2 = 0 := by decide +kernel
theorem cond3_iff : ∀ i : grid0.Coords, k0_cond3 i = 1#1 ↔ ¬(i 0).val % 2 = 0 := by decide +kernel

section
variable (PW : S4096x7168.Idx → BitVec 8) (QA : S4096x224.Idx → BitVec 8) (Lo Hi : Vec Ideal S8x512 .f32) (off : Elt Ideal .f32)

/-- Rows of a tile up to the last are the tile. -/
theorem upto_all (G d : Vec Ideal S4096x1024 .bf16) (N : ℕ) (hN : 4096 ≤ N) (h : Upto G N d) : d = G :=
  funext fun y => h y (by have := idx2_lt0 y; omega)

/-- The loop of the first point leaves the first tile. -/
theorem loop_tile (𝒱 : Variants) (c : Dev nD) (i : grid0.Coords) (arg2 : Memref sig .tc .smem S1 .f32) (harg2 : arg2.IsWhole) (arg3 : Memref sig .tc .vmem S1024x4096 .bf16) (harg3 : arg3.IsWhole) (arg4 : Memref sig .tc .vmem S4096x512 .i8) (harg4 : arg4.IsWhole) (arg5 : Memref sig .tc .vmem S256x512 .i8) (harg5 : arg5.IsWhole) (arg6 : Memref sig .tc .vmem S4096x256 .i8) (harg6 : arg6.IsWhole) (arg7 : Memref sig .tc .vmem S256x256 .i8) (harg7 : arg7.IsWhole) (arg8 : Memref sig .tc .vmem S8x512 .f32) (harg8 : arg8.IsWhole) (arg9 : Memref sig .tc .vmem S8x512 .f32) (harg9 : arg9.IsWhole) (arg10 : Memref sig .tc .vmem S1024x1024 .bf16) (harg10 : arg10.IsWhole) (arg11 : Memref sig .tc .vmem S4096x1024 .bf16) (harg11 : arg11.IsWhole) (arg12 : Memref sig .tc .vmem S4096x1024 .bf16) (harg12 : arg12.IsWhole) (h1 : k0_cond1 i = 1#1)
    (X4 : BufTy.Contents (Elt Ideal) arg4.view.ty) (X6 : BufTy.Contents (Elt Ideal) arg6.view.ty) (X8 : BufTy.Contents (Elt Ideal) arg8.view.ty) (X9 : BufTy.Contents (Elt Ideal) arg9.view.ty) (G : BufTy.Contents (Elt Ideal) arg11.view.ty)
    (hLo : arg8.view.read (Elt Ideal) X8 = Lo) (hHi : arg9.view.read (Elt Ideal) X9 = Hi)
    (hP : ∀ (r : Fin 4096) (x : Fin 512) (B : Fin 7168), B.val = x.val → arg4.view.read (Elt Ideal) X4 (ix2 r x) = PW (ix2 r B))
    (hQ : ∀ (r : Fin 4096) (x : Fin 256) (B : Fin 224), B.val = x.val → arg6.view.read (Elt Ideal) X6 (ix2 r x) = QA (ix2 r B)) :
    arg11.view.read (Elt Ideal) (arg11.view.writes (Elt Ideal) G (pb_k0_t1 (F := Ideal) 𝒱 c none i arg2 harg2 arg3 harg3 arg4 harg4 arg5 harg5 arg6 harg6 arg7 harg7 arg8 harg8 arg9 harg9 arg10 harg10 arg11 harg11 arg12 harg12 off h1 X4 X6 X8 X9 k0_t1_loop.trips)) = tile PW QA Lo Hi off 0 := by
  have key : ∀ k : ℕ, k ≤ k0_t1_loop.trips → Upto (tile PW QA Lo Hi off 0) (64 * k) (arg11.view.read (Elt Ideal) (arg11.view.writes (Elt Ideal) G (pb_k0_t1 (F := Ideal) 𝒱 c none i arg2 harg2 arg3 harg3 arg4 harg4 arg5 harg5 arg6 harg6 arg7 harg7 arg8 harg8 arg9 harg9 arg10 harg10 arg11 harg11 arg12 harg12 off h1 X4 X6 X8 X9 k))) := by
    intro k
    induction k with
    | zero => intro _ y hy; exact absurd hy (by omega)
    | succ k ih =>
      intro hk
      have e := pb_k0_t1_succ (F := Ideal) 𝒱 c none i arg2 harg2 arg3 harg3 arg4 harg4 arg5 harg5 arg6 harg6 arg7 harg7 arg8 harg8 arg9 harg9 arg10 harg10 arg11 harg11 arg12 harg12 off h1 X4 X6 X8 X9 ⟨k, hk⟩
      rw [show k + 1 = (⟨k, hk⟩ : Fin k0_t1_loop.trips).val + 1 from rfl, e, Cert.Decode.writes_append, trip_eq, hLo, hHi]
      have := loopStores_upto PW QA Lo Hi off arg11.view _ ⟨k, hk⟩ _ _ hP hQ (ih (by omega))
      rw [show 64 * ((⟨k, hk⟩ : Fin k0_t1_loop.trips).val + 1) = 64 * k + 64 from by show 64 * (k + 1) = _; omega]
      exact this
  exact upto_all _ _ _ (by decide) (key k0_t1_loop.trips (Nat.le_refl _))

set_option maxHeartbeats 2000000 in
/-- The body at any point, what its buffers hold before it known: what they hold after. -/
theorem body_value (𝒱 : Variants) (c : Dev nD) (i : grid0.Coords) (arg2 : Memref sig .tc .smem S1 .f32) (harg2 : arg2.IsWhole) (arg3 : Memref sig .tc .vmem S1024x4096 .bf16) (harg3 : arg3.IsWhole) (arg4 : Memref sig .tc .vmem S4096x512 .i8) (harg4 : arg4.IsWhole) (arg5 : Memref sig .tc .vmem S256x512 .i8) (harg5 : arg5.IsWhole) (arg6 : Memref sig .tc .vmem S4096x256 .i8) (harg6 : arg6.IsWhole) (arg7 : Memref sig .tc .vmem S256x256 .i8) (harg7 : arg7.IsWhole) (arg8 : Memref sig .tc .vmem S8x512 .f32) (harg8 : arg8.IsWhole) (arg9 : Memref sig .tc .vmem S8x512 .f32) (harg9 : arg9.IsWhole) (arg10 : Memref sig .tc .vmem S1024x1024 .bf16) (harg10 : arg10.IsWhole) (arg11 : Memref sig .tc .vmem S4096x1024 .bf16) (harg11 : arg11.IsWhole) (arg12 : Memref sig .tc .vmem S4096x1024 .bf16) (harg12 : arg12.IsWhole) (d2 : Vec Ideal S1 .f32) (d3 : Vec Ideal S1024x4096 .bf16) (d4 : Vec Ideal S4096x512 .i8) (d5 : Vec Ideal S256x512 .i8) (d6 : Vec Ideal S4096x256 .i8) (d7 : Vec Ideal S256x256 .i8) (d8 : Vec Ideal S8x512 .f32) (d9 : Vec Ideal S8x512 .f32) (da db : Vec Ideal S4096x1024 .bf16) (n : Fin 14) (m : ℕ)
    (hn : n.val = (i 0).val) (hm : m = (i 1).val) (hoff : d2 (ix1 0) = off)
    (hP0 : k0_cond1 i = 1#1 → ∀ (r : Fin 4096) (x : Fin 512) (B : Fin 7168), B.val = x.val → d4 (ix2 r x) = PW (ix2 r B))
    (hQ0 : k0_cond1 i = 1#1 → ∀ (r : Fin 4096) (x : Fin 256) (B : Fin 224), B.val = x.val → d6 (ix2 r x) = QA (ix2 r B))
    (hP : ∀ (r : Fin 256) (x : Fin 512) (A : Fin 4096) (B : Fin 7168), A.val = 256 * (i 1).val + r.val → B.val = 512 * (nxt n).val + x.val → d5 (ix2 r x) = PW (ix2 A B))
    (hQ : ∀ (r : Fin 256) (x : Fin 256) (A : Fin 4096) (B : Fin 224), A.val = 256 * (i 1).val + r.val → B.val = x.val → d7 (ix2 r x) = QA (ix2 A B))
    (hB : Two (Before (tile PW QA d8 d9 off) n m) n da db) (E : Set ℕ) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ (∃ d, owns (c : Thread nD τ) arg10 fullShare d) ∗ owns (c : Thread nD τ) arg11 fullShare da ∗ owns (c : Thread nD τ) arg12 fullShare db ∗ (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare (prod d3 (tile PW QA d8 d9 off n)) ∗ (∃ da' db', owns (c : Thread nD τ) arg11 fullShare da' ∗ owns (c : Thread nD τ) arg12 fullShare db' ∗ ⌜Two (After (tile PW QA d8 d9 off) n m) n da' db'⌝)) -∗ K ⟨⟩))
      ⊢ wp frame (wpE (defs₀ (F := Ideal)) 𝒱 (c : Thread nD τ) none) E (cc0_nf4_dx (F := Ideal) i arg2 harg2 arg3 harg3 arg4 harg4 arg5 harg5 arg6 harg6 arg7 harg7 arg8 harg8 arg9 harg9 arg10 harg10 arg11 harg11 arg12 harg12) K := by
  have hT : (nxt n).val = min ((i 0).val + 1) 13 := by rw [← hn]; rfl
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%f11, %e11, H11⟩, ⟨%f12, %e12, H12⟩, Hk⟩
  subst e2 e3 e4 e5 e6 e7 e8 e9 e11 e12
  have ho : off0 arg2 f2 = off := by
    rw [← hoff]; unfold off0
    exact View.ld_unit_apply_of _ _ _ _ _ _ (fun a => by match a with | ⟨0, _⟩ => rfl)
  rcases cond_cases i with ⟨h1, h2, h3⟩ | ⟨h1, h2, h3⟩ | ⟨h1, h2, h3⟩
  ·
    have hpar := (cond2_iff i).mp h2
    rw [← hn] at hpar
    have hB' : Before (tile PW QA (arg8.view.read (Elt Ideal) f8) (arg9.view.read (Elt Ideal) f9) off) n m (arg11.view.read (Elt Ideal) f11) (arg12.view.read (Elt Ideal) f12) := by
      have := hB; unfold Two at this; rw [if_pos hpar] at this; exact this
    obtain ⟨hi0, hi1⟩ := (cond1_iff i).mp h1
    have hn0 : n = 0 := Fin.ext (by show n.val = 0; omega)
    have hcur := loop_tile PW QA (arg8.view.read (Elt Ideal) f8) (arg9.view.read (Elt Ideal) f9) off 𝒱 c i arg2 harg2 arg3 harg3 arg4 harg4 arg5 harg5 arg6 harg6 arg7 harg7 arg8 harg8 arg9 harg9 arg10 harg10 arg11 harg11 arg12 harg12 h1 f4 f6 f8 f9 f11 rfl rfl (hP0 h1) (hQ0 h1)
    rw [← hn0] at hcur
    have hoth := tileStores_upto PW QA (arg8.view.read (Elt Ideal) f8) (arg9.view.read (Elt Ideal) f9) off arg12.view f12 i (nxt n) hT _ _ hP hQ (by rw [← hm]; exact hB'.2)
    rw [← hm] at hoth
    have hout := outStores_read arg10.view f10 (arg3.view.read (Elt Ideal) f3) (tile PW QA (arg8.view.read (Elt Ideal) f8) (arg9.view.read (Elt Ideal) f9) off n)
    have hrun := runA_eq (F := Ideal) 𝒱 c i h1 h2 h3 arg2 harg2 arg3 harg3 arg4 harg4 arg5 harg5 arg6 harg6 arg7 harg7 arg8 harg8 arg9 harg9 arg10 harg10 arg11 harg11 arg12 harg12 f2 f3 f4 f5 f6 f7 f8 f9 f11
    rw [ho, hcur] at hrun
    have hr1 := congrArg Prod.fst hrun
    have hr2 := congrArg Prod.snd hrun
    have hr3 := congrArg Prod.snd hr2
    have hr2 := congrArg Prod.fst hr2
    iapply ((runA 𝒱 c i h1 h2 h3 arg2 harg2 arg3 harg3 arg4 harg4 arg5 harg5 arg6 harg6 arg7 harg7 arg8 harg8 arg9 harg9 arg10 harg10 arg11 harg11 arg12 harg12 f2 f3 f4 f5 f6 f7 f8 f9 f11).2 E f10 f12 K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H2, H3, H4, H5, H6, H7, H8, H9, H10, H11, H12⟩
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rw [hr1]; exact hout
    iexists _, _
    isplitl [H11]
    · iexists _; isplitr; swap; · iexact H11
      ipureintro; rfl
    isplitl [H12]
    · iexists _; isplitr; swap; · iexact H12
      ipureintro; rfl
    ipureintro
    unfold Two; rw [if_pos hpar]
    refine ⟨?_, ?_⟩
    · rw [hr2]; exact hcur
    · rw [hr3]; exact hoth
  ·
    have hpar := (cond2_iff i).mp h2
    rw [← hn] at hpar
    have hB' : Before (tile PW QA (arg8.view.read (Elt Ideal) f8) (arg9.view.read (Elt Ideal) f9) off) n m (arg11.view.read (Elt Ideal) f11) (arg12.view.read (Elt Ideal) f12) := by
      have := hB; unfold Two at this; rw [if_pos hpar] at this; exact this
    have hcur : arg11.view.read (Elt Ideal) f11 = tile PW QA (arg8.view.read (Elt Ideal) f8) (arg9.view.read (Elt Ideal) f9) off n :=
      hB'.1.resolve_left (fun h => h1 ((cond1_iff i).mpr ⟨by omega, by omega⟩))
    have hoth := tileStores_upto PW QA (arg8.view.read (Elt Ideal) f8) (arg9.view.read (Elt Ideal) f9) off arg12.view f12 i (nxt n) hT _ _ hP hQ (by rw [← hm]; exact hB'.2)
    rw [← hm] at hoth
    have hout := outStores_read arg10.view f10 (arg3.view.read (Elt Ideal) f3) (tile PW QA (arg8.view.read (Elt Ideal) f8) (arg9.view.read (Elt Ideal) f9) off n)
    have hrun := runB_eq (F := Ideal) 𝒱 c i h1 h2 h3 arg2 harg2 arg3 harg3 arg4 harg4 arg5 harg5 arg6 harg6 arg7 harg7 arg8 harg8 arg9 harg9 arg10 harg10 arg11 harg11 arg12 harg12 f2 f3 f4 f5 f6 f7 f8 f9 f11
    rw [ho, hcur] at hrun
    have hr1 := congrArg Prod.fst hrun
    have hr2 := congrArg Prod.snd hrun
    iapply ((runB 𝒱 c i h1 h2 h3 arg2 harg2 arg3 harg3 arg4 harg4 arg5 harg5 arg6 harg6 arg7 harg7 arg8 harg8 arg9 harg9 arg10 harg10 arg11 harg11 arg12 harg12 f2 f3 f4 f5 f6 f7 f8 f9 f11).2 E f10 f12 K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]; · iexact H11
    isplitl [H10]; · iexact H10
    isplitl [H12]; · iexact H12
    iintro ⟨H2, H3, H4, H5, H6, H7, H8, H9, H11, H10, H12⟩
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rw [hr1]; exact hout
    iexists _, _
    isplitl [H11]
    · iexists _; isplitr; swap; · iexact H11
      ipureintro; rfl
    isplitl [H12]
    · iexists _; isplitr; swap; · iexact H12
      ipureintro; rfl
    ipureintro
    unfold Two; rw [if_pos hpar]
    refine ⟨hcur, ?_⟩
    rw [hr2]; exact hoth
  ·
    have hpar := (cond3_iff i).mp h3
    rw [← hn] at hpar
    have hB' : Before (tile PW QA (arg8.view.read (Elt Ideal) f8) (arg9.view.read (Elt Ideal) f9) off) n m (arg12.view.read (Elt Ideal) f12) (arg11.view.read (Elt Ideal) f11) := by
      have := hB; unfold Two at this; rw [if_neg hpar] at this; exact this
    have hcur : arg12.view.read (Elt Ideal) f12 = tile PW QA (arg8.view.read (Elt Ideal) f8) (arg9.view.read (Elt Ideal) f9) off n :=
      hB'.1.resolve_left (fun h => hpar (by omega))
    have hoth := tileStores_upto PW QA (arg8.view.read (Elt Ideal) f8) (arg9.view.read (Elt Ideal) f9) off arg11.view f11 i (nxt n) hT _ _ hP hQ (by rw [← hm]; exact hB'.2)
    rw [← hm] at hoth
    have hout := outStores_read arg10.view f10 (arg3.view.read (Elt Ideal) f3) (tile PW QA (arg8.view.read (Elt Ideal) f8) (arg9.view.read (Elt Ideal) f9) off n)
    have hrun := runC_eq (F := Ideal) 𝒱 c i h1 h2 h3 arg2 harg2 arg3 harg3 arg4 harg4 arg5 harg5 arg6 harg6 arg7 harg7 arg8 harg8 arg9 harg9 arg10 harg10 arg11 harg11 arg12 harg12 f2 f3 f4 f5 f6 f7 f8 f9 f12
    rw [ho, hcur] at hrun
    have hr1 := congrArg Prod.fst hrun
    have hr2 := congrArg Prod.snd hrun
    iapply ((runC 𝒱 c i h1 h2 h3 arg2 harg2 arg3 harg3 arg4 harg4 arg5 harg5 arg6 harg6 arg7 harg7 arg8 harg8 arg9 harg9 arg10 harg10 arg11 harg11 arg12 harg12 f2 f3 f4 f5 f6 f7 f8 f9 f12).2 E f10 f11 K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H10]; · iexact H10
    isplitl [H11]; · iexact H11
    iintro ⟨H2, H3, H4, H5, H6, H7, H8, H9, H12, H10, H11⟩
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rw [hr1]; exact hout
    iexists _, _
    isplitl [H11]
    · iexists _; isplitr; swap; · iexact H11
      ipureintro; rfl
    isplitl [H12]
    · iexists _; isplitr; swap; · iexact H12
      ipureintro; rfl
    ipureintro
    unfold Two; rw [if_neg hpar]
    refine ⟨hcur, ?_⟩
    rw [hr2]; exact hoth

end

end Cert.KernelIdeal.Value

end
-- ==== Proof.ValueRun.lean ====
/- The run of the kernel on the extended reals: before every point the two weight buffers hold what `Before` says, and the point leaves its
   block of the result, the product of its block of activations and its tile of decoded weights. -/
module

public import proofs.«01_k».proof.Proof.Step
public import Idealize.ShloMosaic.Lib.Pipeline.ValueKit

@[expose] public section

set_option maxRecDepth 16384

noncomputable section

namespace Cert.KernelIdeal.Value

open Cert.KernelIdeal Cert.KernelIdeal.Gen Cert.KernelIdeal.Body Cert.Decode
open Idealize.ShloMosaic hiding ix0 ix1 ix2 ix3 ix4 ix5
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## Grid points -/

theorem coord0 : ∀ t : Fin grid0.N, (grid0.coords t 0).val = t.val / 16 := by decide +kernel
theorem coord1 : ∀ t : Fin grid0.N, (grid0.coords t 1).val = t.val % 16 := by decide +kernel

/-- The tile of the grid point `k`; past the grid's end the last one. -/
def tn (k : ℕ) : Fin 14 := ⟨min (k / 16) 13, by omega⟩

theorem tn_val (t : Fin grid0.N) : (tn t.val).val = t.val / 16 := by
  have h := lt_of_lt_of_eq t.isLt N_0; show min (t.val / 16) 13 = _; omega

/-- What a point leaves is what the next one starts from. -/
theorem inv_step (W : Fin 14 → Vec Ideal S4096x1024 .bf16) (k : ℕ) (hk : k < 224) (da db : Vec Ideal S4096x1024 .bf16)
    (h : Two (After W (tn k) (k % 16)) (tn k) da db) : Two (Before W (tn (k + 1)) ((k + 1) % 16)) (tn (k + 1)) da db := by
  by_cases hm : k % 16 < 15
  · have e : tn (k + 1) = tn k := Fin.ext (by show min ((k + 1) / 16) 13 = min (k / 16) 13; omega)
    have e' : (k + 1) % 16 = k % 16 + 1 := by omega
    rw [e, e']
    have key : ∀ a b, After W (tn k) (k % 16) a b → Before W (tn k) (k % 16 + 1) a b := fun a b h =>
      ⟨.inr h.1, by rw [show 256 * (k % 16 + 1) = 256 * (k % 16) + 256 by omega]; exact h.2⟩
    unfold Two at h ⊢
    split at h <;> rename_i hp
    · rw [if_pos hp]; exact key _ _ h
    · rw [if_neg hp]; exact key _ _ h
  · have e' : (k + 1) % 16 = 0 := by omega
    have u0 : ∀ G d, Upto G (256 * 0) d := fun G d y hy => absurd hy (by omega)
    rw [e']
    by_cases hl : k / 16 < 13
    · have e : tn (k + 1) = nxt (tn k) := Fin.ext (by show min ((k + 1) / 16) 13 = min (min (k / 16) 13 + 1) 13; omega)
      have hp' : (nxt (tn k)).val % 2 = 1 - (tn k).val % 2 := by show min (min (k / 16) 13 + 1) 13 % 2 = 1 - (min (k / 16) 13) % 2; omega
      rw [e]
      have key : ∀ a b, After W (tn k) (k % 16) a b → Before W (nxt (tn k)) 0 b a := fun a b h =>
        ⟨.inr (upto_all _ _ _ (by omega) h.2), u0 _ _⟩
      unfold Two at h ⊢
      split at h <;> rename_i hp
      · rw [if_neg (by omega)]; exact key _ _ h
      · rw [if_pos (by omega)]; exact key _ _ h
    · have e : tn (k + 1) = tn k := Fin.ext (by show min ((k + 1) / 16) 13 = min (k / 16) 13; omega)
      rw [e]
      have key : ∀ a b, After W (tn k) (k % 16) a b → Before W (tn k) 0 a b := fun a b h => ⟨.inr h.1, u0 _ _⟩
      unfold Two at h ⊢
      split at h <;> rename_i hp
      · rw [if_pos hp]; exact key _ _ h
      · rw [if_neg hp]; exact key _ _ h

/-! ## The windows' blocks -/

theorem idx0 : ∀ t : Fin grid0.N, win0_0.index t 0 = 0 := by decide +kernel
theorem idx1 : ∀ t : Fin grid0.N, win0_1.index t 0 = t.val % 16 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val % 16 ∧ win0_3.index t 1 = min (t.val / 16 + 1) 13 := by decide +kernel
theorem idx4 : ∀ t : Fin grid0.N, win0_4.index t 0 = 0 ∧ win0_4.index t 1 = 0 := by decide +kernel
theorem idx5 : ∀ t : Fin grid0.N, win0_5.index t 0 = t.val % 16 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = t.val % 16 ∧ win0_8.index t 1 = t.val / 16 := by decide +kernel
theorem xs4 : ∀ t : Fin grid0.N, win0_4.xsize (grid0.coords t) 0 = 4096 ∧ win0_4.xsize (grid0.coords t) 1 = 224 := by decide +kernel
theorem xs5 : ∀ t : Fin grid0.N, win0_5.xsize (grid0.coords t) 0 = 256 ∧ win0_5.xsize (grid0.coords t) 1 = 224 := by decide +kernel

variable (m : (ℓ : Loc nD τ sig) → Buf (Elt Ideal) ℓ) (ρ : Dev nD → PrngReg)

/-- The packed codes, the quantised magnitudes, the two scale tables, the offset and the activations, as the kernel call finds them. -/
def PW (c : Dev nD) : S4096x7168.Idx → BitVec 8 := V m c main_arg1
def QA (c : Dev nD) : S4096x224.Idx → BitVec 8 := V m c main_arg2
def Lo (c : Dev nD) : Vec Ideal S8x512 .f32 := V m c main_v3
def Hi (c : Dev nD) : Vec Ideal S8x512 .f32 := V m c main_v5
def off (c : Dev nD) : Elt Ideal .f32 := (V m c main_arg4 : Vec Ideal S1 .f32) (ix1 0)
def X (c : Dev nD) : Vec Ideal S16384x4096 .bf16 := V m c main_v6
/-- The tiles of decoded weights. -/
def Wt (c : Dev nD) : Fin 14 → Vec Ideal S4096x1024 .bf16 := tile (PW m c) (QA m c) (Lo m c) (Hi m c) (off m c)

theorem iblk0 (c : Dev nD) (t : Fin cfg0.N) : (iblk m c 0 t : Vec Ideal S1 .f32) (ix1 0) = off m c := by
  unfold iblk off
  rw [View.read_apply]
  show V m c main_arg4 _ = V m c main_arg4 _
  congr 1
  funext a; apply Fin.ext
  match a with
  | ⟨0, _⟩ => show win0_0.index t 0 * 1 + 1 * 0 = 0; rw [idx0 t]

theorem iblk1 (c : Dev nD) (t : Fin cfg0.N) (r : Fin 1024) (k : Fin 4096) (A : Fin 16384) (hA : A.val = 1024 * (t.val % 16) + r.val) :
    (iblk m c 1 t : Vec Ideal S1024x4096 .bf16) (ix2 r k) = X m c (ix2 A k) := by
  unfold iblk X
  rw [View.read_apply]
  show V m c main_v6 _ = V m c main_v6 _
  congr 1
  funext a; apply Fin.ext
  match a with
  | ⟨0, _⟩ => show win0_1.index t 0 * 1024 + 1 * r.val = A.val; rw [(idx1 t).1]; omega
  | ⟨1, _⟩ => show win0_1.index t 1 * 4096 + 1 * k.val = k.val; rw [(idx1 t).2]; omega

theorem iblk2 (c : Dev nD) (t : Fin cfg0.N) (r : Fin 4096) (x : Fin 512) (B : Fin 7168) (hB : B.val = x.val) :
    (iblk m c 2 t : Vec Ideal S4096x512 .i8) (ix2 r x) = PW m c (ix2 r B) := by
  unfold iblk PW
  rw [View.read_apply]
  show V m c main_arg1 _ = V m c main_arg1 _
  congr 1
  funext a; apply Fin.ext
  match a with
  | ⟨0, _⟩ => show win0_2.index t 0 * 4096 + 1 * r.val = r.val; rw [(idx2 t).1]; omega
  | ⟨1, _⟩ => show win0_2.index t 1 * 512 + 1 * x.val = B.val; rw [(idx2 t).2]; omega

theorem iblk3 (c : Dev nD) (t : Fin cfg0.N) (r : Fin 256) (x : Fin 512) (A : Fin 4096) (B : Fin 7168)
    (hA : A.val = 256 * (t.val % 16) + r.val) (hB : B.val = 512 * (min (t.val / 16 + 1) 13) + x.val) :
    (iblk m c 3 t : Vec Ideal S256x512 .i8) (ix2 r x) = PW m c (ix2 A B) := by
  unfold iblk PW
  rw [View.read_apply]
  show V m c main_arg1 _ = V m c main_arg1 _
  congr 1
  funext a; apply Fin.ext
  match a with
  | ⟨0, _⟩ => show win0_3.index t 0 * 256 + 1 * r.val = A.val; rw [(idx3 t).1]; omega
  | ⟨1, _⟩ => show win0_3.index t 1 * 512 + 1 * x.val = B.val; rw [(idx3 t).2]; omega

theorem iblk6 (c : Dev nD) (t : Fin cfg0.N) : (iblk m c 6 t : Vec Ideal S8x512 .f32) = Lo m c := by
  funext y
  unfold iblk Lo
  rw [View.read_apply]
  show V m c main_v3 _ = V m c main_v3 _
  congr 1
  funext a; apply Fin.ext
  match a with
  | ⟨0, _⟩ => show win0_6.index t 0 * 8 + 1 * (y 0).val = (y 0).val; rw [(idx6 t).1]; omega
  | ⟨1, _⟩ => show win0_6.index t 1 * 512 + 1 * (y 1).val = (y 1).val; rw [(idx6 t).2]; omega

theorem iblk7 (c : Dev nD) (t : Fin cfg0.N) : (iblk m c 7 t : Vec Ideal S8x512 .f32) = Hi m c := by
  funext y
  unfold iblk Hi
  rw [View.read_apply]
  show V m c main_v5 _ = V m c main_v5 _
  congr 1
  funext a; apply Fin.ext
  match a with
  | ⟨0, _⟩ => show win0_7.index t 0 * 8 + 1 * (y 0).val = (y 0).val; rw [(idx7 t).1]; omega
  | ⟨1, _⟩ => show win0_7.index t 1 * 512 + 1 * (y 1).val = (y 1).val; rw [(idx7 t).2]; omega

/-- A clipped window's buffer on the columns its array has. -/
theorem fill4 (c : Dev nD) (t : Fin cfg0.N) (d : Vec Ideal S4096x256 .i8) (r : Fin 4096) (x : Fin 256) (B : Fin 224) (hB : B.val = x.val) :
    (win0_4.fill (grid0.coords t) d (iblk m c 4 t) : Vec Ideal S4096x256 .i8) (ix2 r x) = QA m c (ix2 r B) := by
  have hm : win0_4.moved (grid0.coords t) (ix2 r x) = true := (win0_4.moved_iff _ _).mpr fun a => by
    match a with
    | ⟨0, _⟩ => show r.val < win0_4.xsize (grid0.coords t) 0; rw [(xs4 t).1]; exact r.isLt
    | ⟨1, _⟩ => show x.val < win0_4.xsize (grid0.coords t) 1; rw [(xs4 t).2]; have := B.isLt; omega
  unfold Pipeline.Window.fill
  rw [dif_pos hm]
  unfold iblk QA
  rw [View.read_apply]
  show V m c main_arg2 _ = V m c main_arg2 _
  congr 1
  funext a; apply Fin.ext
  match a with
  | ⟨0, _⟩ => show win0_4.index t 0 * 4096 + 1 * r.val = r.val; rw [(idx4 t).1]; omega
  | ⟨1, _⟩ => show win0_4.index t 1 * 256 + 1 * x.val = B.val; rw [(idx4 t).2]; omega

theorem fill5 (c : Dev nD) (t : Fin cfg0.N) (d : Vec Ideal S256x256 .i8) (r : Fin 256) (x : Fin 256) (A : Fin 4096) (B : Fin 224)
    (hA : A.val = 256 * (t.val % 16) + r.val) (hB : B.val = x.val) :
    (win0_5.fill (grid0.coords t) d (iblk m c 5 t) : Vec Ideal S256x256 .i8) (ix2 r x) = QA m c (ix2 A B) := by
  have hm : win0_5.moved (grid0.coords t) (ix2 r x) = true := (win0_5.moved_iff _ _).mpr fun a => by
    match a with
    | ⟨0, _⟩ => show r.val < win0_5.xsize (grid0.coords t) 0; rw [(xs5 t).1]; exact r.isLt
    | ⟨1, _⟩ => show x.val < win0_5.xsize (grid0.coords t) 1; rw [(xs5 t).2]; have := B.isLt; omega
  unfold Pipeline.Window.fill
  rw [dif_pos hm]
  unfold iblk QA
  rw [View.read_apply]
  show V m c main_arg2 _ = V m c main_arg2 _
  congr 1
  funext a; apply Fin.ext
  match a with
  | ⟨0, _⟩ => show win0_5.index t 0 * 256 + 1 * r.val = A.val; rw [(idx5 t).1]; omega
  | ⟨1, _⟩ => show win0_5.index t 1 * 256 + 1 * x.val = B.val; rw [(idx5 t).2]; omega

/-! ## The proof data -/

/-- What the two weight buffers hold before point `k`. -/
def Inv (c : Dev nD) (k : ℕ) (da db : Vec Ideal S4096x1024 .bf16) : Prop := Two (Before (Wt m c) (tn k) (k % 16)) (tn k) da db

/-- Before point `k` the scratch buffers hold what `Inv` says. -/
def Phi (c : Dev nD) (k : ℕ) : sProp 𝕄 :=
  iprop(∃ da db, owns (c : Thread nD τ) waM fullShare da ∗ owns (c : Thread nD τ) wbM fullShare db ∗ ⌜Inv m c k da db⌝ ∗ (∃ r, prngReg c r))

/-- A point's block of the result. -/
def oblk (c : Dev nD) (t : Fin cfg0.N) : Vec Ideal S1024x1024 .bf16 := prod (iblk m c 1 t) (Wt m c (tn t.val))

/-- The proof data: the arrays as the region finds them; the inputs' buffers at their blocks, the output's at its block of the product. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => win0_4.fill (grid0.coords t) (fun _ => (0#8 : BitVec 8)) (iblk m c 4 t)
    | ⟨5, _⟩ => win0_5.fill (grid0.coords t) (fun _ => (0#8 : BitVec 8)) (iblk m c 5 t)
    | ⟨6, _⟩ => iblk m c 6 t
    | ⟨7, _⟩ => iblk m c 7 t
    | ⟨8, _⟩ => oblk m c t
  Φ k := Phi m c k.val
  q w := Pipeline.shareOf spec0 w
  owed _ := 0

theorem vA (c : Dev nD) (w : Fin cfg0.W) : (vdats m 0 c).A w = V m c (Pipeline.arrRef spec0 w) := by dsimp only [vdats]

/-- A clipped input's buffer at any point: what it held, with the block's moved part at the array's. -/
theorem before4 (c : Dev nD) (t : Fin cfg0.N) (d) : (vdats m 0 c).before 4 t d = win0_4.fill (grid0.coords t) d (iblk m c 4 t) :=
  ((vdats m 0 c).before_in_eq_fetched 4 rfl (fun _ => rfl) (fun s t h => by
      show (cfg0.win 4).clip (cfg0.grid.coords s) = (cfg0.win 4).clip (cfg0.grid.coords t)
      rfl)
    (fun t => by
      show win0_4.cut (grid0.coords t) (win0_4.fill (grid0.coords t) _ (iblk m c 4 t)) = _
      rw [win0_4.cut_fill]; rfl) t d).trans rfl

theorem before5 (c : Dev nD) (t : Fin cfg0.N) (d) : (vdats m 0 c).before 5 t d = win0_5.fill (grid0.coords t) d (iblk m c 5 t) :=
  ((vdats m 0 c).before_in_eq_fetched 5 rfl (fun _ => rfl) (fun s t h => by
      have key : ∀ t : Fin grid0.N, win0_5.clip (grid0.coords t) = win0_5.clip (grid0.coords ⟨0, by decide⟩) := by decide +kernel
      exact (key s).trans (key t).symm)
    (fun t => by
      show win0_5.cut (grid0.coords t) (win0_5.fill (grid0.coords t) _ (iblk m c 5 t)) = _
      rw [win0_5.cut_fill]; rfl) t d).trans rfl

end Cert.KernelIdeal.Value

end
-- ==== Proof.ValueBody.lean ====
/- The run of the kernel on the extended reals, from the points to the whole grid. -/
module

public import proofs.«01_k».proof.Proof.ValueRun
public import Idealize.ShloMosaic.Lib.Pipeline.ValueKit

@[expose] public section

set_option maxRecDepth 16384

noncomputable section

namespace Cert.KernelIdeal.Value

open Cert.KernelIdeal Cert.KernelIdeal.Gen Cert.KernelIdeal.Body Cert.Decode
open Idealize.ShloMosaic hiding ix0 ix1 ix2 ix3 ix4 ix5
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What a point starts from and ends with. -/
def vPre (c : Dev nD) (t : Fin cfg0.N) : sProp 𝕄 :=
  iprop((vdats m 0 c).Φ t.castSucc ∗ (vdats m 0 c).owesAt () t.castSucc ∗ (∃ d, owns (c : Thread nD τ) (st0_0 t) fullShare ((vdats m 0 c).before 0 t d)) ∗ (∃ d, owns (c : Thread nD τ) (st0_1 t) fullShare ((vdats m 0 c).before 1 t d)) ∗ (∃ d, owns (c : Thread nD τ) (st0_2 t) fullShare ((vdats m 0 c).before 2 t d)) ∗ (∃ d, owns (c : Thread nD τ) (st0_3 t) fullShare ((vdats m 0 c).before 3 t d)) ∗ (∃ d, owns (c : Thread nD τ) (st0_4 t) fullShare ((vdats m 0 c).before 4 t d)) ∗ (∃ d, owns (c : Thread nD τ) (st0_5 t) fullShare ((vdats m 0 c).before 5 t d)) ∗ (∃ d, owns (c : Thread nD τ) (st0_6 t) fullShare ((vdats m 0 c).before 6 t d)) ∗ (∃ d, owns (c : Thread nD τ) (st0_7 t) fullShare ((vdats m 0 c).before 7 t d)) ∗ (∃ d, owns (c : Thread nD τ) (st0_8 t) fullShare ((vdats m 0 c).before 8 t d)))
def vPost (c : Dev nD) (t : Fin cfg0.N) : sProp 𝕄 :=
  iprop((vdats m 0 c).Φ t.succ ∗ (vdats m 0 c).owesAt () t.succ ∗ owns (c : Thread nD τ) (st0_0 t) fullShare ((vdats m 0 c).after 0 t) ∗ owns (c : Thread nD τ) (st0_1 t) fullShare ((vdats m 0 c).after 1 t) ∗ owns (c : Thread nD τ) (st0_2 t) fullShare ((vdats m 0 c).after 2 t) ∗ owns (c : Thread nD τ) (st0_3 t) fullShare ((vdats m 0 c).after 3 t) ∗ (∃ d, owns (c : Thread nD τ) (st0_4 t) fullShare (win0_4.fill (grid0.coords t) d (win0_4.cut (grid0.coords t) ((vdats m 0 c).after 4 t)))) ∗ (∃ d, owns (c : Thread nD τ) (st0_5 t) fullShare (win0_5.fill (grid0.coords t) d (win0_5.cut (grid0.coords t) ((vdats m 0 c).after 5 t)))) ∗ owns (c : Thread nD τ) (st0_6 t) fullShare ((vdats m 0 c).after 6 t) ∗ owns (c : Thread nD τ) (st0_7 t) fullShare ((vdats m 0 c).after 7 t) ∗ owns (c : Thread nD τ) (st0_8 t) fullShare ((vdats m 0 c).after 8 t))

set_option maxHeartbeats 2000000 in
/-- The body at a point of the grid. -/
theorem v_sound_body (c : Dev nD) (t : Fin cfg0.N) :
    vPre m c t ⊢ wp frame (wpE (defs₀ (F := Ideal)) Variants.none c none) Set.univ (bodyAt0 t) (fun _ => vPost m c t) := by
  unfold vPre vPost bodyAt0
  rw [show (vdats m 0 c).owesAt () t.succ = (vdats m 0 c).owesAt () t.castSucc from rfl,
    show (vdats m 0 c).Φ t.castSucc = Phi m c t.val from rfl, show (vdats m 0 c).Φ t.succ = Phi m c (t.val + 1) from rfl]
  unfold Phi
  iintro ⟨⟨%da, %db, Ha, Hb, %hI, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0_of m (vdats m 0 c) (vA m c 0) (fun _ => rfl) t d0, before0_1_of m (vdats m 0 c) (vA m c 1) (fun _ => rfl) t d1,
    before0_2_of m (vdats m 0 c) (vA m c 2) (fun _ => rfl) t d2, before0_3_of m (vdats m 0 c) (vA m c 3) (fun _ => rfl) t d3,
    before4 m c t d4, before5 m c t d5,
    before0_6_of m (vdats m 0 c) (vA m c 6) (fun _ => rfl) t d6, before0_7_of m (vdats m 0 c) (vA m c 7) (fun _ => rfl) t d7]
  have ht : t.val < 224 := lt_of_lt_of_eq t.isLt N_0
  have hW : tile (PW m c) (QA m c) (iblk m c 6 t : Vec Ideal S8x512 .f32) (iblk m c 7 t : Vec Ideal S8x512 .f32) (off m c) = Wt m c := by
    rw [iblk6, iblk7]; rfl
  iapply (body_value (PW m c) (QA m c) (off m c) Variants.none c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) waM (Memref.isWhole_whole _) wbM (Memref.isWhole_whole _)
    (iblk m c 0 t) (iblk m c 1 t) (iblk m c 2 t) (iblk m c 3 t) (win0_4.fill (grid0.coords t) d4 (iblk m c 4 t)) (win0_5.fill (grid0.coords t) d5 (iblk m c 5 t)) (iblk m c 6 t) (iblk m c 7 t)
    da db (tn t.val) (t.val % 16) ((tn_val t).trans (coord0 t).symm) (coord1 t).symm (iblk0 m c t)
    (fun _ r x B hB => iblk2 m c t r x B hB) (fun _ r x B hB => fill4 m c t d4 r x B hB)
    (fun r x A B hA hB => iblk3 m c t r x A B (by rw [hA, coord1]) (by rw [hB]; show 512 * min ((tn t.val).val + 1) 13 + _ = _; rw [tn_val]))
    (fun r x A B hA hB => fill5 m c t d5 r x A B (by rw [hA, coord1]) hB)
    (by rw [hW]; exact hI) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [Ha]; · iexact Ha
  isplitl [Hb]; · iexact Hb
  rw [hW]
  iintro ⟨H0, H1, H2, H3, H4, H5, H6, H7, H8, %da', %db', Ha, Hb, %hA⟩
  isplitl [Ha Hb Hg]
  · iexists da', db'
    isplitl [Ha]; · iexact Ha
    isplitl [Hb]; · iexact Hb
    isplitr
    · ipureintro; exact inv_step _ _ ht _ _ hA
    iexact Hg
  isplitl [HO]; · iexact HO
  isplitl [H0]; · iexact H0
  isplitl [H1]; · iexact H1
  isplitl [H2]; · iexact H2
  isplitl [H3]; · iexact H3
  isplitl [H4]
  · iexists d4
    rw [show win0_4.cut (grid0.coords t) ((vdats m 0 c).after 4 t) = iblk m c 4 t from win0_4.cut_fill _ _ _]
    iexact H4
  isplitl [H5]
  · iexists d5
    rw [show win0_5.cut (grid0.coords t) ((vdats m 0 c).after 5 t) = iblk m c 5 t from win0_5.cut_fill _ _ _]
    iexact H5
  isplitl [H6]; · iexact H6
  isplitl [H7]; · iexact H7
  iexact H8

/-- Every point writes its block of the result. -/
theorem live8 : ∀ t : Fin grid0.N, cfg0.idle 8 (cfg0.grid.coords t) = false := by decide +kernel

/-- The library's body obligation. -/
theorem v_body_obligation (c : Dev nD) :
    BodyObligationLoose (vdats m 0 c) (defs₀ (F := Ideal)) Variants.none () Set.univ := fun t => by
  rw [bigSep_W0, bigSep_W0, defs₀_row, live8 t]
  exact triple_restated (v_sound_body m c t) rfl .rfl fun _ => .rfl

/-- Before the first point nothing is asked of the scratch buffers. -/
theorem phi_in (c : Dev nD) : Pipeline.ΦA spec0 c ⊢ (vdats m 0 c).Φ 0 := by
  rw [phi_eq, show (vdats m 0 c).Φ 0 = Phi m c 0 from rfl]
  unfold Phi
  iintro ⟨⟨⟨%da, Ha⟩, ⟨%db, Hb⟩⟩, Hg⟩
  iexists da, db
  isplitl [Ha]; · iexact Ha
  isplitl [Hb]; · iexact Hb
  isplitr
  · ipureintro
    unfold Inv Two
    rw [if_pos (by decide)]
    exact ⟨.inl ⟨by decide, by decide⟩, fun y hy => absurd hy (by omega)⟩
  iexact Hg

theorem phi_out (c : Dev nD) : (vdats m 0 c).Φ (Fin.last cfg0.N) ⊢ Pipeline.ΦA spec0 c := by
  rw [phi_eq, show (vdats m 0 c).Φ (Fin.last cfg0.N) = Phi m c cfg0.N from rfl]
  unfold Phi
  iintro ⟨%da, %db, Ha, Hb, -, Hg⟩
  isplitl [Ha Hb]
  · isplitl [Ha]; · iexists da; iexact Ha
    iexists db; iexact Hb
  iexact Hg

set_option backward.isDefEq.respectTransparency.types false in
/-- Every weakly fair execution from zero counters terminates, with the windows' arrays after every write-back and every other buffer as
    the line after the kernel call leaves it. -/
theorem v_run_main : θ_run defs (onTc (τ := τ) (main (F := Ideal))) (s₀ m ρ)
    (fun r => Pipeline.FramePost cfgs (vdats m) (0 : Fin 1) (Pipeline.afterTail₀ cfgs (vdats m) 0 (V0 m) [hostOps1]) r) :=
  Pipeline.θ_run_frame_around_track_shared cfgs (vdats m) (0 : Fin 1) launch₀0 defs₀ Variants.none m ρ main
    (hbody := v_body_obligation m) (hq := fun _ _ _ => rfl) (howed := fun _ _ => rfl) (V₀ := V0 m) (opss := [hostOps1])
    (hsub := sfx_sub) (hfresh := sfx_fresh) (hkeep := sfx_keeps) (hmain := hmain m Variants.none) (hA := vA m)
    (hin := phi_in m) (hout := phi_out m)

end Cert.KernelIdeal.Value

end
-- ==== Proof.KernelValue.lean ====
/- The result of the whole kernel call, element by element: a sum over the 4096 rows of weights of an activation and a decoded weight. -/
module

public import proofs.«01_k».proof.Proof.ValueBody
public import Idealize.ShloMosaic.Lib.StableHlo.RunRead
public import Idealize.ShloMosaic.Lib.Pipeline.ValueKit

@[expose] public section

set_option maxRecDepth 16384

noncomputable section

namespace Cert.KernelIdeal.Value

open Cert.KernelIdeal Cert.KernelIdeal.Gen Cert.KernelIdeal.Body Cert.Decode
open Idealize.ShloMosaic hiding ix0 ix1 ix2 ix3 ix4 ix5
open Idealize.ShloMosaic.TcCoe Idealize.ShloMosaic.Tactic Idealize.ShloMosaic.ValueIdx
open Idealize.SL Idealize.SL.RA Idealize.SL.BI
open Idealize.SL.Sem

variable (m : (ℓ : Loc nD τ sig) → Buf (Elt Ideal) ℓ) (ρ : Dev nD → PrngReg)

/-- The product of the activations and the decoded weights. -/
def outArr (c : Dev nD) : Vec Ideal S16384x14336 .bf16 := fun y =>
  ∑ k : Fin 4096, (X m c (ix2 (y 0) k) * weight (PW m c) (QA m c) (Lo m c) (Hi m c) (off m c) k (y 1) : EReal)

theorem arr8 (c : Dev nD) : (vdats m 0 c).arrAt 8 cfg0.N = outArr m c := by
  refine (vdats m 0 c).arrAt_eq_of_covers 8 _ (by decide +kernel) fun t hf y => ?_
  blk_simp
  show prod (iblk m c 1 t) (Wt m c (tn t.val)) y = _
  have ht := lt_of_lt_of_eq t.isLt N_0
  have h0 : (y 0).val < 1024 := (y 0).isLt
  have h1 : (y 1).val < 1024 := (y 1).isLt
  have e : (win0_8.blk t).view.emb y = (ix2 ⟨1024 * (t.val % 16) + (y 0).val, by omega⟩ ⟨1024 * (t.val / 16) + (y 1).val, by omega⟩ : S16384x14336.Idx) := by
    funext a; apply Fin.ext
    match a with
    | ⟨0, _⟩ => show win0_8.index t 0 * 1024 + 1 * (y 0).val = 1024 * (t.val % 16) + (y 0).val; rw [(idx8 t).1]; omega
    | ⟨1, _⟩ => show win0_8.index t 1 * 1024 + 1 * (y 1).val = 1024 * (t.val / 16) + (y 1).val; rw [(idx8 t).2]; omega
  rw [e]
  unfold prod outArr Wt tile
  refine Finset.sum_congr rfl fun k _ => ?_
  refine congrArg₂ (· * ·) (iblk1 m c t _ k _ rfl) ?_
  refine congrArg (weight _ _ _ _ _ k) (Fin.ext ?_)
  show 1024 * (tn t.val).val + (y 1).val = 1024 * (t.val / 16) + (y 1).val
  rw [tn_val]

theorem tail_v8 (c : Dev nD) : Pipeline.afterTail₀ cfgs (vdats m) 0 (V0 m) [hostOps1] c main_v8
    = shapeCast S1x16384x14336 (outArr m c) shapeCasts_S16384x14336_S1x16384x14336 := by
  unfold Pipeline.afterTail₀
  have h7 : Pipeline.withArrays (cfgs 0).spec c (V0 m c) (fun w => (vdats m 0 c).arrAt w (cfgs 0).N) (Proc.devRef .tc main_v7) = outArr m c :=
    (Pipeline.withArrays_arr_shared spec0 c (V0 m c) _ ((vdats m 0 c).arrAt_sharedIn launch₀0.sharedIn (V0 m c) (vA m c) cfg0.N) 8).trans (arr8 m c)
  rw [← h7]
  after_reads_simp
  rfl

/-- The scales turned on their side: row `j`, column `g` is scale `7 g + j`. -/
theorem scales_apply (A : Vec Ideal S3584 .f32) (j : Fin 7) (g : Fin 512) (J : Fin 3584) (hJ : J.val = 7 * g.val + j.val) :
    transpose S7x512 [1, 0] (shapeCast S512x7 A shapeCasts_S3584_S512x7) transposes_S512x7_S7x512_1_0 (ix2 j g) = A (ix1 J) := by
  rw [transpose_apply [1, 0] _ transposes_S512x7_S7x512_1_0 (ix2 j g) (ix2 g j) (fun b => by match b with | ⟨0, _⟩ => rfl | ⟨1, _⟩ => rfl)]
  refine shapeCast_apply A _ (ix2 g j) (ix1 J) ?_
  rw [Shape.rowMajor_val_two, Shape.rowMajor_val_one]
  show J.val = g.val * 7 + j.val
  omega

theorem lo_eq (c : Dev nD) (s : Fin 8) (g : Fin 512) (J : Fin 3584) (hJ : J.val = 7 * g.val + (s.val - 1)) :
    Lo m c (ix2 s g) = (m ((c : Thread nD τ).loc main_arg3) : Vec Ideal S3584 .f32) (ix1 J) := by
  unfold Lo
  show StableHlo.after hostOps0 _ (Proc.devRef .tc main_v3) _ = _
  after_reads_simp
  have hs := s.isLt
  by_cases h : s.val = 0
  · refine (concatenate_pair_apply_left (s₁ := S1x512) (s₂ := S7x512) (t := S8x512) 0 _ _ _ (ix2 s g) rfl (ix2 ⟨0, by omega⟩ g) fun b => ?_).trans ?_
    · match b with
      | ⟨0, _⟩ => exact h.symm
      | ⟨1, _⟩ => rfl
    refine (extractStridedSlice_apply ![0, 0] _ _ (ix2 (⟨0, by omega⟩ : Fin 1) g) (ix2 (⟨0, by omega⟩ : Fin 7) g) fun b => ?_).trans ?_
    · match b with
      | ⟨0, _⟩ => rfl
      | ⟨1, _⟩ => exact (Nat.zero_add _).symm
    exact scales_apply _ ⟨0, by omega⟩ g J (by rw [hJ, h])
  · refine (concatenate_pair_apply_right (s₁ := S1x512) (s₂ := S7x512) (t := S8x512) 0 _ _ _ (ix2 s g) rfl rfl (ix2 ⟨s.val - 1, by omega⟩ g) (fun b hb => ?_) ?_).trans ?_
    · match b with
      | ⟨0, _⟩ => exact absurd rfl hb
      | ⟨1, _⟩ => rfl
    · show s.val - 1 + 1 = s.val; omega
    exact scales_apply _ ⟨s.val - 1, by omega⟩ g J hJ

theorem hi_eq (c : Dev nD) (s : Fin 8) (g : Fin 512) (J : Fin 3584) (hJ : J.val = 7 * g.val + min s.val 6) :
    Hi m c (ix2 s g) = (m ((c : Thread nD τ).loc main_arg3) : Vec Ideal S3584 .f32) (ix1 J) := by
  unfold Hi
  show StableHlo.after hostOps0 _ (Proc.devRef .tc main_v5) _ = _
  after_reads_simp
  have hs := s.isLt
  by_cases h : s.val < 7
  · refine (concatenate_pair_apply_left (s₁ := S7x512) (s₂ := S1x512) (t := S8x512) 0 _ _ _ (ix2 s g) rfl (ix2 ⟨s.val, by omega⟩ g) fun b => ?_).trans ?_
    · match b with
      | ⟨0, _⟩ => rfl
      | ⟨1, _⟩ => rfl
    exact scales_apply _ ⟨s.val, by omega⟩ g J (by rw [hJ]; show _ = 7 * g.val + s.val; omega)
  · refine (concatenate_pair_apply_right (s₁ := S7x512) (s₂ := S1x512) (t := S8x512) 0 _ _ _ (ix2 s g) rfl rfl (ix2 ⟨0, by omega⟩ g) (fun b hb => ?_) ?_).trans ?_
    · match b with
      | ⟨0, _⟩ => exact absurd rfl hb
      | ⟨1, _⟩ => rfl
    · show 0 + 7 = s.val; omega
    refine (extractStridedSlice_apply ![6, 0] _ _ (ix2 (⟨0, by omega⟩ : Fin 1) g) (ix2 (⟨6, by omega⟩ : Fin 7) g) fun b => ?_).trans ?_
    · match b with
      | ⟨0, _⟩ => rfl
      | ⟨1, _⟩ => exact (Nat.zero_add _).symm
    exact scales_apply _ ⟨6, by omega⟩ g J (by rw [hJ]; show _ = 7 * g.val + 6; omega)

theorem x_eq (c : Dev nD) (s : Fin 16384) (k : Fin 4096) :
    X m c (ix2 s k) = (m ((c : Thread nD τ).loc main_arg0) : Vec Ideal S1x16384x4096 .bf16) (ix3 0 s k) := by
  unfold X
  show StableHlo.after hostOps0 _ (Proc.devRef .tc main_v6) _ = _
  after_reads_simp
  refine shapeCast_apply (s := S1x16384x4096) (t := S16384x4096) _ _ (ix2 s k) (ix3 0 s k) ?_
  rw [Shape.rowMajor_val_two, Shape.rowMajor_val_three]
  show (0 * 16384 + s.val) * 4096 + k.val = s.val * 4096 + k.val
  omega

end Cert.KernelIdeal.Value

end
-- ==== Proof.RefValue.lean ====
/- The reference's result, element by element: its decoded weights read off the packed codes, and its two products interleaved. -/
module

public import proofs.«01_k».proof.Proof.Gen.ReferenceIdeal
public import proofs.«01_k».proof.Proof.Gen.ReferenceIdeal.Run
public import proofs.«01_k».proof.Proof.SlabValue
public import Idealize.ShloMosaic.Lib.Pipeline.ValueKit
public import Idealize.ShloMosaic.Lib.Pointwise.Tactic
public import Idealize.ShloMosaic.Lib.Pointwise.Contract

@[expose] public section

set_option maxRecDepth 16384

noncomputable section

namespace Cert.RefValue

open Cert.ReferenceIdeal Cert.ReferenceIdeal.Gen Cert.ReferenceIdeal.Value Cert.Decode
open Idealize.ShloMosaic hiding ix0 ix1 ix2 ix3 ix4 ix5
open Idealize.ShloMosaic.TcCoe Idealize.ShloMosaic.ValueIdx
open Idealize.SL.Sem Idealize.ShloMosaic.StableHlo

/-- One word, or one float, at every place. -/
def word (k : BitVec 32) : IVec S4096x7168 32 := broadcastInDim S4096x7168 ![] bcast_S_S4096x7168 (constantI S_ 32 k)
def scal (b : BitVec 16) : Vec Ideal S4096x7168 .bf16 := broadcastInDim S4096x7168 ![] bcast_S_S4096x7168 (constant (F := Ideal) S_ .bf16 b)

/-- Bit `k` of every code. -/
def codeBit (x : IVec S4096x7168 32) (k : BitVec 32) : IVec S4096x7168 1 := cmpi .ne (andi (Host.shrsi x (word k)) (word 1#32)) (word 0#32)

/-- The table's entry at every code. -/
def lookup (C : IVec S4096x7168 32) : Vec Ideal S4096x7168 .bf16 :=
  select (codeBit C 3#32)
    (select (codeBit C 2#32)
      (select (codeBit C 1#32)
        (select (codeBit C 0#32) (scal 0x3F80#16) (scal 0x3F39#16))
        (select (codeBit C 0#32) (scal 0x3F10#16) (scal 0x3EE2#16)))
      (select (codeBit C 1#32)
        (select (codeBit C 0#32) (scal 0x3EAD#16) (scal 0x3E7C#16))
        (select (codeBit C 0#32) (scal 0x3E25#16) (scal 0x3DA3#16))))
    (select (codeBit C 2#32)
      (select (codeBit C 1#32)
        (select (codeBit C 0#32) (scal 0x0000#16) (scal 0xBDBA#16))
        (select (codeBit C 0#32) (scal 0xBE3D#16) (scal 0xBE92#16)))
      (select (codeBit C 1#32)
        (select (codeBit C 0#32) (scal 0xBECA#16) (scal 0xBF06#16))
        (select (codeBit C 0#32) (scal 0xBF32#16) (scal 0xBF80#16))))

/-- The entries, each times its block's magnitude. -/
def scaled (T : Vec Ideal S4096x7168 .bf16) (A : Vec Ideal S4096x224 .bf16) : Vec Ideal S4096x7168 .bf16 :=
  shapeCast S4096x7168 (mulf (F := Ideal) (φ := .bf16) (shapeCast S4096x224x32 T shapeCasts_S4096x7168_S4096x224x32)
    (broadcastInDim S4096x224x32 ![0, 1, 2] bcast_S4096x224x1_S4096x224x32_0_1_2
      (broadcastInDim S4096x224x1 ![0, 1] bcast_S4096x224_S4096x224x1_0_1 A))) shapeCasts_S4096x224x32_S4096x7168

/-- One of the two products, as a column of pairs. -/
def half (D : Vec Ideal S1x16384x4096 .bf16) (W : Vec Ideal S4096x7168 .bf16) : Vec Ideal S1x16384x7168x1 .f32 :=
  broadcastInDim S1x16384x7168x1 ![0, 1, 2] bcast_S1x16384x7168_S1x16384x7168x1_0_1_2
    (Host.dotGeneral (F := Ideal) (φ₁ := .bf16) (φ₂ := .bf16) dot_S1x16384x4096_S4096x7168_S1x16384x7168_2_0_01_1_n_n none D W)

variable (V0 : Valuation τ sig (Elt Ideal))

/-- The activations, as the reference is given them. -/
def acts : Vec Ideal S1x16384x4096 .bf16 := V0 (Proc.devRef .tc main_arg0)

theorem v116_eq : res_main_v116 V0 = concatenate S1x16384x7168x2 3
    [⟨S1x16384x7168x1, half (acts V0) (scaled (lookup (res_main_v13 V0)) (res_main_v10 V0))⟩,
      ⟨S1x16384x7168x1, half (acts V0) (scaled (lookup (res_main_v15 V0)) (res_main_v10 V0))⟩]
    concatenates_S1x16384x7168x1_S1x16384x7168x1_S1x16384x7168x2_d3 := rfl

theorem code_lo : ∀ (b : BitVec 8),
    IntOp.cmpi .ne (IntOp.andi (IntOp.shrsi .host (IntOp.andi (b.setWidth 32) 15#32) 0#32) 1#32) 0#32 = BitVec.ofBool ((nib b 0).getLsbD 0)
    ∧ IntOp.cmpi .ne (IntOp.andi (IntOp.shrsi .host (IntOp.andi (b.setWidth 32) 15#32) 1#32) 1#32) 0#32 = BitVec.ofBool ((nib b 0).getLsbD 1)
    ∧ IntOp.cmpi .ne (IntOp.andi (IntOp.shrsi .host (IntOp.andi (b.setWidth 32) 15#32) 2#32) 1#32) 0#32 = BitVec.ofBool ((nib b 0).getLsbD 2)
    ∧ IntOp.cmpi .ne (IntOp.andi (IntOp.shrsi .host (IntOp.andi (b.setWidth 32) 15#32) 3#32) 1#32) 0#32 = BitVec.ofBool ((nib b 0).getLsbD 3) := by
  decide +kernel

theorem code_hi : ∀ (b : BitVec 8),
    IntOp.cmpi .ne (IntOp.andi (IntOp.shrsi .host (IntOp.shrsi .host (b.setWidth 32) 4#32) 0#32) 1#32) 0#32 = BitVec.ofBool ((nib b 1).getLsbD 0)
    ∧ IntOp.cmpi .ne (IntOp.andi (IntOp.shrsi .host (IntOp.shrsi .host (b.setWidth 32) 4#32) 1#32) 1#32) 0#32 = BitVec.ofBool ((nib b 1).getLsbD 1)
    ∧ IntOp.cmpi .ne (IntOp.andi (IntOp.shrsi .host (IntOp.shrsi .host (b.setWidth 32) 4#32) 2#32) 1#32) 0#32 = BitVec.ofBool ((nib b 1).getLsbD 2)
    ∧ IntOp.cmpi .ne (IntOp.andi (IntOp.shrsi .host (IntOp.shrsi .host (b.setWidth 32) 4#32) 3#32) 1#32) 0#32 = BitVec.ofBool ((nib b 1).getLsbD 3) := by
  decide +kernel

/-- The table at a place whose code's bits are those of `n`. -/
theorem lookup_apply (C : IVec S4096x7168 32) (i : S4096x7168.Idx) (n : BitVec 4)
    (h : codeBit C 0#32 i = BitVec.ofBool (n.getLsbD 0) ∧ codeBit C 1#32 i = BitVec.ofBool (n.getLsbD 1)
      ∧ codeBit C 2#32 i = BitVec.ofBool (n.getLsbD 2) ∧ codeBit C 3#32 i = BitVec.ofBool (n.getLsbD 3)) :
    lookup C i = entry n := by
  simp only [lookup, select_apply, h.1, h.2.1, h.2.2.1, h.2.2.2, select_ofBool]
  rfl

theorem lookup_lo (i : S4096x7168.Idx) : lookup (res_main_v13 V0) i = entry (nib ((V0 (Proc.devRef .tc main_arg1) : IVec S4096x7168 8) i) 0) :=
  lookup_apply _ _ _ (code_lo _)
theorem lookup_hi (i : S4096x7168.Idx) : lookup (res_main_v15 V0) i = entry (nib ((V0 (Proc.devRef .tc main_arg1) : IVec S4096x7168 8) i) 1) :=
  lookup_apply _ _ _ (code_hi _)

theorem scaled_apply (T : Vec Ideal S4096x7168 .bf16) (A : Vec Ideal S4096x224 .bf16) (R : Fin 4096) (x : Fin 7168) :
    scaled T A (ix2 R x) = FloatOps.mulf (F := Ideal) (φ := .bf16) (T (ix2 R x)) (A (ix2 R ⟨x.val / 32, by omega⟩)) := by
  unfold scaled
  refine (shapeCast_apply _ _ (ix2 R x) (ix3 R (⟨x.val / 32, by omega⟩ : Fin 224) (⟨x.val % 32, by omega⟩ : Fin 32)) ?_).trans ?_
  · rw [Shape.rowMajor_val_two, Shape.rowMajor_val_three]
    show (R.val * 224 + x.val / 32) * 32 + x.val % 32 = R.val * 7168 + x.val
    omega
  refine congrArg₂ (FloatOps.mulf (F := Ideal) (φ := .bf16)) ?_ ?_
  · refine shapeCast_apply _ _ _ (ix2 R x) ?_
    rw [Shape.rowMajor_val_two, Shape.rowMajor_val_three]
    show R.val * 7168 + x.val = (R.val * 224 + x.val / 32) * 32 + x.val % 32
    omega
  · refine (broadcastInDim_apply ![0, 1, 2] _ _ _ (ix3 R (⟨x.val / 32, by omega⟩ : Fin 224) (⟨0, by omega⟩ : Fin 1)) fun a => ?_).trans ?_
    · match a with
      | ⟨0, _⟩ => rfl
      | ⟨1, _⟩ => rfl
      | ⟨2, _⟩ => rfl
    refine broadcastInDim_apply ![0, 1] _ _ _ (ix2 R (⟨x.val / 32, by omega⟩ : Fin 224)) fun a => ?_
    match a with
    | ⟨0, _⟩ => rfl
    | ⟨1, _⟩ => rfl

/-- A block's magnitude: its quantised value times its group's scale, and the offset. -/
theorem v10_apply (R : Fin 4096) (b : Fin 224) (J : Fin 3584) (hJ : J.val = (R.val * 224 + b.val) / 256) :
    (res_main_v10 V0 : Vec Ideal S4096x224 .bf16) (ix2 R b)
      = FloatOps.addf (F := Ideal) (φ := .f32) (FloatOps.mulf (F := Ideal) (φ := .f32)
        (FloatOps.sitofp (F := Ideal) .f32 ((V0 (Proc.devRef .tc main_arg2) : IVec S4096x224 8) (ix2 R b)))
        ((V0 (Proc.devRef .tc main_arg3) : Vec Ideal S3584 .f32) (ix1 J))) ((V0 (Proc.devRef .tc main_arg4) : Vec Ideal S1 .f32) (ix1 0)) := by
  have hR := R.isLt
  have hb := b.isLt
  unfold res_main_v10
  rw [truncf_apply]
  refine (shapeCast_apply _ _ (ix2 R b) (ix2 J (⟨(R.val * 224 + b.val) % 256, by omega⟩ : Fin 256)) ?_).trans ?_
  · rw [Shape.rowMajor_val_two, Shape.rowMajor_val_two]
    show J.val * 256 + (R.val * 224 + b.val) % 256 = R.val * 224 + b.val
    omega
  refine congrArg₂ (FloatOps.addf (F := Ideal) (φ := .f32)) (congrArg₂ (FloatOps.mulf (F := Ideal) (φ := .f32)) ?_ ?_) ?_
  · refine (shapeCast_apply _ _ _ (ix2 R b) ?_).trans ?_
    · rw [Shape.rowMajor_val_two, Shape.rowMajor_val_two]
      show R.val * 224 + b.val = J.val * 256 + (R.val * 224 + b.val) % 256
      omega
    show FloatOps.sitofp (F := Ideal) .f32 (((V0 (Proc.devRef .tc main_arg2) : IVec S4096x224 8) (ix2 R b)).signExtend 32) = _
    generalize (V0 (Proc.devRef .tc main_arg2) : IVec S4096x224 8) (ix2 R b) = w
    show (((w.signExtend 32).toInt : ℝ) : EReal) = ((w.toInt : ℝ) : EReal)
    rw [BitVec.toInt_signExtend_of_le (by decide)]
  · refine (broadcastInDim_apply (s := S3584x1) (t := S3584x256) ![0, 1] _ _ _ (ix2 J (⟨0, by omega⟩ : Fin 1)) fun a => ?_).trans ?_
    · match a with
      | ⟨0, _⟩ => rfl
      | ⟨1, _⟩ => rfl
    refine broadcastInDim_apply (s := S3584) (t := S3584x1) ![0] _ _ _ (ix1 J) fun a => ?_
    match a with
    | ⟨0, _⟩ => rfl
  · refine (broadcastInDim_apply (s := S_) (t := S3584x256) ![] _ _ _ ix0 fun a => a.elim0).trans ?_
    refine shapeCast_apply (s := S1) (t := S_) _ _ ix0 (ix1 (0 : Fin 1)) ?_
    rfl

theorem half_apply (D : Vec Ideal S1x16384x4096 .bf16) (W : Vec Ideal S4096x7168 .bf16) (s : Fin 16384) (x : Fin 7168) :
    half D W (ix4 (0 : Fin 1) s x (0 : Fin 1)) = ∑ k : Fin 4096, (D (ix3 0 s k) * W (ix2 k x) : EReal) := by
  unfold half
  refine (broadcastInDim_apply (s := S1x16384x7168) (t := S1x16384x7168x1) ![0, 1, 2] _ _ _ (ix3 (0 : Fin 1) s x) fun a => ?_).trans ?_
  · match a with
    | ⟨0, _⟩ => rfl
    | ⟨1, _⟩ => rfl
    | ⟨2, _⟩ => rfl
  show Ideal.matmul _ D W (fun _ => 0) _ = _
  rw [Ideal.matmul_apply₁ (sl := S1x16384x4096) _ (a := (2 : Fin 3)) (K := 4096) rfl rfl, zero_add]
  simp only [pointwise]
  rfl

/-- The weight the reference decodes for row `k` and column `j`. -/
def rweight (k : Fin 4096) (j : Fin 14336) : EReal :=
  FloatOps.mulf (F := Ideal) (φ := .bf16) (entry (nib ((V0 (Proc.devRef .tc main_arg1) : IVec S4096x7168 8) (ix2 k ⟨j.val / 2, by omega⟩)) (j.val % 2)))
    (FloatOps.addf (F := Ideal) (φ := .f32) (FloatOps.mulf (F := Ideal) (φ := .f32)
        (FloatOps.sitofp (F := Ideal) .f32 ((V0 (Proc.devRef .tc main_arg2) : IVec S4096x224 8) (ix2 k ⟨j.val / 64, by omega⟩)))
        ((V0 (Proc.devRef .tc main_arg3) : Vec Ideal S3584 .f32) (ix1 ⟨(k.val * 224 + j.val / 64) / 256, by omega⟩)))
      ((V0 (Proc.devRef .tc main_arg4) : Vec Ideal S1 .f32) (ix1 0)))

theorem result_apply (s : Fin 16384) (j : Fin 14336) :
    (truncf (F := Ideal) (φ := .f32) .bf16 (shapeCast S1x16384x14336 (res_main_v116 V0) shapeCasts_S1x16384x7168x2_S1x16384x14336) bitsLt_bf16_f32) (ix3 0 s j)
      = ∑ k : Fin 4096, (acts V0 (ix3 0 s k) * rweight V0 k j : EReal) := by
  have hj := j.isLt
  rw [v116_eq]
  rw [truncf_apply]
  refine (shapeCast_apply _ _ (ix3 0 s j) (ix4 (0 : Fin 1) s (⟨j.val / 2, by omega⟩ : Fin 7168) (⟨j.val % 2, by omega⟩ : Fin 2)) ?_).trans ?_
  · rw [Shape.rowMajor_val_three, Shape.rowMajor_val_four]
    show ((0 * 16384 + s.val) * 7168 + j.val / 2) * 2 + j.val % 2 = (0 * 16384 + s.val) * 14336 + j.val
    omega
  have e32 : ∀ k : Fin 4096, ix2 k (⟨(⟨j.val / 2, by omega⟩ : Fin 7168).val / 32, by omega⟩ : Fin 224) = (ix2 k ⟨j.val / 64, by omega⟩ : S4096x224.Idx) := fun k =>
    congrArg (ix2 k) (Fin.ext (show j.val / 2 / 32 = j.val / 64 by omega))
  by_cases hp : j.val % 2 = 0
  · refine (concatenate_pair_apply_left (t := S1x16384x7168x2) (s₁ := S1x16384x7168x1) (s₂ := S1x16384x7168x1) 3 _ _ _ _ rfl
      (ix4 (0 : Fin 1) s (⟨j.val / 2, by omega⟩ : Fin 7168) (0 : Fin 1)) fun b => ?_).trans ?_
    · match b with
      | ⟨0, _⟩ => rfl
      | ⟨1, _⟩ => rfl
      | ⟨2, _⟩ => rfl
      | ⟨3, _⟩ => exact hp.symm
    rw [half_apply]
    refine Finset.sum_congr rfl fun k _ => ?_
    rw [scaled_apply, lookup_lo, e32, v10_apply V0 k _ ⟨(k.val * 224 + j.val / 64) / 256, by omega⟩ rfl]
    unfold rweight
    rw [hp]
  · have hp1 : j.val % 2 = 1 := by omega
    refine (concatenate_pair_apply_right (t := S1x16384x7168x2) (s₁ := S1x16384x7168x1) (s₂ := S1x16384x7168x1) 3 _ _ _ _ rfl rfl
      (ix4 (0 : Fin 1) s (⟨j.val / 2, by omega⟩ : Fin 7168) (0 : Fin 1)) (fun b hb => ?_) ?_).trans ?_
    · match b with
      | ⟨0, _⟩ => rfl
      | ⟨1, _⟩ => rfl
      | ⟨2, _⟩ => rfl
      | ⟨3, _⟩ => exact absurd rfl hb
    · show 0 + 1 = j.val % 2; omega
    rw [half_apply]
    refine Finset.sum_congr rfl fun k _ => ?_
    rw [scaled_apply, lookup_hi, e32, v10_apply V0 k _ ⟨(k.val * 224 + j.val / 64) / 256, by omega⟩ rfl]
    unfold rweight
    rw [hp1]

end Cert.RefValue

end
-- ==== Proof.Equal.lean ====
/- Kernel and reference compute the same array: their decoded weights agree, so their sums of products do. -/
module

public import proofs.«01_k».proof.Defs
public import proofs.«01_k».proof.Proof.KernelValue
public import proofs.«01_k».proof.Proof.RefValue

@[expose] public section

set_option maxRecDepth 16384

noncomputable section

namespace Cert.Equal

open Cert.Decode
open Idealize.ShloMosaic hiding ix0 ix1 ix2 ix3 ix4 ix5
open Idealize.ShloMosaic.TcCoe Idealize.ShloMosaic.ValueIdx
open Idealize.SL.Sem

/-- The kernel's choice between a row's two scales is the scale of the block's group: block `b` of row `R` lies in group `(224 R + b) / 256`. -/
theorem group_lo (R b : ℕ) (hb : b < 224) (h : ¬ firstBlk (R % 8) ≤ b) : 7 * (R / 8) + (R % 8 - 1) = (R * 224 + b) / 256 := by
  unfold firstBlk at h
  split at h <;> omega

theorem group_hi (R b : ℕ) (hb : b < 224) (h : firstBlk (R % 8) ≤ b) : 7 * (R / 8) + min (R % 8) 6 = (R * 224 + b) / 256 := by
  unfold firstBlk at h
  split at h <;> omega

variable (m : (ℓ : Loc Cert.KernelIdeal.nD Cert.KernelIdeal.τ Cert.KernelIdeal.sig) → Buf (Elt Ideal) ℓ) (c : Dev Cert.KernelIdeal.nD)

/-- The weight that the kernel decodes, off the arguments. -/
theorem weight_eq (k : Fin 4096) (j : Fin 14336) (hJ : (k.val * 224 + j.val / 64) / 256 < 3584) :
    weight (KernelIdeal.Value.PW m c) (KernelIdeal.Value.QA m c) (KernelIdeal.Value.Lo m c) (KernelIdeal.Value.Hi m c) (KernelIdeal.Value.off m c) k j
    = FloatOps.mulf (F := Ideal) (φ := .bf16)
      (entry (nib ((m ((c : Thread Cert.KernelIdeal.nD Cert.KernelIdeal.τ).loc Cert.KernelIdeal.main_arg1) : IVec KernelIdeal.S4096x7168 8) (ix2 k ⟨j.val / 2, by omega⟩)) (j.val % 2)))
      (FloatOps.addf (F := Ideal) (φ := .f32) (FloatOps.mulf (F := Ideal) (φ := .f32)
          (FloatOps.sitofp (F := Ideal) .f32 ((m ((c : Thread Cert.KernelIdeal.nD Cert.KernelIdeal.τ).loc Cert.KernelIdeal.main_arg2) : IVec KernelIdeal.S4096x224 8) (ix2 k ⟨j.val / 64, by omega⟩)))
          ((m ((c : Thread Cert.KernelIdeal.nD Cert.KernelIdeal.τ).loc Cert.KernelIdeal.main_arg3) : Vec Ideal KernelIdeal.S3584 .f32) (ix1 ⟨(k.val * 224 + j.val / 64) / 256, hJ⟩)))
        ((m ((c : Thread Cert.KernelIdeal.nD Cert.KernelIdeal.τ).loc Cert.KernelIdeal.main_arg4) : Vec Ideal KernelIdeal.S1 .f32) (ix1 0))) := by
  have hj := j.isLt
  have e1 : KernelIdeal.Value.PW m c = _ := KernelIdeal.Gen.V_main_arg1 m c
  have e2 : KernelIdeal.Value.QA m c = _ := KernelIdeal.Gen.V_main_arg2 m c
  have e4 : KernelIdeal.Value.off m c = _ := congrFun (KernelIdeal.Gen.V_main_arg4 m c) (ix1 0)
  unfold weight
  rw [e1, e2, e4]
  refine congrArg _ (congrArg (fun z => FloatOps.addf (F := Ideal) (φ := .f32) z _) (congrArg _ ?_))
  by_cases h : firstBlk (k.val % 8) ≤ j.val / 64
  · rw [decide_eq_true h]
    exact KernelIdeal.Value.hi_eq m c _ _ _ (group_hi k.val _ (by omega) h).symm
  · rw [decide_eq_false h]
    exact KernelIdeal.Value.lo_eq m c _ _ _ (group_lo k.val _ (by omega) h).symm

/-- The two results are one array, of equal arguments. -/
theorem result_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (truncf (F := Ideal) (φ := .f32) .bf16 (shapeCast ReferenceIdeal.S1x16384x14336 (Cert.ReferenceIdeal.Value.res_main_v116 (StableHlo.launchContents m' c))
        ReferenceIdeal.Gen.shapeCasts_S1x16384x7168x2_S1x16384x14336) ReferenceIdeal.Gen.bitsLt_bf16_f32 : Vec Ideal ReferenceIdeal.S1x16384x14336 .bf16)
      = shapeCast KernelIdeal.S1x16384x14336 (KernelIdeal.Value.outArr m c) KernelIdeal.Gen.shapeCasts_S16384x14336_S1x16384x14336 := by
  funext y
  obtain ⟨a, s, j, rfl⟩ : ∃ (a : Fin 1) (s : Fin 16384) (j : Fin 14336), y = ix3 a s j := ⟨y 0, y 1, y 2, ValueIdx.eq_ix3 y⟩
  obtain rfl : a = 0 := Subsingleton.elim _ _
  refine (RefValue.result_apply (StableHlo.launchContents m' c) s j).trans ?_
  refine Eq.trans ?_ (shapeCast_apply (KernelIdeal.Value.outArr m c) _ (ix3 0 s j) (ix2 s j) ?_).symm
  · unfold KernelIdeal.Value.outArr
    refine Finset.sum_congr rfl fun k _ => congrArg₂ (· * ·) ?_ ?_
    · refine Eq.trans ?_ (KernelIdeal.Value.x_eq m c s k).symm
      exact congrFun h0 (ix3 0 s k)
    · refine Eq.trans ?_ (weight_eq m c k j (by omega)).symm
      show RefValue.rweight _ k j = _
      rw [← h1, ← h2, ← h3, ← h4]
      rfl
  · rw [Shape.rowMajor_val_two, Shape.rowMajor_val_three]
    show s.val * 14336 + j.val = (0 * 16384 + s.val) * 14336 + j.val
    omega

/-- Kernel and reference, run from equal arguments, end with equal results and their arguments unchanged. -/
theorem algebraic : Cert.algebraic_KernelIdeal_ReferenceIdeal (hKernelIdeal := Cert.KernelIdeal.Gen.facts) (hReferenceIdeal := Cert.ReferenceIdeal.Gen.facts) :=
  fun m g m' g' _ hargs => ⟨fun c => shapeCast KernelIdeal.S1x16384x14336 (KernelIdeal.Value.outArr m c) KernelIdeal.Gen.shapeCasts_S16384x14336_S1x16384x14336,
    by
      have hrun := KernelIdeal.Value.v_run_main m g
      refine (θ_run Cert.KernelIdeal.defs _ _).mono (fun r h c => ?_) hrun
      have W0 := KernelIdeal.Gen.W_main_arg0 m (KernelIdeal.Value.vdats m) c
      have W3 := KernelIdeal.Gen.W_main_arg3 m (KernelIdeal.Value.vdats m) c
      exact ⟨((h c).2 KernelIdeal.main_v8 (Pipeline.mem_restRefs_of KernelIdeal.main_v8 (by decide) (by decide))).trans (KernelIdeal.Value.tail_v8 m c),
        ((h c).2 KernelIdeal.main_arg0 (Pipeline.mem_restRefs_of KernelIdeal.main_arg0 (by decide) (by decide))).trans W0,
        ((h c).1 3).trans (((KernelIdeal.Value.vdats m 0 c).arrAt_in 3 rfl _).trans ((KernelIdeal.Value.vA m c 3).trans (KernelIdeal.Gen.V_main_arg1 m c))),
        ((h c).1 5).trans (((KernelIdeal.Value.vdats m 0 c).arrAt_in 5 rfl _).trans ((KernelIdeal.Value.vA m c 5).trans (KernelIdeal.Gen.V_main_arg2 m c))),
        ((h c).2 KernelIdeal.main_arg3 (Pipeline.mem_restRefs_of KernelIdeal.main_arg3 (by decide) (by decide))).trans W3,
        ((h c).1 0).trans (((KernelIdeal.Value.vdats m 0 c).arrAt_in 0 rfl _).trans ((KernelIdeal.Value.vA m c 0).trans (KernelIdeal.Gen.V_main_arg4 m c)))⟩,
    (θ_run Cert.ReferenceIdeal.defs _ _).mono (fun r h c =>
        ⟨(h c).1.trans (result_eq m c m' (hargs c).1 (hargs c).2.1 (hargs c).2.2.1 (hargs c).2.2.2.1 (hargs c).2.2.2.2), (h c).2⟩)
      (Cert.ReferenceIdeal.Value.run (F := Ideal) m' g')⟩

end Cert.Equal

end
-- ==== Proof.lean ====
/- The proof of the certificate's claims: kernel, ideal kernel and reference run without fault and leave their arguments unchanged, the ideal
   program is the kernel over the extended reals, and kernel and reference compute the same array over the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KBody
public import proofs.«01_k».proof.Proof.IFrame
public import proofs.«01_k».proof.Proof.Match
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs, its arguments end unchanged, and it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The five claims: the three frames, the ideal program is the kernel over the extended reals, and kernel and reference agree. -/
theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ, frame_reference, trivial, Cert.Equal.algebraic⟩

end Cert.Proof

end
